-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5)
      ∧ r.2.mem ((c.tc : Thread Cert.EvenInRefIdeal.nD Cert.EvenInRefIdeal.τ).loc Cert.EvenInRefIdeal.main_arg6) = m ((c.tc : Thread Cert.EvenInRefIdeal.nD Cert.EvenInRefIdeal.τ).loc Cert.EvenInRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v14) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v20)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v20) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v56) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v14) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v2) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v3) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)
      ∧ m' ((c.tc : Thread Cert.EvenInRefIdeal.nD Cert.EvenInRefIdeal.τ).loc Cert.EvenInRefIdeal.main_arg6) = m ((c.tc : Thread Cert.EvenInIdeal.nD Cert.EvenInIdeal.τ).loc Cert.EvenInIdeal.main_arg6)) →
    ∃ (v0 : (c : Dev Cert.EvenInIdeal.nD) → Buf (Elt Ideal) ((c.tc : Thread Cert.EvenInIdeal.nD Cert.EvenInIdeal.τ).loc Cert.EvenInIdeal.main_v7_0)) (v1 : (c : Dev Cert.EvenInIdeal.nD) → Buf (Elt Ideal) ((c.tc : Thread Cert.EvenInIdeal.nD Cert.EvenInIdeal.τ).loc Cert.EvenInIdeal.main_v7_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v7_0) = v0 c
          ∧ r.2.mem ((c.tc : Thread Cert.EvenInIdeal.nD Cert.EvenInIdeal.τ).loc Cert.EvenInIdeal.main_v7_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v76) = v0 c
          ∧ r.2.mem ((c.tc : Thread Cert.EvenInRefIdeal.nD Cert.EvenInRefIdeal.τ).loc Cert.EvenInRefIdeal.main_v42) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5)
          ∧ r.2.mem ((c.tc : Thread Cert.EvenInRefIdeal.nD Cert.EvenInRefIdeal.τ).loc Cert.EvenInRefIdeal.main_arg6) = m' ((c.tc : Thread Cert.EvenInRefIdeal.nD Cert.EvenInRefIdeal.τ).loc Cert.EvenInRefIdeal.main_arg6))

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v43)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v43) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v122) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hEvenIn : Cert.EvenIn.Facts) (hEvenInIdeal : Cert.EvenInIdeal.Facts) (hEvenInRefIdeal : Cert.EvenInRefIdeal.Facts) (hAttn : Cert.Attn.Facts) (hAttnIdeal : Cert.AttnIdeal.Facts) (hAttnRefIdeal : Cert.AttnRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_Attn (hAttn := hAttn)
    ∧ quiescent_AttnIdeal (hAttnIdeal := hAttnIdeal)
    ∧ quiescent_AttnRefIdeal (hAttnRefIdeal := hAttnRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Experts_ExpertsIdeal
    ∧ algebraic_ExpertsIdeal_ExpertsRefIdeal (hExpertsIdeal := hExpertsIdeal) (hExpertsRefIdeal := hExpertsRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_EvenIn_EvenInIdeal
    ∧ algebraic_EvenInIdeal_EvenInRefIdeal (hEvenInIdeal := hEvenInIdeal) (hEvenInRefIdeal := hEvenInRefIdeal)
    ∧ preserves_Attn_AttnIdeal
    ∧ algebraic_AttnIdeal_AttnRefIdeal (hAttnIdeal := hAttnIdeal) (hAttnRefIdeal := hAttnRefIdeal)
-- ==== Kernel.lean ====
abbrev S49152x512 : Shape := ⟨2, ![49152, 512]⟩
abbrev S2x49152 : Shape := ⟨2, ![2, 49152]⟩
abbrev S_ : Shape := ⟨0, ![]⟩
abbrev S102400 : Shape := ⟨1, ![102400]⟩
abbrev S98304 : Shape := ⟨1, ![98304]⟩
abbrev S49152 : Shape := ⟨1, ![49152]⟩
abbrev S1x49152 : Shape := ⟨2, ![1, 49152]⟩
abbrev S98304x1 : Shape := ⟨2, ![98304, 1]⟩
abbrev S200x1x512 : Shape := ⟨3, ![200, 1, 512]⟩
abbrev S102400x512 : Shape := ⟨2, ![102400, 512]⟩
abbrev S1x1x512 : Shape := ⟨3, ![1, 1, 512]⟩
abbrev S1x1x1 : Shape := ⟨3, ![1, 1, 1]⟩
abbrev S1x512 : Shape := ⟨2, ![1, 512]⟩

abbrev nBuf : Space → Nat
  | .hbm => 20
  | .vmem => 0
  | .smem => 2
  | _ => 0

abbrev bufTy : (tb : Table) → Fin (tcTables nBuf tb) → BufTy
  | .hbm, ⟨0, _⟩ => ⟨S49152x512, .i32⟩
  | .hbm, ⟨1, _⟩ => ⟨S2x49152, .i32⟩
  | .hbm, ⟨2, _⟩ => ⟨S_, .i32⟩
  | .hbm, ⟨3, _⟩ => ⟨S102400, .i32⟩
  | .hbm, ⟨4, _⟩ => ⟨S98304, .i32⟩
  | .hbm, ⟨5, _⟩ => ⟨S49152, .i32⟩
  | .hbm, ⟨6, _⟩ => ⟨S1x49152, .i32⟩
  | .hbm, ⟨7, _⟩ => ⟨S2x49152, .i32⟩
  | .hbm, ⟨8, _⟩ => ⟨S98304, .i32⟩
  | .hbm, ⟨9, _⟩ => ⟨S_, .i32⟩
  | .hbm, ⟨10, _⟩ => ⟨S98304, .i32⟩
  | .hbm, ⟨11, _⟩ => ⟨S98304, .i1⟩
  | .hbm, ⟨12, _⟩ => ⟨S_, .i32⟩
  | .hbm, ⟨13, _⟩ => ⟨S98304, .i32⟩
  | .hbm, ⟨14, _⟩ => ⟨S98304, .i32⟩
  | .hbm, ⟨15, _⟩ => ⟨S98304, .i32⟩
  | .hbm, ⟨16, _⟩ => ⟨S98304x1, .i32⟩
  | .hbm, ⟨17, _⟩ => ⟨S102400, .i32⟩
  | .hbm, ⟨18, _⟩ => ⟨S200x1x512, .i32⟩
  | .hbm, ⟨19, _⟩ => ⟨S102400x512, .i32⟩
  | .local _ .smem, ⟨0, _⟩ => ⟨S1x1x512, .i32⟩
  | .local _ .smem, ⟨1, _⟩ => ⟨S1x1x512, .i32⟩
  | _, _ => ⟨S49152x512, .i32⟩

abbrev bufScoped : (cs : CoreSpace) → Fin (nBuf (.core cs)) → Bool
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![200], ![false]⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (k0_t1 : Fin k0_t1_loop.trips) : Fin 3 → Nat :=
  let c0 : Index := 0#32
  let c0_6 : Index := 0#32
  let c0_i32 : BitVec 32 := 0#32
  let c1_i32 : BitVec 32 := 1#32
  let arg5 : BitVec 32 := Scf.iv c0_i32 c1_i32 k0_t1
  let v3 : Index := Scalar.indexCast arg5
  ![0, 0, v3.toNat]
def k0_off2 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let v5 : BitVec 32 := Scalar.addi v0 arg5
  let c0_i32_7 : BitVec 32 := 0#32
  ![v5.toNat, 0]
def k0_off3 (v4 : BitVec 32) : Fin 2 → Nat :=
  let c0_i32_8 : BitVec 32 := 0#32
  ![v4.toNat, 0]

def k0_chk1 (v4 : BitVec 32) : Prop :=
  (∀ a, (k0_off3 v4) a + S1x512.size a ≤ S49152x512.size a)
theorem k0_off3_inb : ∀ (v4 : BitVec 32) (k0_hw1 : k0_chk1 v4), ∀ a, (k0_off3 v4) a + S1x512.size a ≤ S49152x512.size a := fun v4 k0_hw1 => k0_hw1

@[reducible] def k0_t2_loop : Scf.Loop 32 :=
  let c0_i32_2 : BitVec 32 := 0#32
  let c512_i32_3 : BitVec 32 := 512#32
  let v2 : BitVec 32 := Scalar.addi c0_i32_2 c512_i32_3
  let c1_i32_4 : BitVec 32 := 1#32
  ⟨c0_i32_2, v2, c1_i32_4⟩
def k0_off4 (i : grid0.Coords) (k0_t2 : Fin k0_t2_loop.trips) : Fin 2 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg5 : BitVec 32 := Scf.iv c0_i32_2 c1_i32_4 k0_t2
  let v3 : BitVec 32 := Scalar.addi v0 arg5
  let c0_i32_6 : BitVec 32 := 0#32
  ![v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S49152x512 : Shape := ⟨2, ![49152, 512]⟩
abbrev S2x49152 : Shape := ⟨2, ![2, 49152]⟩
abbrev S49152 : Shape := ⟨1, ![49152]⟩
abbrev S98304 : Shape := ⟨1, ![98304]⟩
abbrev S_ : Shape := ⟨0, ![]⟩
abbrev S102400 : Shape := ⟨1, ![102400]⟩
abbrev S98304x1 : Shape := ⟨2, ![98304, 1]⟩
abbrev S102400x1 : Shape := ⟨2, ![102400, 1]⟩
abbrev S102400x512 : Shape := ⟨2, ![102400, 512]⟩

abbrev nBuf : Space → Nat
  | .hbm => 26
  | .vmem => 0
  | .smem => 0
  | _ => 0

abbrev bufTy : (tb : Table) → Fin (tcTables nBuf tb) → BufTy
  | .hbm, ⟨0, _⟩ => ⟨S49152x512, .i32⟩
  | .hbm, ⟨1, _⟩ => ⟨S2x49152, .i32⟩
  | .hbm, ⟨2, _⟩ => ⟨S49152, .i32⟩
  | .hbm, ⟨3, _⟩ => ⟨S49152, .i32⟩
  | .hbm, ⟨4, _⟩ => ⟨S98304, .i32⟩
  | .hbm, ⟨5, _⟩ => ⟨S_, .i32⟩
  | .hbm, ⟨6, _⟩ => ⟨S102400, .i32⟩
  | .hbm, ⟨7, _⟩ => ⟨S98304, .i32⟩
  | .hbm, ⟨8, _⟩ => ⟨S_, .i32⟩
  | .hbm, ⟨9, _⟩ => ⟨S98304, .i32⟩
  | .hbm, ⟨10, _⟩ => ⟨S98304, .i1⟩
  | .hbm, ⟨11, _⟩ => ⟨S_, .i32⟩
  | .hbm, ⟨12, _⟩ => ⟨S98304, .i32⟩
  | .hbm, ⟨13, _⟩ => ⟨S98304, .i32⟩
  | .hbm, ⟨14, _⟩ => ⟨S98304, .i32⟩
  | .hbm, ⟨15, _⟩ => ⟨S98304x1, .i32⟩
  | .hbm, ⟨16, _⟩ => ⟨S102400, .i32⟩
  | .hbm, ⟨17, _⟩ => ⟨S_, .i32⟩
  | .hbm, ⟨18, _⟩ => ⟨S102400, .i32⟩
  | .hbm, ⟨19, _⟩ => ⟨S102400, .i1⟩
  | .hbm, ⟨20, _⟩ => ⟨S_, .i32⟩
  | .hbm, ⟨21, _⟩ => ⟨S102400, .i32⟩
  | .hbm, ⟨22, _⟩ => ⟨S102400, .i32⟩
  | .hbm, ⟨23, _⟩ => ⟨S102400, .i32⟩
  | .hbm, ⟨24, _⟩ => ⟨S102400x1, .i32⟩
  | .hbm, ⟨25, _⟩ => ⟨S102400x512, .i32⟩
  | _, _ => ⟨S49152x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Experts.lean ====
abbrev S102400x512 : Shape := ⟨2, ![102400, 512]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S1x8 : Shape := ⟨2, ![1, 8]⟩
abbrev S200 : Shape := ⟨1, ![200]⟩
abbrev S200x1 : Shape := ⟨2, ![200, 1]⟩
abbrev S200x8 : Shape := ⟨2, ![200, 8]⟩
abbrev S1 : Shape := ⟨1, ![1]⟩
abbrev S102400x1024 : Shape := ⟨2, ![102400, 1024]⟩
abbrev S512x512 : Shape := ⟨2, ![512, 512]⟩
abbrev S1x1024x1792 : Shape := ⟨3, ![1, 1024, 1792]⟩
abbrev S1x1792x1024 : Shape := ⟨3, ![1, 1792, 1024]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 47
  | .vmem => 12
  | .smem => 2
  | _ => 0

abbrev bufTy : (tb : Table) → Fin (tcTables nBuf tb) → BufTy
  | .hbm, ⟨0, _⟩ => ⟨S102400x512, .i32⟩
  | .hbm, ⟨1, _⟩ => ⟨S8, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S1x8, .i32⟩
  | .hbm, ⟨33, _⟩ => ⟨S200, .i32⟩
  | .hbm, ⟨34, _⟩ => ⟨S200x1, .i32⟩
  | .hbm, ⟨35, _⟩ => ⟨S200x8, .i32⟩
  | .hbm, ⟨36, _⟩ => ⟨S200x8, .i32⟩
  | .hbm, ⟨37, _⟩ => ⟨S200x8, .i1⟩
  | .hbm, ⟨38, _⟩ => ⟨S200x8, .i32⟩
  | .hbm, ⟨39, _⟩ => ⟨S_, .i32⟩
  | .hbm, ⟨40, _⟩ => ⟨S200, .i32⟩
  | .hbm, ⟨41, _⟩ => ⟨S_, .i32⟩
  | .hbm, ⟨42, _⟩ => ⟨S200, .i32⟩
  | .hbm, ⟨43, _⟩ => ⟨S8x1024x3584, .bf16⟩
  | .hbm, ⟨44, _⟩ => ⟨S8x1024x3584, .bf16⟩
  | .hbm, ⟨45, _⟩ => ⟨S8x3584x1024, .bf16⟩
  | .hbm, ⟨46, _⟩ => ⟨S102400x1024, .f32⟩
  | .local _ .vmem, ⟨0, _⟩ => ⟨S512x512, .i32⟩
  | .local _ .vmem, ⟨1, _⟩ => ⟨S512x512, .i32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S200, .i32⟩
  | .local _ .smem, ⟨1, _⟩ => ⟨S1, .i32⟩
  | _, _ => ⟨S102400x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v15 : Ref sig .tc := ⟨.smem, 0, rfl⟩
abbrev main_v16 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![200, 2], ![false, false]⟩

abbrev pre0 : Pipeline.Prefetch sig := ⟨2, ![main_v15.idx, main_v16.idx], fun | 0 => main_v15.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S102400x512 : Shape := ⟨2, ![102400, 512]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S200 : Shape := ⟨1, ![200]⟩
abbrev S1x8 : Shape := ⟨2, ![1, 8]⟩
abbrev S200x1 : Shape := ⟨2, ![200, 1]⟩
abbrev S200x8 : Shape := ⟨2, ![200, 8]⟩
abbrev S102400x1024 : Shape := ⟨2, ![102400, 1024]⟩
abbrev S200x512x1024 : Shape := ⟨3, ![200, 512, 1024]⟩
abbrev S200x1024x3584 : Shape := ⟨3, ![200, 1024, 3584]⟩
abbrev S200x512x3584 : Shape := ⟨3, ![200, 512, 3584]⟩
abbrev S200x3584x1024 : Shape := ⟨3, ![200, 3584, 1024]⟩
abbrev S1 : Shape := ⟨1, ![1]⟩
abbrev S200x1x1 : Shape := ⟨3, ![200, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S102400x512, .i32⟩
  | .hbm, ⟨1, _⟩ => ⟨S8, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S200, .i32⟩
  | .hbm, ⟨33, _⟩ => ⟨S1x8, .i32⟩
  | .hbm, ⟨34, _⟩ => ⟨S200x1, .i32⟩
  | .hbm, ⟨35, _⟩ => ⟨S200x8, .i32⟩
  | .hbm, ⟨36, _⟩ => ⟨S200x8, .i32⟩
  | .hbm, ⟨37, _⟩ => ⟨S200x8, .i1⟩
  | .hbm, ⟨38, _⟩ => ⟨S200x8, .i32⟩
  | .hbm, ⟨39, _⟩ => ⟨S_, .i32⟩
  | .hbm, ⟨40, _⟩ => ⟨S200, .i32⟩
  | .hbm, ⟨41, _⟩ => ⟨S_, .i32⟩
  | .hbm, ⟨42, _⟩ => ⟨S200, .i32⟩
  | .hbm, ⟨43, _⟩ => ⟨S200, .i32⟩
  | .hbm, ⟨44, _⟩ => ⟨S_, .i32⟩
  | .hbm, ⟨45, _⟩ => ⟨S102400x512, .i32⟩
  | .hbm, ⟨46, _⟩ => ⟨S102400x512, .i32⟩
  | .hbm, ⟨47, _⟩ => ⟨S102400x512, .f32⟩
  | .hbm, ⟨48, _⟩ => ⟨S_, .i32⟩
  | .hbm, ⟨49, _⟩ => ⟨S102400x512, .i32⟩
  | .hbm, ⟨50, _⟩ => ⟨S102400x512, .i32⟩
  | .hbm, ⟨51, _⟩ => ⟨S102400x512, .f32⟩
  | .hbm, ⟨52, _⟩ => ⟨S102400x1024, .f32⟩
  | .hbm, ⟨53, _⟩ => ⟨S200x512x1024, .f32⟩
  | .hbm, ⟨54, _⟩ => ⟨S_, .i32⟩
  | .hbm, ⟨55, _⟩ => ⟨S200, .i32⟩
  | .hbm, ⟨56, _⟩ => ⟨S200, .i1⟩
  | .hbm, ⟨57, _⟩ => ⟨S_, .i32⟩
  | .hbm, ⟨58, _⟩ => ⟨S200, .i32⟩
  | .hbm, ⟨59, _⟩ => ⟨S200, .i32⟩
  | .hbm, ⟨60, _⟩ => ⟨S200, .i32⟩
  | .hbm, ⟨61, _⟩ => ⟨S200x1, .i32⟩
  | .hbm, ⟨62, _⟩ => ⟨S200x1024x3584, .f32⟩
  | .hbm, ⟨63, _⟩ => ⟨S200x512x3584, .f32⟩
  | .hbm, ⟨64, _⟩ => ⟨S_, .i32⟩
  | .hbm, ⟨65, _⟩ => ⟨S200, .i32⟩
  | .hbm, ⟨66, _⟩ => ⟨S200, .i1⟩
  | .hbm, ⟨67, _⟩ => ⟨S_, .i32⟩
  | .hbm, ⟨68, _⟩ => ⟨S200, .i32⟩
  | .hbm, ⟨69, _⟩ => ⟨S200, .i32⟩
  | .hbm, ⟨70, _⟩ => ⟨S200, .i32⟩
  | .hbm, ⟨71, _⟩ => ⟨S200x1, .i32⟩
  | .hbm, ⟨72, _⟩ => ⟨S200x1024x3584, .f32⟩
  | .hbm, ⟨73, _⟩ => ⟨S200x512x3584, .f32⟩
  | .hbm, ⟨74, _⟩ => ⟨S200x512x3584, .f32⟩
  | .hbm, ⟨75, _⟩ => ⟨S200x512x3584, .f32⟩
  | .hbm, ⟨76, _⟩ => ⟨S_, .f32⟩
  | .hbm, ⟨77, _⟩ => ⟨S200x512x3584, .f32⟩
  | .hbm, ⟨78, _⟩ => ⟨S200x512x3584, .f32⟩
  | .hbm, ⟨79, _⟩ => ⟨S_, .f32⟩
  | .hbm, ⟨80, _⟩ => ⟨S200x512x3584, .f32⟩
  | .hbm, ⟨81, _⟩ => ⟨S200x512x3584, .f32⟩
  | .hbm, ⟨82, _⟩ => ⟨S200x512x3584, .f32⟩
  | .hbm, ⟨83, _⟩ => ⟨S200x512x3584, .f32⟩
  | .hbm, ⟨84, _⟩ => ⟨S_, .i32⟩
  | .hbm, ⟨85, _⟩ => ⟨S200, .i32⟩
  | .hbm, ⟨86, _⟩ => ⟨S200, .i1⟩
  | .hbm, ⟨87, _⟩ => ⟨S_, .i32⟩
  | .hbm, ⟨88, _⟩ => ⟨S200, .i32⟩
  | .hbm, ⟨89, _⟩ => ⟨S200, .i32⟩
  | .hbm, ⟨90, _⟩ => ⟨S200, .i32⟩
  | .hbm, ⟨91, _⟩ => ⟨S200x1, .i32⟩
  | .hbm, ⟨92, _⟩ => ⟨S200x3584x1024, .f32⟩
  | .hbm, ⟨93, _⟩ => ⟨S200x512x1024, .f32⟩
  | .hbm, ⟨94, _⟩ => ⟨S1, .i32⟩
  | .hbm, ⟨95, _⟩ => ⟨S_, .i32⟩
  | .hbm, ⟨96, _⟩ => ⟨S200, .i32⟩
  | .hbm, ⟨97, _⟩ => ⟨S200, .i1⟩
  | .hbm, ⟨98, _⟩ => ⟨S200x1x1, .i1⟩
  | .hbm, ⟨99, _⟩ => ⟨S_, .f32⟩
  | .hbm, ⟨100, _⟩ => ⟨S_, .f32⟩
  | .hbm, ⟨101, _⟩ => ⟨S200x512x1024, .i1⟩
  | .hbm, ⟨102, _⟩ => ⟨S200x512x1024, .f32⟩
  | .hbm, ⟨103, _⟩ => ⟨S200x512x1024, .f32⟩
  | .hbm, ⟨104, _⟩ => ⟨S102400x1024, .f32⟩
  | _, _ => ⟨S102400x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_8 : Ref sig .tc := ⟨.hbm, 64, rfl⟩
abbrev main_v32 : Ref sig .tc := ⟨.hbm, 65, rfl⟩
abbrev main_v33 : Ref sig .tc := ⟨.hbm, 66, rfl⟩
abbrev main_c_9 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_c_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v55 : Ref sig .tc := ⟨.hbm, 103, rfl⟩
abbrev main_v56 : Ref sig .tc := ⟨.hbm, 104, rfl⟩

abbrev nD : Nat := 1
abbrev τ : Topo := Topo.v7x

variable {F : FTy → Type} [FloatOps F]
-- ==== Ffn.lean ====
abbrev S49152x1024 : Shape := ⟨2, ![49152, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![96, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S49152x1024 : Shape := ⟨2, ![49152, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x2816 : Shape := ⟨2, ![49152, 2816]⟩

abbrev nBuf : Space → Nat
  | .hbm => 35
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S49152x1024, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x1024, .f32⟩
  | .hbm, ⟨17, _⟩ => ⟨S49152x1024, .f32⟩
  | .hbm, ⟨18, _⟩ => ⟨S1x1024, .f32⟩
  | .hbm, ⟨19, _⟩ => ⟨S49152x1024, .f32⟩
  | .hbm, ⟨20, _⟩ => ⟨S49152x1024, .f32⟩
  | .hbm, ⟨21, _⟩ => ⟨S49152x2816, .f32⟩
  | .hbm, ⟨22, _⟩ => ⟨S49152x2816, .f32⟩
  | .hbm, ⟨23, _⟩ => ⟨S49152x2816, .f32⟩
  | .hbm, ⟨24, _⟩ => ⟨S_, .f32⟩
  | .hbm, ⟨25, _⟩ => ⟨S49152x2816, .f32⟩
  | .hbm, ⟨26, _⟩ => ⟨S49152x2816, .f32⟩
  | .hbm, ⟨27, _⟩ => ⟨S_, .f32⟩
  | .hbm, ⟨28, _⟩ => ⟨S49152x2816, .f32⟩
  | .hbm, ⟨29, _⟩ => ⟨S49152x2816, .f32⟩
  | .hbm, ⟨30, _⟩ => ⟨S49152x2816, .f32⟩
  | .hbm, ⟨31, _⟩ => ⟨S49152x2816, .f32⟩
  | .hbm, ⟨32, _⟩ => ⟨S49152x2816, .f32⟩
  | .hbm, ⟨33, _⟩ => ⟨S49152x1024, .f32⟩
  | .hbm, ⟨34, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Qkv.lean ====
abbrev S49152x1024 : Shape := ⟨2, ![49152, 1024]⟩
abbrev S1024 : Shape := ⟨1, ![1024]⟩
abbrev S1024x1536 : Shape := ⟨2, ![1024, 1536]⟩
abbrev S1x1024 : Shape := ⟨2, ![1, 1024]⟩
abbrev S49152x1536 : Shape := ⟨2, ![49152, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S49152x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvRefIdeal.lean ====
abbrev S49152x1024 : Shape := ⟨2, ![49152, 1024]⟩
abbrev S1024 : Shape := ⟨1, ![1024]⟩
abbrev S1024x1536 : Shape := ⟨2, ![1024, 1536]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x1536 : Shape := ⟨2, ![49152, 1536]⟩

abbrev nBuf : Space → Nat
  | .hbm => 21
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x1536, .f32⟩
  | .hbm, ⟨3, _⟩ => ⟨S49152x1024, .f32⟩
  | .hbm, ⟨4, _⟩ => ⟨S_, .f32⟩
  | .hbm, ⟨5, _⟩ => ⟨S49152, .f32⟩
  | .hbm, ⟨6, _⟩ => ⟨S49152x1, .f32⟩
  | .hbm, ⟨7, _⟩ => ⟨S_, .f32⟩
  | .hbm, ⟨8, _⟩ => ⟨S49152x1, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S1x1024, .f32⟩
  | .hbm, ⟨17, _⟩ => ⟨S49152x1024, .f32⟩
  | .hbm, ⟨18, _⟩ => ⟨S49152x1024, .f32⟩
  | .hbm, ⟨19, _⟩ => ⟨S49152x1536, .f32⟩
  | .hbm, ⟨20, _⟩ => ⟨S49152x1536, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OddOut.lean ====
abbrev S49152x1024 : Shape := ⟨2, ![49152, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S1024x1024, .f32⟩
  | .hbm, ⟨3, _⟩ => ⟨S1024x1024, .bf16⟩
  | .hbm, ⟨4, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S49152x1024 : Shape := ⟨2, ![49152, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S1024x1024, .f32⟩
  | .hbm, ⟨3, _⟩ => ⟨S49152x1024, .f32⟩
  | .hbm, ⟨4, _⟩ => ⟨S49152x1024, .f32⟩
  | .hbm, ⟨5, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvenOut.lean ====
abbrev S49152x1024 : Shape := ⟨2, ![49152, 1024]⟩
abbrev S49152x512 : Shape := ⟨2, ![49152, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .f32⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutRefIdeal.lean ====
abbrev S49152x1024 : Shape := ⟨2, ![49152, 1024]⟩
abbrev S49152x512 : Shape := ⟨2, ![49152, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .f32⟩
  | .hbm, ⟨3, _⟩ => ⟨S1024x1024, .f32⟩
  | .hbm, ⟨4, _⟩ => ⟨S49152x512, .f32⟩
  | .hbm, ⟨5, _⟩ => ⟨S49152x1024, .f32⟩
  | .hbm, ⟨6, _⟩ => ⟨S49152x1024, .f32⟩
  | .hbm, ⟨7, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== EvenIn.lean ====
abbrev S49152x1024 : Shape := ⟨2, ![49152, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S4x128x1 : Shape := ⟨3, ![4, 128, 1]⟩
abbrev S1x1024 : Shape := ⟨2, ![1, 1024]⟩
abbrev S1x512 : Shape := ⟨2, ![1, 512]⟩
abbrev S49152x512 : Shape := ⟨2, ![49152, 512]⟩
abbrev S49152x1536 : Shape := ⟨2, ![49152, 1536]⟩
abbrev S512x1024 : Shape := ⟨2, ![512, 1024]⟩
abbrev S512x512 : Shape := ⟨2, ![512, 512]⟩
abbrev S512x1536 : Shape := ⟨2, ![512, 1536]⟩
abbrev S512x1 : Shape := ⟨2, ![512, 1]⟩
abbrev S1024x512 : Shape := ⟨2, ![1024, 512]⟩
abbrev S1024x1536 : Shape := ⟨2, ![1024, 1536]⟩
abbrev S512x128 : Shape := ⟨2, ![512, 128]⟩
abbrev S1x128 : Shape := ⟨2, ![1, 128]⟩
abbrev S1x128x128 : Shape := ⟨3, ![1, 128, 128]⟩
abbrev S128x128 : Shape := ⟨2, ![128, 128]⟩

abbrev nBuf : Space → Nat
  | .hbm => 16
  | .vmem => 12
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4x128x1, .f32⟩
  | .hbm, ⟨8, _⟩ => ⟨S4x128x128, .f32⟩
  | .hbm, ⟨9, _⟩ => ⟨S1x1024, .f32⟩
  | .hbm, ⟨10, _⟩ => ⟨S1024x2560, .bf16⟩
  | .hbm, ⟨11, _⟩ => ⟨S1x512, .f32⟩
  | .hbm, ⟨12, _⟩ => ⟨S1x512, .f32⟩
  | .hbm, ⟨13, _⟩ => ⟨S4x128x128, .bf16⟩
  | .hbm, ⟨14, _⟩ => ⟨S49152x512, .bf16⟩
  | .hbm, ⟨15, _⟩ => ⟨S49152x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S4x128x128, .bf16⟩
  | .local _ .vmem, ⟨7, _⟩ => ⟨S4x128x128, .f32⟩
  | .local _ .vmem, ⟨8, _⟩ => ⟨S512x512, .bf16⟩
  | .local _ .vmem, ⟨9, _⟩ => ⟨S512x512, .bf16⟩
  | .local _ .vmem, ⟨10, _⟩ => ⟨S512x1536, .f32⟩
  | .local _ .vmem, ⟨11, _⟩ => ⟨S512x1536, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenInRefIdeal.lean ====
abbrev S49152x1024 : Shape := ⟨2, ![49152, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x2560 : Shape := ⟨2, ![49152, 2560]⟩
abbrev S49152x512 : Shape := ⟨2, ![49152, 512]⟩
abbrev S49152x1536 : Shape := ⟨2, ![49152, 1536]⟩
abbrev S384x128x4x128 : Shape := ⟨4, ![384, 128, 4, 128]⟩
abbrev S384x128x4 : Shape := ⟨3, ![384, 128, 4]⟩
abbrev S384x128x4x1 : Shape := ⟨4, ![384, 128, 4, 1]⟩
abbrev S1x1x4x128 : Shape := ⟨4, ![1, 1, 4, 128]⟩
abbrev S4x384x128x128 : Shape := ⟨4, ![4, 384, 128, 128]⟩
abbrev S128x4 : Shape := ⟨2, ![128, 4]⟩
abbrev S1x128x4x1 : Shape := ⟨4, ![1, 128, 4, 1]⟩

abbrev nBuf : Space → Nat
  | .hbm => 100
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S49152x2560, .f32⟩
  | .hbm, ⟨24, _⟩ => ⟨S49152x512, .f32⟩
  | .hbm, ⟨25, _⟩ => ⟨S49152x512, .f32⟩
  | .hbm, ⟨26, _⟩ => ⟨S49152x512, .f32⟩
  | .hbm, ⟨27, _⟩ => ⟨S_, .f32⟩
  | .hbm, ⟨28, _⟩ => ⟨S49152x512, .f32⟩
  | .hbm, ⟨29, _⟩ => ⟨S49152x512, .f32⟩
  | .hbm, ⟨30, _⟩ => ⟨S49152x512, .f32⟩
  | .hbm, ⟨31, _⟩ => ⟨S_, .f32⟩
  | .hbm, ⟨32, _⟩ => ⟨S49152x512, .f32⟩
  | .hbm, ⟨33, _⟩ => ⟨S49152x512, .f32⟩
  | .hbm, ⟨34, _⟩ => ⟨S49152x512, .f32⟩
  | .hbm, ⟨35, _⟩ => ⟨S_, .f32⟩
  | .hbm, ⟨36, _⟩ => ⟨S49152x512, .f32⟩
  | .hbm, ⟨37, _⟩ => ⟨S49152x512, .f32⟩
  | .hbm, ⟨38, _⟩ => ⟨S_, .f32⟩
  | .hbm, ⟨39, _⟩ => ⟨S49152x512, .f32⟩
  | .hbm, ⟨40, _⟩ => ⟨S49152x512, .f32⟩
  | .hbm, ⟨41, _⟩ => ⟨S49152x512, .f32⟩
  | .hbm, ⟨42, _⟩ => ⟨S49152x512, .f32⟩
  | .hbm, ⟨43, _⟩ => ⟨S49152x512, .f32⟩
  | .hbm, ⟨44, _⟩ => ⟨S49152x512, .f32⟩
  | .hbm, ⟨45, _⟩ => ⟨S_, .f32⟩
  | .hbm, ⟨46, _⟩ => ⟨S49152x512, .f32⟩
  | .hbm, ⟨47, _⟩ => ⟨S49152x512, .f32⟩
  | .hbm, ⟨48, _⟩ => ⟨S49152x512, .f32⟩
  | .hbm, ⟨49, _⟩ => ⟨S_, .f32⟩
  | .hbm, ⟨50, _⟩ => ⟨S49152x512, .f32⟩
  | .hbm, ⟨51, _⟩ => ⟨S49152x512, .f32⟩
  | .hbm, ⟨52, _⟩ => ⟨S49152x512, .f32⟩
  | .hbm, ⟨53, _⟩ => ⟨S_, .f32⟩
  | .hbm, ⟨54, _⟩ => ⟨S49152x512, .f32⟩
  | .hbm, ⟨55, _⟩ => ⟨S49152x512, .f32⟩
  | .hbm, ⟨56, _⟩ => ⟨S_, .f32⟩
  | .hbm, ⟨57, _⟩ => ⟨S49152x512, .f32⟩
  | .hbm, ⟨58, _⟩ => ⟨S49152x512, .f32⟩
  | .hbm, ⟨59, _⟩ => ⟨S49152x512, .f32⟩
  | .hbm, ⟨60, _⟩ => ⟨S49152x1536, .f32⟩
  | .hbm, ⟨61, _⟩ => ⟨S384x128x4x128, .f32⟩
  | .hbm, ⟨62, _⟩ => ⟨S_, .f32⟩
  | .hbm, ⟨63, _⟩ => ⟨S384x128x4, .f32⟩
  | .hbm, ⟨64, _⟩ => ⟨S384x128x4x1, .f32⟩
  | .hbm, ⟨65, _⟩ => ⟨S_, .f32⟩
  | .hbm, ⟨66, _⟩ => ⟨S384x128x4x1, .f32⟩
  | .hbm, ⟨67, _⟩ => ⟨S384x128x4x1, .f32⟩
  | .hbm, ⟨68, _⟩ => ⟨S384x128x4x128, .f32⟩
  | .hbm, ⟨69, _⟩ => ⟨S384x128x4x128, .f32⟩
  | .hbm, ⟨70, _⟩ => ⟨S384x128x4x128, .f32⟩
  | .hbm, ⟨71, _⟩ => ⟨S_, .f32⟩
  | .hbm, ⟨72, _⟩ => ⟨S384x128x4, .f32⟩
  | .hbm, ⟨73, _⟩ => ⟨S384x128x4x1, .f32⟩
  | .hbm, ⟨74, _⟩ => ⟨S_, .f32⟩
  | .hbm, ⟨75, _⟩ => ⟨S384x128x4x1, .f32⟩
  | .hbm, ⟨76, _⟩ => ⟨S384x128x4x1, .f32⟩
  | .hbm, ⟨77, _⟩ => ⟨S_, .f32⟩
  | .hbm, ⟨78, _⟩ => ⟨S384x128x4x1, .f32⟩
  | .hbm, ⟨79, _⟩ => ⟨S384x128x4x1, .f32⟩
  | .hbm, ⟨80, _⟩ => ⟨S384x128x4x1, .f32⟩
  | .hbm, ⟨81, _⟩ => ⟨S384x128x4x128, .f32⟩
  | .hbm, ⟨82, _⟩ => ⟨S384x128x4x128, .f32⟩
  | .hbm, ⟨83, _⟩ => ⟨S4x128, .f32⟩
  | .hbm, ⟨84, _⟩ => ⟨S1x1x4x128, .f32⟩
  | .hbm, ⟨85, _⟩ => ⟨S384x128x4x128, .f32⟩
  | .hbm, ⟨86, _⟩ => ⟨S384x128x4x128, .f32⟩
  | .hbm, ⟨87, _⟩ => ⟨S4x128, .f32⟩
  | .hbm, ⟨88, _⟩ => ⟨S1x1x4x128, .f32⟩
  | .hbm, ⟨89, _⟩ => ⟨S384x128x4x128, .f32⟩
  | .hbm, ⟨90, _⟩ => ⟨S384x128x4x128, .f32⟩
  | .hbm, ⟨91, _⟩ => ⟨S4x384x128x128, .f32⟩
  | .hbm, ⟨92, _⟩ => ⟨S384x128x4x128, .f32⟩
  | .hbm, ⟨93, _⟩ => ⟨S128x4, .f32⟩
  | .hbm, ⟨94, _⟩ => ⟨S1x128x4x1, .f32⟩
  | .hbm, ⟨95, _⟩ => ⟨S384x128x4x128, .f32⟩
  | .hbm, ⟨96, _⟩ => ⟨S384x128x4x128, .f32⟩
  | .hbm, ⟨97, _⟩ => ⟨S49152x512, .f32⟩
  | .hbm, ⟨98, _⟩ => ⟨S49152x512, .f32⟩
  | .hbm, ⟨99, _⟩ => ⟨S49152x512, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Attn.lean ====
abbrev S6x8192x1536 : Shape := ⟨3, ![6, 8192, 1536]⟩
abbrev S16 : Shape := ⟨1, ![16]⟩
abbrev S32x16 : Shape := ⟨2, ![32, 16]⟩
abbrev S64 : Shape := ⟨1, ![64]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S1x64 : Shape := ⟨2, ![1, 64]⟩
abbrev S6x8192x1024 : Shape := ⟨3, ![6, 8192, 1024]⟩
abbrev S1x128x1024 : Shape := ⟨3, ![1, 128, 1024]⟩
abbrev S1x128x256 : Shape := ⟨3, ![1, 128, 256]⟩
abbrev S128x256 : Shape := ⟨2, ![128, 256]⟩
abbrev S384x256 : Shape := ⟨2, ![384, 256]⟩
abbrev S128x1024 : Shape := ⟨2, ![128, 1024]⟩
abbrev S384x64 : Shape := ⟨2, ![384, 64]⟩
abbrev S384x1 : Shape := ⟨2, ![384, 1]⟩
abbrev S128x64 : Shape := ⟨2, ![128, 64]⟩
abbrev S1x128x384 : Shape := ⟨3, ![1, 128, 384]⟩
abbrev S1 : Shape := ⟨1, ![1]⟩
abbrev S1x128x64 : Shape := ⟨3, ![1, 128, 64]⟩

abbrev nBuf : Space → Nat
  | .hbm => 64
  | .vmem => 19
  | .smem => 1
  | _ => 0

abbrev bufTy : (tb : Table) → Fin (tcTables nBuf tb) → BufTy
  | .hbm, ⟨0, _⟩ => ⟨S6x8192x1536, .bf16⟩
  | .hbm, ⟨1, _⟩ => ⟨S16, .f32⟩
  | .hbm, ⟨2, _⟩ => ⟨S32x16, .f32⟩
  | .hbm, ⟨3, _⟩ => ⟨S64, .f32⟩
  | .hbm, ⟨4, _⟩ => ⟨S64, .f32⟩
  | .hbm, ⟨5, _⟩ => ⟨S384, .i32⟩
  | .hbm, ⟨6, _⟩ => ⟨S1x384, .i32⟩
  | .hbm, ⟨7, _⟩ => ⟨S_, .i32⟩
  | .hbm, ⟨8, _⟩ => ⟨S1x384, .i32⟩
  | .hbm, ⟨9, _⟩ => ⟨S1x384, .i32⟩
  | .hbm, ⟨10, _⟩ => ⟨S128, .i32⟩
  | .hbm, ⟨11, _⟩ => ⟨S128x1, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S_, .i32⟩
  | .hbm, ⟨16, _⟩ => ⟨S128x384, .i32⟩
  | .hbm, ⟨17, _⟩ => ⟨S128x384, .i1⟩
  | .hbm, ⟨18, _⟩ => ⟨S_, .i32⟩
  | .hbm, ⟨19, _⟩ => ⟨S_, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S_, .i32⟩
  | .hbm, ⟨25, _⟩ => ⟨S128x384, .i32⟩
  | .hbm, ⟨26, _⟩ => ⟨S128x384, .i32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i32⟩
  | .hbm, ⟨45, _⟩ => ⟨S_, .i32⟩
  | .hbm, ⟨46, _⟩ => ⟨S128x384, .i32⟩
  | .hbm, ⟨47, _⟩ => ⟨S128x384, .i1⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S_, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S128x384x1, .i32⟩
  | .hbm, ⟨59, _⟩ => ⟨S128x384x16, .f32⟩
  | .hbm, ⟨60, _⟩ => ⟨S16x128x384, .f32⟩
  | .hbm, ⟨61, _⟩ => ⟨S1x64, .f32⟩
  | .hbm, ⟨62, _⟩ => ⟨S1x64, .f32⟩
  | .hbm, ⟨63, _⟩ => ⟨S6x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S16x128x384, .f32⟩
  | .local _ .vmem, ⟨15, _⟩ => ⟨S1x64, .f32⟩
  | .local _ .vmem, ⟨16, _⟩ => ⟨S1x64, .f32⟩
  | .local _ .vmem, ⟨17, _⟩ => ⟨S1x128x1024, .bf16⟩
  | .local _ .vmem, ⟨18, _⟩ => ⟨S1x128x1024, .bf16⟩
  | .local _ .smem, ⟨0, _⟩ => ⟨S16, .f32⟩
  | _, _ => ⟨S6x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![6, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c4_i32 : BitVec 32 := 4#32
  let c0_i32 : BitVec 32 := 0#32
  ![arg0.toNat, v1.toNat, c4_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c5_i32 : BitVec 32 := 5#32
  let c0_i32 : BitVec 32 := 0#32
  ![arg0.toNat, v1.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S6x8192x1536 : Shape := ⟨3, ![6, 8192, 1536]⟩
abbrev S16 : Shape := ⟨1, ![16]⟩
abbrev S32x16 : Shape := ⟨2, ![32, 16]⟩
abbrev S64 : Shape := ⟨1, ![64]⟩
abbrev S6x8192x24x64 : Shape := ⟨4, ![6, 8192, 24, 64]⟩
abbrev S_ : Shape := ⟨0, ![]⟩
abbrev S6x8192x24 : Shape := ⟨3, ![6, 8192, 24]⟩
abbrev S6x8192x24x1 : Shape := ⟨4, ![6, 8192, 24, 1]⟩
abbrev S6x8192x16x64 : Shape := ⟨4, ![6, 8192, 16, 64]⟩
abbrev S1x1x1x64 : Shape := ⟨4, ![1, 1, 1, 64]⟩
abbrev S6x64x128x4x4x64 : Shape := ⟨6, ![6, 64, 128, 4, 4, 64]⟩
abbrev S6x8192x4x64 : Shape := ⟨4, ![6, 8192, 4, 64]⟩
abbrev S6x8192x8x64 : Shape := ⟨4, ![6, 8192, 8, 64]⟩
abbrev S6x8448x8x64 : Shape := ⟨4, ![6, 8448, 8, 64]⟩
abbrev S6x66x128x8x64 : Shape := ⟨5, ![6, 66, 128, 8, 64]⟩
abbrev S6x64x128x8x64 : Shape := ⟨5, ![6, 64, 128, 8, 64]⟩
abbrev S6x64x384x8x64 : Shape := ⟨5, ![6, 64, 384, 8, 64]⟩
abbrev S6x64x384x4x64 : Shape := ⟨5, ![6, 64, 384, 4, 64]⟩
abbrev S6x64x4x384x128x4 : Shape := ⟨6, ![6, 64, 4, 384, 128, 4]⟩
abbrev S6x64x4x4x128x384 : Shape := ⟨6, ![6, 64, 4, 4, 128, 384]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S4x4x128x384 : Shape := ⟨4, ![4, 4, 128, 384]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x4x4x128x384 : Shape := ⟨6, ![1, 1, 4, 4, 128, 384]⟩
abbrev S4x4 : Shape := ⟨2, ![4, 4]⟩
abbrev S1x1x4x4x1x1 : Shape := ⟨6, ![1, 1, 4, 4, 1, 1]⟩
abbrev S6x64x4x4x128 : Shape := ⟨5, ![6, 64, 4, 4, 128]⟩
abbrev S6x64x4x4x128x1 : Shape := ⟨6, ![6, 64, 4, 4, 128, 1]⟩
abbrev S6x64x4x4x128x64 : Shape := ⟨6, ![6, 64, 4, 4, 128, 64]⟩
abbrev S6x8192x1024 : Shape := ⟨3, ![6, 8192, 1024]⟩

abbrev nBuf : Space → Nat
  | .hbm => 160
  | .vmem => 0
  | .smem => 0
  | _ => 0

abbrev hbmTy0_0 (i : Nat) : BufTy := match i % 128 with
  | 0 => ⟨S6x8192x1536, .bf16⟩
  | 1 => ⟨S16, .f32⟩
  | 2 => ⟨S32x16, .f32⟩
  | 3 => ⟨S64, .f32⟩
  | 4 => ⟨S64, .f32⟩
  | 5 => ⟨S6x8192x1536, .f32⟩
  | 6 => ⟨S6x8192x24x64, .f32⟩
  | 7 => ⟨S6x8192x24x64, .f32⟩
  | 8 => ⟨S_, .f32⟩
  | 9 => ⟨S6x8192x24, .f32⟩
  | 10 => ⟨S6x8192x24x1, .f32⟩
  | 11 => ⟨S_, .f32⟩
  | 12 => ⟨S6x8192x24x1, .f32⟩
  | 13 => ⟨S6x8192x24x1, .f32⟩
  | 14 => ⟨S_, .f32⟩
  | 15 => ⟨S6x8192x24x1, .f32⟩
  | 16 => ⟨S6x8192x24x1, .f32⟩
  | 17 => ⟨S6x8192x24x1, .f32⟩
  | 18 => ⟨S6x8192x24x64, .f32⟩
  | 19 => ⟨S6x8192x24x64, .f32⟩
  | 20 => ⟨S6x8192x16x64, .f32⟩
  | 21 => ⟨S1x1x1x64, .f32⟩
  | 22 => ⟨S6x8192x16x64, .f32⟩
  | 23 => ⟨S6x8192x16x64, .f32⟩
  | 24 => ⟨S6x64x128x4x4x64, .f32⟩
  | 25 => ⟨S6x8192x4x64, .f32⟩
  | 26 => ⟨S1x1x1x64, .f32⟩
  | 27 => ⟨S6x8192x4x64, .f32⟩
  | 28 => ⟨S6x8192x4x64, .f32⟩
  | 29 => ⟨S6x8192x4x64, .f32⟩
  | 30 => ⟨S6x8192x8x64, .f32⟩
  | 31 => ⟨S_, .i32⟩
  | 32 => ⟨S_, .f32⟩
  | 33 => ⟨S6x8448x8x64, .f32⟩
  | 34 => ⟨S6x66x128x8x64, .f32⟩
  | 35 => ⟨S6x64x128x8x64, .f32⟩
  | 36 => ⟨S6x64x128x8x64, .f32⟩
  | 37 => ⟨S6x64x128x8x64, .f32⟩
  | 38 => ⟨S6x64x384x8x64, .f32⟩
  | 39 => ⟨S6x64x384x4x64, .f32⟩
  | 40 => ⟨S6x64x384x4x64, .f32⟩
  | 41 => ⟨S6x64x4x384x128x4, .f32⟩
  | 42 => ⟨S6x64x4x4x128x384, .f32⟩
  | 43 => ⟨S_, .f32⟩
  | 44 => ⟨S6x64x4x4x128x384, .f32⟩
  | 45 => ⟨S6x64x4x4x128x384, .f32⟩
  | 46 => ⟨S384, .i32⟩
  | 47 => ⟨S1x384, .i32⟩
  | 48 => ⟨S_, .i32⟩
  | 49 => ⟨S1x384, .i32⟩
  | 50 => ⟨S1x384, .i32⟩
  | 51 => ⟨S128, .i32⟩
  | 52 => ⟨S128x1, .i32⟩
  | 53 => ⟨S128x384, .i32⟩
  | 54 => ⟨S128x384, .i32⟩
  | 55 => ⟨S128x384, .i32⟩
  | 56 => ⟨S_, .i32⟩
  | 57 => ⟨S128x384, .i32⟩
  | 58 => ⟨S128x384, .i1⟩
  | 59 => ⟨S_, .i32⟩
  | 60 => ⟨S_, .i32⟩
  | 61 => ⟨S128x384, .i32⟩
  | 62 => ⟨S128x384, .i32⟩
  | 63 => ⟨S128x384, .i32⟩
  | 64 => ⟨S128x384, .i32⟩
  | 65 => ⟨S_, .i32⟩
  | 66 => ⟨S128x384, .i32⟩
  | 67 => ⟨S128x384, .i32⟩
  | 68 => ⟨S128x384, .f32⟩
  | 69 => ⟨S_, .f32⟩
  | 70 => ⟨S128x384, .f32⟩
  | 71 => ⟨S128x384, .f32⟩
  | 72 => ⟨S128x384, .f32⟩
  | 73 => ⟨S_, .f32⟩
  | 74 => ⟨S128x384, .f32⟩
  | 75 => ⟨S128x384, .f32⟩
  | 76 => ⟨S_, .f32⟩
  | 77 => ⟨S128x384, .f32⟩
  | 78 => ⟨S128x384, .f32⟩
  | 79 => ⟨S128x384, .i32⟩
  | 80 => ⟨S_, .i32⟩
  | 81 => ⟨S128x384, .i32⟩
  | 82 => ⟨S128x384, .i32⟩
  | 83 => ⟨S_, .i32⟩
  | 84 => ⟨S128x384, .i32⟩
  | 85 => ⟨S128x384, .i32⟩
  | 86 => ⟨S_, .i32⟩
  | 87 => ⟨S128x384, .i32⟩
  | 88 => ⟨S128x384, .i1⟩
  | 89 => ⟨S128x384, .i32⟩
  | 90 => ⟨S128x384, .i32⟩
  | 91 => ⟨S128x384, .i32⟩
  | 92 => ⟨S_, .i32⟩
  | 93 => ⟨S128x384, .i32⟩
  | 94 => ⟨S128x384, .i1⟩
  | 95 => ⟨S_, .i32⟩
  | 96 => ⟨S128x384, .i32⟩
  | 97 => ⟨S128x384, .i32⟩
  | 98 => ⟨S128x384, .i32⟩
  | 99 => ⟨S128x384x1, .i32⟩
  | 100 => ⟨S128x384x16, .f32⟩
  | 101 => ⟨S16x128x384, .f32⟩
  | 102 => ⟨S4x4x128x384, .f32⟩
  | 103 => ⟨S64x384, .i32⟩
  | 104 => ⟨S_, .i32⟩
  | 105 => ⟨S64x384, .i32⟩
  | 106 => ⟨S64x384, .i32⟩
  | 107 => ⟨S_, .i32⟩
  | 108 => ⟨S64x384, .i32⟩
  | 109 => ⟨S64x384, .i32⟩
  | 110 => ⟨S64x384, .i32⟩
  | 111 => ⟨S64x384, .i32⟩
  | 112 => ⟨S128x384, .i32⟩
  | 113 => ⟨S_, .i32⟩
  | 114 => ⟨S128x384, .i32⟩
  | 115 => ⟨S128x384, .i1⟩
  | 116 => ⟨S1x128x384, .i1⟩
  | 117 => ⟨S_, .i32⟩
  | 118 => ⟨S64x384, .i32⟩
  | 119 => ⟨S64x384, .i1⟩
  | 120 => ⟨S_, .i32⟩
  | 121 => ⟨S64x384, .i32⟩
  | 122 => ⟨S64x384, .i1⟩
  | 123 => ⟨S64x384, .i1⟩
  | 124 => ⟨S64x1x384, .i1⟩
  | 125 => ⟨S64x128x384, .i1⟩
  | 126 => ⟨S64x128x384, .i1⟩
  | 127 => ⟨S64x128x384, .i1⟩
  | _ => ⟨S6x8192x1536, .bf16⟩

abbrev hbmTy0_1 (i : Nat) : BufTy := match i % 128 with
  | 0 => ⟨S1x64x1x1x128x384, .i1⟩
  | 1 => ⟨S1x1x4x4x128x384, .f32⟩
  | 2 => ⟨S6x64x4x4x128x384, .f32⟩
  | 3 => ⟨S6x64x4x4x128x384, .f32⟩
  | 4 => ⟨S_, .f32⟩
  | 5 => ⟨S_, .f32⟩
  | 6 => ⟨S6x64x4x4x128x384, .i1⟩
  | 7 => ⟨S6x64x4x4x128x384, .f32⟩
  | 8 => ⟨S6x64x4x4x128x384, .f32⟩
  | 9 => ⟨S4x4, .f32⟩
  | 10 => ⟨S1x1x4x4x1x1, .f32⟩
  | 11 => ⟨S_, .f32⟩
  | 12 => ⟨S6x64x4x4x128, .f32⟩
  | 13 => ⟨S6x64x4x4x128x1, .f32⟩
  | 14 => ⟨S6x64x4x4x128x1, .f32⟩
  | 15 => ⟨S6x64x4x4x128x1, .f32⟩
  | 16 => ⟨S6x64x4x4x128x384, .f32⟩
  | 17 => ⟨S6x64x4x4x128x384, .f32⟩
  | 18 => ⟨S6x64x4x4x128x384, .f32⟩
  | 19 => ⟨S_, .f32⟩
  | 20 => ⟨S6x64x4x4x128, .f32⟩
  | 21 => ⟨S6x64x4x4x128x1, .f32⟩
  | 22 => ⟨S6x64x4x4x128x1, .f32⟩
  | 23 => ⟨S6x64x4x4x128x1, .f32⟩
  | 24 => ⟨S6x64x4x4x128x1, .f32⟩
  | 25 => ⟨S6x64x4x4x128x1, .f32⟩
  | 26 => ⟨S6x64x4x4x128x64, .f32⟩
  | 27 => ⟨S6x64x4x4x128x64, .f32⟩
  | 28 => ⟨S6x64x4x4x128x64, .f32⟩
  | 29 => ⟨S6x64x128x4x4x64, .f32⟩
  | 30 => ⟨S6x8192x1024, .f32⟩
  | 31 => ⟨S6x8192x1024, .bf16⟩
  | _ => ⟨S6x8192x1536, .bf16⟩

abbrev hbmTy (i : Nat) : BufTy := match i / 128 with
  | 0 => hbmTy0_0 i
  | 1 => hbmTy0_1 i
  | _ => ⟨S6x8192x1536, .bf16⟩

abbrev bufTy : (tb : Table) → Fin (tcTables nBuf tb) → BufTy
  | .hbm, ⟨i, _⟩ => hbmTy i
  | _, _ => ⟨S6x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_c_6 : Ref sig .tc := ⟨.hbm, 60, rfl⟩
abbrev main_call1_v0 : Ref sig .tc := ⟨.hbm, 61, rfl⟩
abbrev main_call1_v1 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_19 : Ref sig .tc := ⟨.hbm, 117, rfl⟩
abbrev main_v88 : Ref sig .tc := ⟨.hbm, 118, rfl⟩
abbrev main_v89 : Ref sig .tc := ⟨.hbm, 119, rfl⟩
abbrev main_c_20 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== Proof.Experts.Body.lean ====
/-
  What one grid point of the experts' kernel leaves in the two scratches and in its block of the result, in the four cases:
  the block's first or second half of the feed-forward width, the block in use or past the last one in use. The scratches
  hold the block's tokens as bf16 and the running sum.
-/
module

public import proofs.«01_k».proof.Proof.Gen.ExpertsIdeal.Frame.RunD
public import Idealize.ShloMosaic.Lib.Pipeline.ValueKit
public import Idealize.ShloMosaic.Lib.Pipeline.ReadBack

@[expose] public section

set_option maxRecDepth 16384

noncomputable section

namespace Cert.Experts

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tokens of a block: the low halves of its words, then the high halves. -/
def tokens (w : Vec F S512x512 .i32) : Vec F S512x1024 .bf16 := fun j =>
  if h : (j 1).val < 512 then k0_pay1 w (ValueIdx.ix2 (j 0) ⟨(j 1).val, h⟩)
  else k0_pay2 w (ValueIdx.ix2 (j 0) ⟨(j 1).val - 512, by have : (j 1).val < 1024 := (j 1).isLt; omega⟩)

/-- The word the body reads to see whether the block is in use. -/
abbrev usedWord (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

private theorem hz : (![0, 0] : Fin 2 → Nat) = fun _ => 0 := by funext a; fin_cases a <;> rfl
private theorem hz3 : (![0, 0, 0] : Fin 3 → Nat) = fun _ => 0 := by funext a; fin_cases a <;> rfl

section
variable (c : Dev nD) (i : grid0.Coords) (arg4 : Memref sig .tc .vmem S512x512 .i32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x512 .i32) (x1 : Vec F S1x1024x1792 .bf16) (x2 : Vec F S1x1024x1792 .bf16) (x3 : Vec F S1x1792x1024 .bf16) (xt0 : TbBuf0 (F := F) c tbM0_0) (xt1 : TbBuf0 (F := F) c tbM0_1)

/-- Two halves stored side by side make up the tokens. -/
theorem canon_tokens (w : Vec F S512x512 .i32) :
    View.canon (Val := Elt F) (s := S512x1024) (e := .bf16)
      [⟨Rect.unit (s := S512x1024) ![0, 512] S512x512.size inb_S512x1024_S512x512_0_512, k0_pay2 w⟩,
       ⟨Rect.unit (s := S512x1024) ![0, 0] S512x512.size inb_S512x1024_S512x512_0_0, k0_pay1 w⟩] = tokens w := by
  funext j
  unfold tokens
  canon_tiles x h
  · rw [dif_neg (by omega)]
    congr 1
    blk_ext <;> first | exact h0.symm | exact (congrArg (· - 512) h1).symm
  · rw [dif_pos (by omega)]
    congr 1
    blk_ext <;> first | exact h0.symm | exact (congrArg (· - 512) h1).symm

/-- Reading them back whole gives the tokens. -/
theorem load_tokens {sp : Space} (v : View sig .tc sp S512x1024 .bf16) (w : Vec F S512x512 .i32) :
    v.readCov (Val := Elt F)
      [⟨Rect.unit (s := S512x1024) ![0, 512] S512x512.size inb_S512x1024_S512x512_0_512, k0_pay2 w⟩,
       ⟨Rect.unit (s := S512x1024) ![0, 0] S512x512.size inb_S512x1024_S512x512_0_0, k0_pay1 w⟩]
      (Rect.unit (s := S512x1024) ![0, 0] S512x1024.size inb_S512x1024_S512x1024_0_0).toLoadRect = tokens w := by
  rw [View.readCov_eq_canon', canon_tokens]
  exact View.ld_unit_zero (S := S512x1024) hz _ _

/-- First half, block in use: the tokens, and the first half of the sum. -/
theorem fill_A (hc0 : cond0_0 i) (hc2 : ¬cond0_2 i) (hc1 : cond0_1 i (usedWord c xt1)) (f g) :
    arg9.view.read (Elt F) (arg9.view.writes (Elt F) f (kernelRun0_A c i arg4 harg4 arg5 harg5 arg6 harg6 arg7 harg7 arg8 harg8 arg9 harg9 arg10 harg10 hc0 hc2 x0 x1 x2 x3 xt0 xt1 hc1).2.1) = tokens x0
    ∧ arg10.view.read (Elt F) (arg10.view.writes (Elt F) g (kernelRun0_A c i arg4 harg4 arg5 harg5 arg6 harg6 arg7 harg7 arg8 harg8 arg9 harg9 arg10 harg10 hc0 hc2 x0 x1 x2 x3 xt0 xt1 hc1).2.2.1)
      = k0_pay4 (tokens x0) x1 x2 k0_pay3 x3 := by
  constructor
  · rw [View.read_writes_eq_canon arg9.view f (kernelRun0_A c i arg4 harg4 arg5 harg5 arg6 harg6 arg7 harg7 arg8 harg8 arg9 harg9 arg10 harg10 hc0 hc2 x0 x1 x2 x3 xt0 xt1 hc1).2.1 (View.cover_of_tiledL (s := S512x1024) _ ![512, 512] (by sl_kernel_rfl))]
    unfold kernelRun0_A
    dsimp only
    sl_unfold_words
    simp only [View.readAt_eq_ld, harg4.read_unread]
    rw [View.ld_unit_zero (S := S512x512) hz]
    rw [canon_tokens]
  · rw [View.read_writes_eq_canon arg10.view g (kernelRun0_A c i arg4 harg4 arg5 harg5 arg6 harg6 arg7 harg7 arg8 harg8 arg9 harg9 arg10 harg10 hc0 hc2 x0 x1 x2 x3 xt0 xt1 hc1).2.2.1 (View.cover_of_tiledL (s := S512x1024) _ ![512, 1024] (by sl_kernel_rfl))]
    unfold kernelRun0_A
    dsimp only
    sl_unfold_words
    rw [View.canon_cons_unit_zero hz]
    simp only [View.readAt_eq_ld, harg4.read_unread, harg5.read_unread, harg6.read_unread, harg7.read_unread]
    rw [View.ld_unit_zero hz, View.ld_unit_zero hz3, View.ld_unit_zero hz3, View.ld_unit_zero hz3, View.readCov_unit_zero _ hz, load_tokens]

/-- First half, block not in use: the tokens, and a sum of zeros. -/
theorem fill_B (hc0 : cond0_0 i) (hc2 : ¬cond0_2 i) (hc1 : ¬cond0_1 i (usedWord c xt1)) (f g) :
    arg9.view.read (Elt F) (arg9.view.writes (Elt F) f (kernelRun0_B c i arg4 harg4 arg5 harg5 arg6 harg6 arg7 harg7 arg8 harg8 arg9 harg9 arg10 harg10 hc0 hc2 x0 x1 x2 x3 xt0 xt1 hc1).2.1) = tokens x0
    ∧ arg10.view.read (Elt F) (arg10.view.writes (Elt F) g (kernelRun0_B c i arg4 harg4 arg5 harg5 arg6 harg6 arg7 harg7 arg8 harg8 arg9 harg9 arg10 harg10 hc0 hc2 x0 x1 x2 x3 xt0 xt1 hc1).2.2.1) = k0_pay3 := by
  constructor
  · rw [View.read_writes_eq_canon arg9.view f (kernelRun0_B c i arg4 harg4 arg5 harg5 arg6 harg6 arg7 harg7 arg8 harg8 arg9 harg9 arg10 harg10 hc0 hc2 x0 x1 x2 x3 xt0 xt1 hc1).2.1 (View.cover_of_tiledL (s := S512x1024) _ ![512, 512] (by sl_kernel_rfl))]
    unfold kernelRun0_B
    dsimp only
    sl_unfold_words
    simp only [View.readAt_eq_ld, harg4.read_unread]
    rw [View.ld_unit_zero (S := S512x512) hz]
    rw [canon_tokens]
  · rw [View.read_writes_eq_canon arg10.view g (kernelRun0_B c i arg4 harg4 arg5 harg5 arg6 harg6 arg7 harg7 arg8 harg8 arg9 harg9 arg10 harg10 hc0 hc2 x0 x1 x2 x3 xt0 xt1 hc1).2.2.1 (View.cover_of_tiledL (s := S512x1024) _ ![512, 1024] (by sl_kernel_rfl))]
    unfold kernelRun0_B
    dsimp only
    sl_unfold_words
    rw [View.canon_unit_zero hz]

/-- Second half, block in use: the sum grows, and the result is the sum. -/
theorem fill_C (hc0 : ¬cond0_0 i) (hc2 : cond0_2 i) (hc1 : cond0_1 i (usedWord c xt1)) (xs0 : Vec F S512x1024 .bf16) (xs1 : Vec F S512x1024 .f32) (f g) :
    arg8.view.read (Elt F) (arg8.view.writes (Elt F) f (kernelRun0_C c i arg4 harg4 arg5 harg5 arg6 harg6 arg7 harg7 arg8 harg8 arg9 harg9 arg10 harg10 hc0 hc2 x0 x1 x2 x3 xt0 xt1 xs0 xs1 hc1).1) = k0_pay4 xs0 x1 x2 xs1 x3
    ∧ arg10.view.read (Elt F) (arg10.view.writes (Elt F) g (kernelRun0_C c i arg4 harg4 arg5 harg5 arg6 harg6 arg7 harg7 arg8 harg8 arg9 harg9 arg10 harg10 hc0 hc2 x0 x1 x2 x3 xt0 xt1 xs0 xs1 hc1).2.2.1) = k0_pay4 xs0 x1 x2 xs1 x3 := by
  constructor
  · rw [View.read_writes_eq_canon arg8.view f (kernelRun0_C c i arg4 harg4 arg5 harg5 arg6 harg6 arg7 harg7 arg8 harg8 arg9 harg9 arg10 harg10 hc0 hc2 x0 x1 x2 x3 xt0 xt1 xs0 xs1 hc1).1 (View.cover_of_tiledL (s := S512x1024) _ ![512, 1024] (by sl_kernel_rfl))]
    unfold kernelRun0_C
    dsimp only
    sl_unfold_words
    rw [View.canon_unit_zero hz, View.readCov_unit_zero _ hz]
    simp only [View.readAt_eq_ld, harg9.read_unread, harg5.read_unread, harg6.read_unread, harg7.read_unread, harg10.read_unread]
    rw [View.ld_unit_zero hz, View.ld_unit_zero hz3, View.ld_unit_zero hz3, View.ld_unit_zero hz, View.ld_unit_zero hz3]
  · rw [View.read_writes_eq_canon arg10.view g (kernelRun0_C c i arg4 harg4 arg5 harg5 arg6 harg6 arg7 harg7 arg8 harg8 arg9 harg9 arg10 harg10 hc0 hc2 x0 x1 x2 x3 xt0 xt1 xs0 xs1 hc1).2.2.1 (View.cover_of_tiledL (s := S512x1024) _ ![512, 1024] (by sl_kernel_rfl))]
    unfold kernelRun0_C
    dsimp only
    sl_unfold_words
    rw [View.canon_unit_zero hz]
    simp only [View.readAt_eq_ld, harg9.read_unread, harg5.read_unread, harg6.read_unread, harg7.read_unread, harg10.read_unread]
    rw [View.ld_unit_zero hz, View.ld_unit_zero hz3, View.ld_unit_zero hz3, View.ld_unit_zero hz, View.ld_unit_zero hz3]

/-- Second half, block not in use: the result is the sum. -/
theorem fill_D (hc0 : ¬cond0_0 i) (hc2 : cond0_2 i) (hc1 : ¬cond0_1 i (usedWord c xt1)) (xs0 : Vec F S512x1024 .bf16) (xs1 : Vec F S512x1024 .f32) (f) :
    arg8.view.read (Elt F) (arg8.view.writes (Elt F) f (kernelRun0_D c i arg4 harg4 arg5 harg5 arg6 harg6 arg7 harg7 arg8 harg8 arg9 harg9 arg10 harg10 hc0 hc2 x0 x1 x2 x3 xt0 xt1 xs0 xs1 hc1).1) = xs1 := by
  rw [View.read_writes_eq_canon arg8.view f (kernelRun0_D c i arg4 harg4 arg5 harg5 arg6 harg6 arg7 harg7 arg8 harg8 arg9 harg9 arg10 harg10 hc0 hc2 x0 x1 x2 x3 xt0 xt1 xs0 xs1 hc1).1 (View.cover_of_tiledL (s := S512x1024) _ ![512, 1024] (by sl_kernel_rfl))]
  unfold kernelRun0_D
  dsimp only
  sl_unfold_words
  rw [View.canon_unit_zero hz]
  simp only [View.readAt_eq_ld, harg10.read_unread]
  rw [View.ld_unit_zero hz]

end

end Cert.Experts

end
-- ==== Proof.Experts.Frame.lean ====
/-
  The experts' kernel run over its whole grid: what the scratches hold after each point, the triple of one point, and the
  frame. Points come in pairs, one block of tokens each: the first point of a pair gathers the tokens and adds up the first
  half of the feed-forward width, the second adds the other half and writes the block of the result.
-/
module

public import proofs.«01_k».proof.Proof.Experts.Body
public import Idealize.ShloMosaic.Lib.Claim

@[expose] public section

set_option maxRecDepth 16384

noncomputable section

namespace Cert.Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of a point is in use. -/
abbrev Used (t : Fin grid0.N) : Prop := cond0_1 (grid0.coords t) (usedWord (0 : Dev nD) (tbl m 1))

open Classical in
/-- The running sum after the first point of a pair. -/
def sum0 (hO : Ok m) (c : Dev nD) (t : Fin (cfgM m hO).N) : Vec F S512x1024 .f32 :=
  if Used m t then k0_pay4 (tokens (iblk m hO c 0 t)) (iblk m hO c 1 t) (iblk m hO c 2 t) k0_pay3 (iblk m hO c 3 t) else k0_pay3

open Classical in
/-- The running sum after the second point of a pair, `s` the first one. -/
def sum1 (hO : Ok m) (c : Dev nD) (s t : Fin (cfgM m hO).N) : Vec F S512x1024 .f32 :=
  if Used m t then k0_pay4 (tokens (iblk m hO c 0 s)) (iblk m hO c 1 t) (iblk m hO c 2 t) (sum0 m hO c s) (iblk m hO c 3 t)
  else sum0 m hO c s

/-- What the two scratches hold after a point. -/
def held (hO : Ok m) (c : Dev nD) (n : ℕ) (hn : n < (cfgM m hO).N) : Vec F S512x1024 .bf16 × Vec F S512x1024 .f32 :=
  if n % 2 = 0 then (tokens (iblk m hO c 0 ⟨n, hn⟩), sum0 m hO c ⟨n, hn⟩)
  else (tokens (iblk m hO c 0 ⟨n - 1, by omega⟩), sum1 m hO c ⟨n - 1, by omega⟩ ⟨n, hn⟩)

theorem held_even (hO : Ok m) (c : Dev nD) (n : ℕ) (hn : n < (cfgM m hO).N) (h : n % 2 = 0) :
    held m hO c n hn = (tokens (iblk m hO c 0 ⟨n, hn⟩), sum0 m hO c ⟨n, hn⟩) := if_pos h

theorem held_odd (hO : Ok m) (c : Dev nD) (n : ℕ) (hn : n < (cfgM m hO).N) (h : ¬n % 2 = 0) :
    held m hO c n hn = (tokens (iblk m hO c 0 ⟨n - 1, by omega⟩), sum1 m hO c ⟨n - 1, by omega⟩ ⟨n, hn⟩) := if_neg h

/-- The scratches, the generator register and the two tables, before point `n`. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(((owns (c : Thread nD τ) scM0_0 fullShare (held m hO c n hn).1 ∗ owns (c : Thread nD τ) scM0_1 fullShare (held m hO c n hn).2) ∗ (∃ r, prngReg c r)) ∗ Pipeline.ΦT pre0 (tbl m) c)

theorem inv_zero (hO : Ok m) (c : Dev nD) (h) : Inv m hO c 0 h = iprop(Pipeline.ΦA spec0 c ∗ Pipeline.ΦT pre0 (tbl m) c) := rfl

theorem inv_succ (hO : Ok m) (c : Dev nD) (n : ℕ) (hn : n < (cfgM m hO).N) :
    Inv m hO c (n + 1) hn = iprop(((owns (c : Thread nD τ) scM0_0 fullShare (held m hO c n hn).1 ∗ owns (c : Thread nD τ) scM0_1 fullShare (held m hO c n hn).2) ∗ (∃ r, prngReg c r)) ∗ Pipeline.ΦT pre0 (tbl m) c) := rfl

theorem inv_pos (hO : Ok m) (c : Dev nD) (n : ℕ) (h : n ≤ (cfgM m hO).N) (hz : n ≠ 0) :
    Inv m hO c n h = iprop(((owns (c : Thread nD τ) scM0_0 fullShare (held m hO c (n - 1) (by omega)).1 ∗ owns (c : Thread nD τ) scM0_1 fullShare (held m hO c (n - 1) (by omega)).2) ∗ (∃ r, prngReg c r)) ∗ Pipeline.ΦT pre0 (tbl m) c) := by
  cases n with
  | zero => exact absurd rfl hz
  | succ n => rfl

/-- Before any point the scratches hold something. -/
theorem inv_any (hO : Ok m) (c : Dev nD) (n : ℕ) (h : n ≤ (cfgM m hO).N) :
    Inv m hO c n h ⊢ iprop((((∃ d, owns (c : Thread nD τ) scM0_0 fullShare d) ∗ (∃ d, owns (c : Thread nD τ) scM0_1 fullShare d)) ∗ (∃ r, prngReg c r)) ∗ Pipeline.ΦT pre0 (tbl m) c) := by
  cases n with
  | zero => rw [inv_zero, PhiA0_eq]; try exact Idealize.SL.BI.Entails.refl _
  | succ n =>
    rw [inv_succ]
    iintro ⟨⟨⟨HS0, HS1⟩, Hg⟩, HT⟩
    isplitr [HT]
    · isplitr [Hg]
      · isplitl [HS0]
        · iexists _; iexact HS0
        iexists _; iexact HS1
      iexact Hg
    iexact HT

/-- The proof data: each input's buffer keeps its block, the result's holds the running sum. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (held m hO c t.val t.isLt).2
  Φ t := Inv m hO c t.val (Nat.le_of_lt_succ t.isLt)
  q _ := fullShare
  owed _ := 0

theorem dats_A (hO : Ok m) (c : Dev nD) (w : Fin (cfgM m hO).W) : (dats m hO 0 c).A w = V m c (Pipeline.arrRef spec0 w) := by
  dsimp only [dats]

theorem inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (held m hO c t.val t.isLt).2 := by dsimp only [dats]; try rfl

theorem before_0 (hO : Ok m) (c : Dev nD) (t : Fin (cfgM m hO).N) (d) : (dats m hO 0 c).before 0 t d = iblk m hO c 0 t :=
  before0_0_of m hO (dats m hO 0 c) (dats_A m hO c 0) (after_0 m hO c) t d
theorem before_1 (hO : Ok m) (c : Dev nD) (t : Fin (cfgM m hO).N) (d) : (dats m hO 0 c).before 1 t d = iblk m hO c 1 t :=
  before0_1_of m hO (dats m hO 0 c) (dats_A m hO c 1) (after_1 m hO c) t d
theorem before_2 (hO : Ok m) (c : Dev nD) (t : Fin (cfgM m hO).N) (d) : (dats m hO 0 c).before 2 t d = iblk m hO c 2 t :=
  before0_2_of m hO (dats m hO 0 c) (dats_A m hO c 2) (after_2 m hO c) t d
theorem before_3 (hO : Ok m) (c : Dev nD) (t : Fin (cfgM m hO).N) (d) : (dats m hO 0 c).before 3 t d = iblk m hO c 3 t :=
  before0_3_of m hO (dats m hO 0 c) (dats_A m hO c 3) (after_3 m hO c) t d

theorem leaves_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after_0]
theorem leaves_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after_1]
theorem leaves_2 (hO : Ok m) (c : Dev nD) (t : Fin (cfgM m hO).N) :
    (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after_2]
theorem leaves_3 (hO : Ok m) (c : Dev nD) (t : Fin (cfgM m hO).N) :
    (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after_3]

/-- What one point starts from. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What one point leaves. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 1600000 in
/-- The triple of a first point of a pair, its block in use. -/
theorem point_A (hO : Ok m) (c : Dev nD) (t : Fin (cfgM m hO).N) (h0 : t.val % 2 = 0) (h1 : Used m t) (h2 : ¬t.val % 2 = 1) :
    bodyPre m hO c t ⊢ wp frame (wpE (defs₀ (F := F)) Variants.none c none) Set.univ (bodyAt0 (adm m hO) t) (fun _ => bodyPost m hO c t) := by
  have hN : t.val < 400 := lt_of_lt_of_eq t.isLt (show (cfgM m hO).N = 400 from N_0)
  obtain rfl : c = 0 := Subsingleton.elim _ _
  unfold bodyPre bodyPost bodyAt0
  simp only [before_0, before_1, before_2, before_3]
  rw [show (dats m hO 0 0).owesAt () t.succ = (dats m hO 0 0).owesAt () t.castSucc from rfl]
  rw [show (dats m hO 0 0).Φ t.succ = Inv m hO 0 (t.val + 1) t.isLt from rfl, inv_succ, leaves_0, leaves_1, leaves_2, leaves_3]
  rw [Dat.leavesExact_idle (dats m hO 0 0) 4 t (idleAt0_4_A m hO t ((hcond0_0 t).mpr h0) (fun h => h2 ((hcond0_2 t).mp h))) (noFlush0_4_A m hO t ((hcond0_0 t).mpr h0) (fun h => h2 ((hcond0_2 t).mp h)))]
  rw [inv_castSucc m hO 0 t, held_even m hO 0 _ _ h0]
  rw [show sum0 m hO 0 ⟨t.val, t.isLt⟩ = k0_pay4 (tokens (iblk m hO 0 0 t)) (iblk m hO 0 1 t) (iblk m hO 0 2 t) k0_pay3 (iblk m hO 0 3 t) from if_pos h1]
  dsimp only
  refine (sep_mono (inv_any m hO 0 _ _) .rfl).trans ?_
  rw [PhiT0_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((kernelRun0_A 0 (grid0.coords t) _ _ _ _ _ _ _ _ _ _ _ _ _ _ ((hcond0_0 t).mpr h0) (fun h => h2 ((hcond0_2 t).mp h)) (iblk m hO 0 0 t) (iblk m hO 0 1 t) (iblk m hO 0 2 t) (iblk m hO 0 3 t) (tbl m 0) (tbl m 1) h1).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  iintro ⟨H0, H1, H2, H3, H4, ⟨%es0, HS0⟩, ⟨%es1, HS1⟩, HT0, HT1⟩
  isplitl [HS0 HS1 Hg HT0 HT1]
  · isplitl [HS0 HS1 Hg]
    · isplitl [HS0 HS1]
      · isplitl [HS0]
        · unfold owns; iexists _; isplitr
          swap; · iexact HS0
          ipureintro; exact (fill_A 0 (grid0.coords t) _ _ _ _ _ _ _ _ _ _ _ _ _ _ (iblk m hO 0 0 t) (iblk m hO 0 1 t) (iblk m hO 0 2 t) (iblk m hO 0 3 t) (tbl m 0) (tbl m 1) ((hcond0_0 t).mpr h0) (fun h => h2 ((hcond0_2 t).mp h)) h1 _ (View.junk _)).1
        unfold owns; iexists _; isplitr
        swap; · iexact HS1
        ipureintro; exact (fill_A 0 (grid0.coords t) _ _ _ _ _ _ _ _ _ _ _ _ _ _ (iblk m hO 0 0 t) (iblk m hO 0 1 t) (iblk m hO 0 2 t) (iblk m hO 0 3 t) (tbl m 0) (tbl m 1) ((hcond0_0 t).mpr h0) (fun h => h2 ((hcond0_2 t).mp h)) h1 (View.junk _) _).2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexists _; iexact H4

set_option maxHeartbeats 1600000 in
/-- The triple of a first point of a pair, its block not in use. -/
theorem point_B (hO : Ok m) (c : Dev nD) (t : Fin (cfgM m hO).N) (h0 : t.val % 2 = 0) (h1 : ¬Used m t) (h2 : ¬t.val % 2 = 1) :
    bodyPre m hO c t ⊢ wp frame (wpE (defs₀ (F := F)) Variants.none c none) Set.univ (bodyAt0 (adm m hO) t) (fun _ => bodyPost m hO c t) := by
  have hN : t.val < 400 := lt_of_lt_of_eq t.isLt (show (cfgM m hO).N = 400 from N_0)
  obtain rfl : c = 0 := Subsingleton.elim _ _
  unfold bodyPre bodyPost bodyAt0
  simp only [before_0, before_1, before_2, before_3]
  rw [show (dats m hO 0 0).owesAt () t.succ = (dats m hO 0 0).owesAt () t.castSucc from rfl]
  rw [show (dats m hO 0 0).Φ t.succ = Inv m hO 0 (t.val + 1) t.isLt from rfl, inv_succ, leaves_0, leaves_1, leaves_2, leaves_3]
  rw [Dat.leavesExact_idle (dats m hO 0 0) 4 t (idleAt0_4_B m hO t ((hcond0_0 t).mpr h0) (fun h => h2 ((hcond0_2 t).mp h))) (noFlush0_4_B m hO t ((hcond0_0 t).mpr h0) (fun h => h2 ((hcond0_2 t).mp h)))]
  rw [inv_castSucc m hO 0 t, held_even m hO 0 _ _ h0]
  rw [show sum0 m hO 0 ⟨t.val, t.isLt⟩ = k0_pay3 from if_neg h1]
  dsimp only
  refine (sep_mono (inv_any m hO 0 _ _) .rfl).trans ?_
  rw [PhiT0_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((kernelRun0_B 0 (grid0.coords t) _ _ _ _ _ _ _ _ _ _ _ _ _ _ ((hcond0_0 t).mpr h0) (fun h => h2 ((hcond0_2 t).mp h)) (iblk m hO 0 0 t) (iblk m hO 0 1 t) (iblk m hO 0 2 t) (iblk m hO 0 3 t) (tbl m 0) (tbl m 1) h1).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  iintro ⟨H0, H1, H2, H3, H4, ⟨%es0, HS0⟩, ⟨%es1, HS1⟩, HT0, HT1⟩
  isplitl [HS0 HS1 Hg HT0 HT1]
  · isplitl [HS0 HS1 Hg]
    · isplitl [HS0 HS1]
      · isplitl [HS0]
        · unfold owns; iexists _; isplitr
          swap; · iexact HS0
          ipureintro; exact (fill_B 0 (grid0.coords t) _ _ _ _ _ _ _ _ _ _ _ _ _ _ (iblk m hO 0 0 t) (iblk m hO 0 1 t) (iblk m hO 0 2 t) (iblk m hO 0 3 t) (tbl m 0) (tbl m 1) ((hcond0_0 t).mpr h0) (fun h => h2 ((hcond0_2 t).mp h)) h1 _ (View.junk _)).1
        unfold owns; iexists _; isplitr
        swap; · iexact HS1
        ipureintro; exact (fill_B 0 (grid0.coords t) _ _ _ _ _ _ _ _ _ _ _ _ _ _ (iblk m hO 0 0 t) (iblk m hO 0 1 t) (iblk m hO 0 2 t) (iblk m hO 0 3 t) (tbl m 0) (tbl m 1) ((hcond0_0 t).mpr h0) (fun h => h2 ((hcond0_2 t).mp h)) h1 (View.junk _) _).2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexists _; iexact H4

set_option maxHeartbeats 1600000 in
/-- The triple of a second point of a pair, its block in use. -/
theorem point_C (hO : Ok m) (c : Dev nD) (t : Fin (cfgM m hO).N) (h0 : ¬t.val % 2 = 0) (h1 : Used m t) (h2 : t.val % 2 = 1) :
    bodyPre m hO c t ⊢ wp frame (wpE (defs₀ (F := F)) Variants.none c none) Set.univ (bodyAt0 (adm m hO) t) (fun _ => bodyPost m hO c t) := by
  have hN : t.val < 400 := lt_of_lt_of_eq t.isLt (show (cfgM m hO).N = 400 from N_0)
  obtain rfl : c = 0 := Subsingleton.elim _ _
  unfold bodyPre bodyPost bodyAt0
  simp only [before_0, before_1, before_2, before_3]
  rw [show (dats m hO 0 0).owesAt () t.succ = (dats m hO 0 0).owesAt () t.castSucc from rfl]
  rw [show (dats m hO 0 0).Φ t.succ = Inv m hO 0 (t.val + 1) t.isLt from rfl, inv_succ, leaves_0, leaves_1, leaves_2, leaves_3]
  rw [show (dats m hO 0 0).leavesExact 4 t = owns ((0 : Dev nD) : Thread nD τ) (ms0_4 m hO t) fullShare ((dats m hO 0 0).after 4 t) from by
    unfold Dat.leavesExact; rw [liveAt0_4_C m hO t (fun h => h0 ((hcond0_0 t).mp h)) ((hcond0_2 t).mpr h2)]; try rfl, after_4]
  have ht : Inv m hO 0 t.val (Nat.le_of_lt t.isLt) = iprop(((owns ((0 : Dev nD) : Thread nD τ) scM0_0 fullShare (tokens (iblk m hO 0 0 ⟨t.val - 1, by omega⟩)) ∗ owns ((0 : Dev nD) : Thread nD τ) scM0_1 fullShare (sum0 m hO 0 ⟨t.val - 1, by omega⟩)) ∗ (∃ r, prngReg (0 : Dev nD) r)) ∗ Pipeline.ΦT pre0 (tbl m) 0) := by
    rw [inv_pos m hO 0 t.val _ (by omega), held_even m hO 0 (t.val - 1) _ (by omega)]
  rw [inv_castSucc m hO 0 t, ht, held_odd m hO 0 _ _ h0, PhiT0_eq]
  rw [show sum1 m hO 0 ⟨t.val - 1, by omega⟩ ⟨t.val, t.isLt⟩ = k0_pay4 (tokens (iblk m hO 0 0 ⟨t.val - 1, by omega⟩)) (iblk m hO 0 1 t) (iblk m hO 0 2 t) (sum0 m hO 0 ⟨t.val - 1, by omega⟩) (iblk m hO 0 3 t) from if_pos h1]
  dsimp only
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((kernelRun0_C 0 (grid0.coords t) _ _ _ _ _ _ _ _ _ _ _ _ _ _ (fun h => h0 ((hcond0_0 t).mp h)) ((hcond0_2 t).mpr h2) (iblk m hO 0 0 t) (iblk m hO 0 1 t) (iblk m hO 0 2 t) (iblk m hO 0 3 t) (tbl m 0) (tbl m 1) _ _ h1).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HT0]; · iexact HT0
  isplitl [HT1]; · iexact HT1
  iintro ⟨H0, H1, H2, H3, ⟨%e4, H4⟩, HS0, ⟨%es1, HS1⟩, HT0, HT1⟩
  isplitl [HS0 HS1 Hg HT0 HT1]
  · isplitl [HS0 HS1 Hg]
    · isplitl [HS0 HS1]
      · isplitl [HS0]
        · iexact HS0
        unfold owns; iexists _; isplitr
        swap; · iexact HS1
        ipureintro; exact (fill_C 0 (grid0.coords t) _ _ _ _ _ _ _ _ _ _ _ _ _ _ (iblk m hO 0 0 t) (iblk m hO 0 1 t) (iblk m hO 0 2 t) (iblk m hO 0 3 t) (tbl m 0) (tbl m 1) (fun h => h0 ((hcond0_0 t).mp h)) ((hcond0_2 t).mpr h2) h1 _ _ (View.junk _) _).2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact (fill_C 0 (grid0.coords t) _ _ _ _ _ _ _ _ _ _ _ _ _ _ (iblk m hO 0 0 t) (iblk m hO 0 1 t) (iblk m hO 0 2 t) (iblk m hO 0 3 t) (tbl m 0) (tbl m 1) (fun h => h0 ((hcond0_0 t).mp h)) ((hcond0_2 t).mpr h2) h1 _ _ _ (View.junk _)).1

set_option maxHeartbeats 1600000 in
/-- The triple of a second point of a pair, its block not in use. -/
theorem point_D (hO : Ok m) (c : Dev nD) (t : Fin (cfgM m hO).N) (h0 : ¬t.val % 2 = 0) (h1 : ¬Used m t) (h2 : t.val % 2 = 1) :
    bodyPre m hO c t ⊢ wp frame (wpE (defs₀ (F := F)) Variants.none c none) Set.univ (bodyAt0 (adm m hO) t) (fun _ => bodyPost m hO c t) := by
  have hN : t.val < 400 := lt_of_lt_of_eq t.isLt (show (cfgM m hO).N = 400 from N_0)
  obtain rfl : c = 0 := Subsingleton.elim _ _
  unfold bodyPre bodyPost bodyAt0
  simp only [before_0, before_1, before_2, before_3]
  rw [show (dats m hO 0 0).owesAt () t.succ = (dats m hO 0 0).owesAt () t.castSucc from rfl]
  rw [show (dats m hO 0 0).Φ t.succ = Inv m hO 0 (t.val + 1) t.isLt from rfl, inv_succ, leaves_0, leaves_1, leaves_2, leaves_3]
  rw [show (dats m hO 0 0).leavesExact 4 t = owns ((0 : Dev nD) : Thread nD τ) (ms0_4 m hO t) fullShare ((dats m hO 0 0).after 4 t) from by
    unfold Dat.leavesExact; rw [liveAt0_4_D m hO t (fun h => h0 ((hcond0_0 t).mp h)) ((hcond0_2 t).mpr h2)]; try rfl, after_4]
  have ht : Inv m hO 0 t.val (Nat.le_of_lt t.isLt) = iprop(((owns ((0 : Dev nD) : Thread nD τ) scM0_0 fullShare (tokens (iblk m hO 0 0 ⟨t.val - 1, by omega⟩)) ∗ owns ((0 : Dev nD) : Thread nD τ) scM0_1 fullShare (sum0 m hO 0 ⟨t.val - 1, by omega⟩)) ∗ (∃ r, prngReg (0 : Dev nD) r)) ∗ Pipeline.ΦT pre0 (tbl m) 0) := by
    rw [inv_pos m hO 0 t.val _ (by omega), held_even m hO 0 (t.val - 1) _ (by omega)]
  rw [inv_castSucc m hO 0 t, ht, held_odd m hO 0 _ _ h0, PhiT0_eq]
  rw [show sum1 m hO 0 ⟨t.val - 1, by omega⟩ ⟨t.val, t.isLt⟩ = sum0 m hO 0 ⟨t.val - 1, by omega⟩ from if_neg h1]
  dsimp only
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((kernelRun0_D 0 (grid0.coords t) _ _ _ _ _ _ _ _ _ _ _ _ _ _ (fun h => h0 ((hcond0_0 t).mp h)) ((hcond0_2 t).mpr h2) (iblk m hO 0 0 t) (iblk m hO 0 1 t) (iblk m hO 0 2 t) (iblk m hO 0 3 t) (tbl m 0) (tbl m 1) _ _ h1).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HT0]; · iexact HT0
  isplitl [HT1]; · iexact HT1
  iintro ⟨H0, H1, H2, H3, ⟨%e4, H4⟩, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact fill_D 0 (grid0.coords t) _ _ _ _ _ _ _ _ _ _ _ _ _ _ (iblk m hO 0 0 t) (iblk m hO 0 1 t) (iblk m hO 0 2 t) (iblk m hO 0 3 t) (tbl m 0) (tbl m 1) (fun h => h0 ((hcond0_0 t).mp h)) ((hcond0_2 t).mpr h2) h1 _ _ _

/-- The triple of one point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 2 = 0 <;> by_cases h1 : Used m t
  · exact point_A m hO c t h0 h1 (by omega)
  · exact point_B m hO c t h0 h1 (by omega)
  · exact point_C m hO c t h0 h1 (by omega)
  · exact point_D m hO c t h0 h1 (by omega)

/-- The body the launch calls at a point is `bodyAt0`. -/
theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The launch's obligation at every point. -/
theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

/-- What the launch hands over is the invariant before the first point. -/
theorem inv_in (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, inv_zero]
  try exact Idealize.SL.BI.Entails.refl _

/-- The invariant after the last point gives back what the launch handed over. -/
theorem inv_out (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N le_rfl from rfl]
  refine (inv_any m hO c _ _).trans ?_
  rw [PhiA0_eq]
  iintro ⟨HA, -⟩
  iexact HA

set_option backward.isDefEq.respectTransparency.types false in
/-- The whole run: every execution ends, the arrays as the launch computes them, every counter zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := dats_A m hO) (hpf := V_pre m)
    (hin := inv_in m hO) (hout := inv_out m hO)

/-- The arguments end unchanged and every counter zero, where every window stays inside its array. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (dats_A m hO) ((θ_run defs _ _).mono (fun _ h => h.1) (run_main m ρ hO)))
    ((θ_run defs _ _).mono (fun _ h => h.2) (run_main m ρ hO))

end Cert.Experts

end
-- ==== Proof.Experts.Table.lean ====
/-
  What the host lines before the experts' kernel hand it: after how many blocks each expert ends, which expert a block
  belongs to, the number of blocks in use, and the weights as bf16. A block's expert is a count of at most eight, capped at
  seven, so it is one of the eight, whatever the counts are.
-/
module

public import proofs.«01_k».proof.Proof.Gen.ExpertsIdeal.Frame.Runs
public import Idealize.ShloMosaic.Lib.Routing.Ops
public import Idealize.ShloMosaic.Lib.Affine
public import Idealize.ShloMosaic.Lib.ValueIdxCore
public import Idealize.ShloMosaic.Lib.StableHlo.Run

@[expose] public section

set_option maxRecDepth 16384

noncomputable section

namespace Cert.Experts

open Cert.ExpertsIdeal Cert.ExpertsIdeal.Gen
open Idealize.ShloMosaic Idealize.ShloMosaic.TcCoe Idealize.ShloMosaic.StableHlo Idealize.SL.Sem

/-- How many blocks of 512 slots each expert takes: its count divided by 512, rounded up. -/
def blocks (cnt : S8.Idx → BitVec 32) : S8.Idx → BitVec 32 :=
  select (andi (cmpi .ne (signi (subi (addi cnt (broadcastInDim S8 ![] bcast_S_S8 (constantI S_ 32 512#32))) (broadcastInDim S8 ![] bcast_S_S8 (constantI S_ 32 1#32)))) (broadcastInDim S8 ![] bcast_S_S8 (signi (constantI S_ 32 512#32))))
      (cmpi .ne (Host.remsi (subi (addi cnt (broadcastInDim S8 ![] bcast_S_S8 (constantI S_ 32 512#32))) (broadcastInDim S8 ![] bcast_S_S8 (constantI S_ 32 1#32))) (broadcastInDim S8 ![] bcast_S_S8 (constantI S_ 32 512#32))) (broadcastInDim S8 ![] bcast_S_S8 (constantI S_ 32 0#32))))
    (subi (Host.divsi (subi (addi cnt (broadcastInDim S8 ![] bcast_S_S8 (constantI S_ 32 512#32))) (broadcastInDim S8 ![] bcast_S_S8 (constantI S_ 32 1#32))) (broadcastInDim S8 ![] bcast_S_S8 (constantI S_ 32 512#32))) (broadcastInDim S8 ![] bcast_S_S8 (constantI S_ 32 1#32))) (Host.divsi (subi (addi cnt (broadcastInDim S8 ![] bcast_S_S8 (constantI S_ 32 512#32))) (broadcastInDim S8 ![] bcast_S_S8 (constantI S_ 32 1#32))) (broadcastInDim S8 ![] bcast_S_S8 (constantI S_ 32 512#32)))

/-- After how many blocks each expert ends. -/
def ends (cnt : S8.Idx → BitVec 32) : S8.Idx → BitVec 32 :=
  Host.reduceWindow IntOp.addi ![8] ![1] ![7] ![0] (blocks cnt) (broadcastInDim S_ ![] bcast_S_S_ (constantI S_ 32 0#32)) reduceWindows_S8_S8_w8s1p7_0 h_S_

/-- Which experts end at or before a block. -/
def ended (e : S8.Idx → BitVec 32) : S200x8.Idx → BitVec 1 :=
  cmpi .sle (broadcastInDim S200x8 ![0, 1] bcast_S1x8_S200x8_0_1 (broadcastInDim S1x8 ![1] bcast_S8_S1x8_1 e))
    (broadcastInDim S200x8 ![0, 1] bcast_S200x1_S200x8_0_1 (broadcastInDim S200x1 ![0] bcast_S200_S200x1_0 (iotaInDim S200 32 0)))

/-- The expert of each block. -/
def expertOf (e : S8.Idx → BitVec 32) : S200.Idx → BitVec 32 :=
  minsi (Host.reduce IntOp.addi (extui 32 (ended e) natLt_1_32) (constantI S_ 32 0#32) reducesTo_S200x8_S200_d1 h_S_)
    (broadcastInDim S200 ![] bcast_S_S200 (constantI S_ 32 7#32))

/-- A block's expert is one of the eight. -/
theorem expertOf_lt (e : S8.Idx → BitVec 32) (i : S200.Idx) : (expertOf e i).toNat < 8 := by
  classical
  have hi : i = ValueIdx.ix1 (i 0) := by funext a; fin_cases a; rfl
  have hcount : ∃ k : ℕ, k ≤ 8 ∧ Host.reduce IntOp.addi (extui 32 (ended e) natLt_1_32) (constantI S_ 32 0#32) reducesTo_S200x8_S200_d1 h_S_ i = BitVec.ofNat 32 k := by
    refine ⟨_, Nat.count_le (p := fun q => ∃ h : q < 8, ended e (ValueIdx.ix2 (i 0) ⟨q, h⟩) = 1#1), ?_⟩
    · rw [hi]
      exact Routing.reduce_count (n := 200) (m := 8) (by decide) (ended e) natLt_1_32 reducesTo_S200x8_S200_d1 h_S_ (i 0) _
        (fun q => ⟨fun h => ⟨q.isLt, h⟩, fun ⟨_, h⟩ => h⟩)
  obtain ⟨k, hk, h⟩ := hcount
  show (IntOp.minsi (Host.reduce IntOp.addi (extui 32 (ended e) natLt_1_32) (constantI S_ 32 0#32) reducesTo_S200x8_S200_d1 h_S_ i) 7#32).toNat < 8
  rw [h]
  clear h
  revert k
  decide

variable {F : FTy → Type} [FloatOps F] (m : (ℓ : Loc nD τ sig) → Buf (Elt F) ℓ)

set_option maxHeartbeats 1000000 in
theorem V_experts (c : Dev nD) : V m c main_v15 = expertOf (ends (m ((c : Thread nD τ).loc main_arg1))) := by
  unfold expertOf ended ends blocks
  show StableHlo.after (List.flatten [hostOps0, hostOps0_1, hostOps0_2, hostOps0_3]) (fun b => m (c, b)) _ = _
  simp only [List.flatten_cons, List.flatten_nil, List.append_nil, hostOps0, hostOps0_1, hostOps0_2, hostOps0_3, List.cons_append, List.nil_append, TRef.binary, TRef.nullary, TRef.ternary, TRef.unary, TRef.toBuf, TRef.ofBuf, cast_eq]
  after_results_simp
  rfl

set_option maxHeartbeats 1000000 in
theorem V_used (c : Dev nD) : V m c main_v16 = extractStridedSlice S1 ![7] (ends (m ((c : Thread nD τ).loc main_arg1))) slices_S8_S1_7 := by
  unfold ends blocks
  show StableHlo.after (List.flatten [hostOps0, hostOps0_1, hostOps0_2, hostOps0_3]) (fun b => m (c, b)) _ = _
  simp only [List.flatten_cons, List.flatten_nil, List.append_nil, hostOps0, hostOps0_1, hostOps0_2, hostOps0_3, List.cons_append, List.nil_append, TRef.binary, TRef.nullary, TRef.ternary, TRef.unary, TRef.toBuf, TRef.ofBuf, cast_eq]
  after_results_simp
  rfl

theorem V_gate (c : Dev nD) : V m c main_v17 = (truncf .bf16 (m ((c : Thread nD τ).loc main_arg2) : FVec F S8x1024x3584 .f32) bitsLt_bf16_f32 : FVec F S8x1024x3584 .bf16) := by
  show StableHlo.after (List.flatten [hostOps0, hostOps0_1, hostOps0_2, hostOps0_3]) (fun b => m (c, b)) _ = _
  simp only [List.flatten_cons, List.flatten_nil, List.append_nil, hostOps0, hostOps0_1, hostOps0_2, hostOps0_3, List.cons_append, List.nil_append, TRef.binary, TRef.nullary, TRef.ternary, TRef.unary, TRef.toBuf, TRef.ofBuf, cast_eq]
  after_results_simp

theorem V_up (c : Dev nD) : V m c main_v18 = (truncf .bf16 (m ((c : Thread nD τ).loc main_arg3) : FVec F S8x1024x3584 .f32) bitsLt_bf16_f32 : FVec F S8x1024x3584 .bf16) := by
  show StableHlo.after (List.flatten [hostOps0, hostOps0_1, hostOps0_2, hostOps0_3]) (fun b => m (c, b)) _ = _
  simp only [List.flatten_cons, List.flatten_nil, List.append_nil, hostOps0, hostOps0_1, hostOps0_2, hostOps0_3, List.cons_append, List.nil_append, TRef.binary, TRef.nullary, TRef.ternary, TRef.unary, TRef.toBuf, TRef.ofBuf, cast_eq]
  after_results_simp

theorem V_down (c : Dev nD) : V m c main_v19 = (truncf .bf16 (m ((c : Thread nD τ).loc main_arg4) : FVec F S8x3584x1024 .f32) bitsLt_bf16_f32 : FVec F S8x3584x1024 .bf16) := by
  show StableHlo.after (List.flatten [hostOps0, hostOps0_1, hostOps0_2, hostOps0_3]) (fun b => m (c, b)) _ = _
  simp only [List.flatten_cons, List.flatten_nil, List.append_nil, hostOps0, hostOps0_1, hostOps0_2, hostOps0_3, List.cons_append, List.nil_append, TRef.binary, TRef.nullary, TRef.ternary, TRef.unary, TRef.toBuf, TRef.ofBuf, cast_eq]
  after_results_simp

theorem coords_lt (i : grid0.Coords) : (BitVec.ofNat 32 (i 1).val).toNat < 2 := by
  have h : (i 1).val < 2 := (i 1).isLt
  rw [BitVec.toNat_ofNat]; omega

theorem first_inside (a b : ℕ) (ha : a < 8) (hb : b < 2) (x : Fin 3) : ((![a, 0, b] : Fin 3 → ℕ) x + 1) * S1x1024x1792.size x ≤ S8x1024x3584.size x := by
  fin_cases x
  · show (a + 1) * 1 ≤ 8; omega
  · show (0 + 1) * 1024 ≤ 1024; omega
  · show (b + 1) * 1792 ≤ 3584; omega

theorem second_inside (a b : ℕ) (ha : a < 8) (hb : b < 2) (x : Fin 3) : ((![a, b, 0] : Fin 3 → ℕ) x + 1) * S1x1792x1024.size x ≤ S8x3584x1024.size x := by
  fin_cases x
  · show (a + 1) * 1 ≤ 8; omega
  · show (b + 1) * 1792 ≤ 3584; omega
  · show (0 + 1) * 1024 ≤ 1024; omega

/-- The table's word a grid point's index maps read. -/
abbrev wordAt (pf : pre0.Contents (Elt F)) (i : grid0.Coords) : BitVec 32 :=
  pf.at 0 (Rect.unit (s := S200) ![(Scalar.indexCast (BitVec.ofNat 32 (i 0).val)).toNat] S1.size (k0_off1_inb i)) numel1_S1

theorem ok_of_lt (pf : pre0.Contents (Elt F)) (h : ∀ i, (wordAt pf i).toNat < 8) : ok0 pf :=
  ⟨fun i => ⟨fun a => first_inside _ _ (h i) (coords_lt i) a, .inr (Affine.block_words_rows (by decide) (by decide))⟩,
   fun i => ⟨fun a => first_inside _ _ (h i) (coords_lt i) a, .inr (Affine.block_words_rows (by decide) (by decide))⟩,
   fun i => ⟨fun a => second_inside _ _ (h i) (coords_lt i) a, .inr (Affine.block_words_dvd (by decide) (by decide))⟩⟩

theorem tbl_experts : tbl m 0 = expertOf (ends (m (((0 : Dev nD) : Thread nD τ).loc main_arg1))) := V_experts m 0

/-- Every window stays inside its array, whatever the arguments are. -/
theorem ok : Ok m := ok_of_lt (tbl m) fun i => by
  show (tbl m 0 _ : BitVec 32).toNat < 8
  rw [tbl_experts]
  exact expertOf_lt _ _

end Cert.Experts

end
-- ==== Proof.Experts.Same.lean ====
/-
  The experts' program and the one read at the reals are one text: a run of the second is a run of the first.
-/
module

public import proofs.«01_k».proof.Proof.Gen.Experts
public import proofs.«01_k».proof.Proof.Gen.ExpertsIdeal
public import Idealize.ShloMosaic.Lib.Tactic

@[expose] public section

set_option maxRecDepth 16384
set_option maxHeartbeats 1000000

namespace Cert.ExpertsSame

open Idealize.ShloMosaic Idealize.ShloMosaic.Tactic Idealize.SL.Sem

variable {F : FTy → Type} [FloatOps F]

theorem body_eq : Cert.Experts.cc0_moe_experts (F := F) = Cert.ExpertsIdeal.cc0_moe_experts (F := F) := by sl_kernel_rfl

theorem bodies_eq : (Cert.Experts.defs₀ (F := F) : Defs Cert.Experts.nD Cert.Experts.τ Cert.Experts.sig (Elt F) Cert.Experts.Λ₀) = Cert.ExpertsIdeal.defs₀ (F := F) := by
  refine congrArg Defs.onTc ?_
  funext ℓ args
  match ℓ, args with
  | ⟨0, _⟩, (t, s) => rfl

theorem defs_eq : (Cert.Experts.defs (F := F) : Defs Cert.Experts.nD Cert.Experts.τ Cert.Experts.sig (Elt F) _) = Cert.ExpertsIdeal.defs (F := F) :=
  congrArg (fun d => Pipeline.defs (Cert.ExpertsIdeal.pcfgs (F := F)) d) bodies_eq

theorem main_at (c : Dev Cert.Experts.nD) : Cert.Experts.main (F := F) c = Cert.ExpertsIdeal.main (F := F) c := by
  sl_kernel_rfl

theorem main_eq : Cert.Experts.main (F := F) = Cert.ExpertsIdeal.main (F := F) := funext fun c => main_at c

theorem run_same (s : MemSt Cert.ExpertsIdeal.nD Cert.ExpertsIdeal.τ Cert.ExpertsIdeal.sig (Elt F)) (Q : PUnit × MemSt Cert.ExpertsIdeal.nD Cert.ExpertsIdeal.τ Cert.ExpertsIdeal.sig (Elt F) → Prop)
    (h : θ_run (Cert.ExpertsIdeal.defs (F := F)) (onTc (τ := Cert.ExpertsIdeal.τ) (Cert.ExpertsIdeal.main (F := F))) s Q) :
    θ_run (Cert.Experts.defs (F := F)) (onTc (τ := Cert.Experts.τ) (Cert.Experts.main (F := F))) s Q :=
  Eq.mpr (congrArg₂ (fun d (p : Dev Cert.ExpertsIdeal.nD → Prog (TpuEff Cert.ExpertsIdeal.nD Cert.ExpertsIdeal.τ Cert.ExpertsIdeal.sig (Elt F)
    (Pipeline.Sig Cert.ExpertsIdeal.Λ₀ (Fin 1) fun p => (Cert.ExpertsIdeal.pcfgs (F := F) p).Adm) .tc) PUnit) => θ_run d (onTc (τ := Cert.ExpertsIdeal.τ) p) s Q) defs_eq main_eq) h

end Cert.ExpertsSame
-- ==== Proof.Experts.Spec.lean ====
/-
  What the experts' call computes, entry by entry, at the exact numbers: the numbers packed in a row of words, a token's hidden
  value at one place of the feed-forward width, and a row's result; and how a table lookup of whole matrices reads at an index.
-/
module

public import proofs.«01_k».proof.Proof.Experts.Table
public import Idealize.ShloMosaic.Lib.Pointwise

@[expose] public section

set_option maxRecDepth 16384

noncomputable section

namespace Cert.Experts

open Cert.ExpertsIdeal Cert.ExpertsIdeal.Gen
open Idealize.ShloMosaic Idealize.ShloMosaic.TcCoe

/-- The number at place `k` of a row of words: the low half of the word `k`, or the high half of the word `k - 512`. -/
def number (x : S102400x512.Idx → BitVec 32) (r : Fin 102400) (k : Fin 1024) : EReal :=
  if h : k.val < 512 then Ideal.ofBits .f32 (IntOp.shli .vector (x (ix2 r ⟨k.val, h⟩)) 16#32)
  else Ideal.ofBits .f32 (IntOp.andi (x (ix2 r ⟨k.val - 512, by omega⟩)) 4294901760#32)

/-- The hidden value of a row for an expert: silu of the gate's product, times the other product. -/
def hidden (x : S102400x512.Idx → BitVec 32) (wg wu : S8x1024x3584.Idx → EReal) (e : Fin 8) (r : Fin 102400) (f : Fin 3584) : EReal :=
  (∑ k, number x r k * wg (ix3 e k f)) * Ideal.logistic (∑ k, number x r k * wg (ix3 e k f)) * ∑ k, number x r k * wu (ix3 e k f)

/-- The block of 512 rows that a row lies in. -/
def blockOf (r : Fin 102400) : Fin 200 := ⟨r.val / 512, by omega⟩

/-- The expert of a block, as a place in the weights. -/
def expertAt (cnt : S8.Idx → BitVec 32) (b : Fin 200) : Fin 8 := ⟨(expertOf (ends cnt) (ix1 b)).toNat, expertOf_lt _ _⟩

/-- A block is in use: its number lies before the end of the last expert's blocks. -/
def InUse (cnt : S8.Idx → BitVec 32) (b : Fin 200) : Prop := IntOp.cmpi .slt (BitVec.ofNat 32 b.val) (ends cnt (ix1 7)) = 1#1

open Classical in
/-- The result at a row and a column. -/
def resultAt (x : S102400x512.Idx → BitVec 32) (cnt : S8.Idx → BitVec 32) (wg wu : S8x1024x3584.Idx → EReal) (wd : S8x3584x1024.Idx → EReal)
    (r : Fin 102400) (c : Fin 1024) : EReal :=
  if InUse cnt (blockOf r) then ∑ f, hidden x wg wu (expertAt cnt (blockOf r)) r f * wd (ix3 (expertAt cnt (blockOf r)) f c) else 0

/-- A lookup of whole matrices in a stack of them, read at an index: the matrix the word names, the word held inside the stack. -/
theorem gather_stack {α : Type} {E n A B : ℕ} (wf) (x : (⟨3, ![E, A, B]⟩ : Shape).Idx → α) (idx : (⟨2, ![n, 1]⟩ : Shape).Idx → BitVec 32)
    (b : Fin n) (p : Fin A) (q : Fin B) (e : Fin E) (he : min (idx (ix2 b (0 : Fin 1))).toInt.toNat (E - 1) = e.val) :
    Host.gather (⟨[1, 2], [0], [], [], [0], 1, ![1, A, B], wf⟩ : GatherDims ⟨3, ![E, A, B]⟩ ⟨2, ![n, 1]⟩ ⟨3, ![n, A, B]⟩) x idx (ix3 b p q) = x (ix3 e p q) := by
  unfold Host.gather
  congr 1
  funext a
  apply Fin.ext
  match a with
  | ⟨0, _⟩ =>
    show min (idx (GatherDims.siIdx _ _ _)).toInt.toNat (E - 1) + 0 + 0 = e.val
    rw [← he]
    refine congrArg (fun i => min (idx i).toInt.toNat (E - 1)) ?_
    funext a
    match a with
    | ⟨0, _⟩ => rfl
    | ⟨1, _⟩ => rfl
  | ⟨1, _⟩ => exact (Nat.zero_add _).trans rfl
  | ⟨2, _⟩ => exact (Nat.zero_add _).trans rfl

end Cert.Experts

end
-- ==== Proof.Experts.Pay.lean ====
/-
  What the experts' kernel reads at a grid point, entry by entry: the packed rows of the point's block, the point's half of the
  weights of the block's expert, and the word that says whether the block is in use.
-/
module

public import proofs.«01_k».proof.Proof.Experts.Frame
public import proofs.«01_k».proof.Proof.Experts.Spec
public import Idealize.ShloMosaic.Lib.Pipeline.ValueKit

@[expose] public section

set_option maxRecDepth 16384

noncomputable section

namespace Cert.Experts

open Cert.ExpertsIdeal Cert.ExpertsIdeal.Gen
open Idealize.ShloMosaic Idealize.ShloMosaic.TcCoe Idealize.SL.Sem

variable {F : FTy → Type} [FloatOps F] (m : (ℓ : Loc nD τ sig) → Buf (Elt F) ℓ)

theorem coords_val : ∀ t : Fin grid0.N, (grid0.coords t 0).val = t.val / 2 ∧ (grid0.coords t 1).val = t.val % 2 := by decide +kernel

theorem block_lt (t : Fin grid0.N) : t.val / 2 < 200 := by have : t.val < 400 := t.isLt; omega

theorem coord_word (t : Fin grid0.N) : (BitVec.ofNat 32 (grid0.coords t 0).val).toNat = t.val / 2 := by
  rw [(coords_val t).1, BitVec.toNat_ofNat]; have := block_lt t; omega

theorem half_word (t : Fin grid0.N) : (BitVec.ofNat 32 (grid0.coords t 1).val).toNat = t.val % 2 := by
  rw [(coords_val t).2, BitVec.toNat_ofNat]; omega

/-- The block of packed rows at a point. -/
theorem words_block (hO : Ok m) (c : Dev nD) (t : Fin (cfgM m hO).N) (r k : Fin 512) :
    iblk m hO c 0 t (ix2 r k) = (V m c main_arg0 : S102400x512.Idx → BitVec 32) (ix2 ⟨t.val / 2 * 512 + r.val, by have := block_lt t; omega⟩ k) := by
  show (V m c main_arg0 : S102400x512.Idx → BitVec 32) _ = _
  refine congrArg _ ?_
  funext a
  apply Fin.ext
  match a with
  | ⟨0, _⟩ =>
    show (BitVec.ofNat 32 (grid0.coords t 0).val).toNat * 512 + 1 * r.val = t.val / 2 * 512 + r.val
    rw [coord_word]; omega
  | ⟨1, _⟩ =>
    show (0#32).toNat * 512 + 1 * k.val = k.val
    simp

/-- The word the index maps read at a point is the expert of the point's block. -/
theorem word_val (t : Fin grid0.N) : wordAt (tbl m) (grid0.coords t) = expertOf (ends (m (((0 : Dev nD) : Thread nD τ).loc main_arg1))) (ix1 ⟨t.val / 2, block_lt t⟩) := by
  show (tbl m 0 _ : BitVec 32) = _
  rw [tbl_experts]
  refine congrArg _ ?_
  funext a
  apply Fin.ext
  match a with
  | ⟨0, _⟩ =>
    show (BitVec.ofNat 32 (grid0.coords t 0).val).toNat + 1 * 0 = t.val / 2
    rw [coord_word]; rfl

/-- The expert of a point's block. -/
abbrev expertAtPoint (t : Fin grid0.N) : Fin 8 := expertAt (m (((0 : Dev nD) : Thread nD τ).loc main_arg1)) ⟨t.val / 2, block_lt t⟩

theorem word_toNat (t : Fin grid0.N) : (wordAt (tbl m) (grid0.coords t)).toNat = (expertAtPoint m t).val := by rw [word_val]; rfl

/-- Where an entry of the gate's block lies in its array, at any tables. -/
theorem gate_place (a : (pcfg0 (F := F)).Adm) (t : Fin (cfg0 a).N) (e : Fin 8) (he : (wordAt a.1 (grid0.coords t)).toNat = e.val) (k : Fin 1024) (f : Fin 1792) :
    ((((cfg0 a).win 1).blk t).view.emb (ix3 (0 : Fin 1) k f) : S8x1024x3584.Idx) = ix3 e k ⟨t.val % 2 * 1792 + f.val, by omega⟩ := by
  funext b
  apply Fin.ext
  match b with
  | ⟨0, _⟩ =>
    show (wordAt a.1 (grid0.coords t)).toNat * 1 + 1 * 0 = e.val
    rw [he]; omega
  | ⟨1, _⟩ =>
    show (0#32).toNat * 1024 + 1 * k.val = k.val
    simp
  | ⟨2, _⟩ =>
    show (BitVec.ofNat 32 (grid0.coords t 1).val).toNat * 1792 + 1 * f.val = t.val % 2 * 1792 + f.val
    rw [half_word]; omega

/-- Where an entry of the other first-layer block lies in its array. -/
theorem up_place (a : (pcfg0 (F := F)).Adm) (t : Fin (cfg0 a).N) (e : Fin 8) (he : (wordAt a.1 (grid0.coords t)).toNat = e.val) (k : Fin 1024) (f : Fin 1792) :
    ((((cfg0 a).win 2).blk t).view.emb (ix3 (0 : Fin 1) k f) : S8x1024x3584.Idx) = ix3 e k ⟨t.val % 2 * 1792 + f.val, by omega⟩ := by
  funext b
  apply Fin.ext
  match b with
  | ⟨0, _⟩ =>
    show (wordAt a.1 (grid0.coords t)).toNat * 1 + 1 * 0 = e.val
    rw [he]; omega
  | ⟨1, _⟩ =>
    show (0#32).toNat * 1024 + 1 * k.val = k.val
    simp
  | ⟨2, _⟩ =>
    show (BitVec.ofNat 32 (grid0.coords t 1).val).toNat * 1792 + 1 * f.val = t.val % 2 * 1792 + f.val
    rw [half_word]; omega

/-- Where an entry of the second-layer block lies in its array. -/
theorem down_place (a : (pcfg0 (F := F)).Adm) (t : Fin (cfg0 a).N) (e : Fin 8) (he : (wordAt a.1 (grid0.coords t)).toNat = e.val) (f : Fin 1792) (j : Fin 1024) :
    ((((cfg0 a).win 3).blk t).view.emb (ix3 (0 : Fin 1) f j) : S8x3584x1024.Idx) = ix3 e ⟨t.val % 2 * 1792 + f.val, by omega⟩ j := by
  funext b
  apply Fin.ext
  match b with
  | ⟨0, _⟩ =>
    show (wordAt a.1 (grid0.coords t)).toNat * 1 + 1 * 0 = e.val
    rw [he]; omega
  | ⟨1, _⟩ =>
    show (BitVec.ofNat 32 (grid0.coords t 1).val).toNat * 1792 + 1 * f.val = t.val % 2 * 1792 + f.val
    rw [half_word]; omega
  | ⟨2, _⟩ =>
    show (0#32).toNat * 1024 + 1 * j.val = j.val
    simp

theorem gate_block (hO : Ok m) (c : Dev nD) (t : Fin (cfgM m hO).N) (k : Fin 1024) (f : Fin 1792) :
    iblk m hO c 1 t (ix3 (0 : Fin 1) k f) = (V m c main_v17 : FVec F S8x1024x3584 .bf16) (ix3 (expertAtPoint m t) k ⟨t.val % 2 * 1792 + f.val, by omega⟩) :=
  congrArg (V m c main_v17 : FVec F S8x1024x3584 .bf16) (gate_place (adm m hO) t (expertAtPoint m t) (word_toNat m t) k f)

theorem up_block (hO : Ok m) (c : Dev nD) (t : Fin (cfgM m hO).N) (k : Fin 1024) (f : Fin 1792) :
    iblk m hO c 2 t (ix3 (0 : Fin 1) k f) = (V m c main_v18 : FVec F S8x1024x3584 .bf16) (ix3 (expertAtPoint m t) k ⟨t.val % 2 * 1792 + f.val, by omega⟩) :=
  congrArg (V m c main_v18 : FVec F S8x1024x3584 .bf16) (up_place (adm m hO) t (expertAtPoint m t) (word_toNat m t) k f)

theorem down_block (hO : Ok m) (c : Dev nD) (t : Fin (cfgM m hO).N) (f : Fin 1792) (j : Fin 1024) :
    iblk m hO c 3 t (ix3 (0 : Fin 1) f j) = (V m c main_v19 : FVec F S8x3584x1024 .bf16) (ix3 (expertAtPoint m t) ⟨t.val % 2 * 1792 + f.val, by omega⟩ j) :=
  congrArg (V m c main_v19 : FVec F S8x3584x1024 .bf16) (down_place (adm m hO) t (expertAtPoint m t) (word_toNat m t) f j)

/-- The word the body reads is the table's only one. -/
theorem usedWord_eq (c : Dev nD) (w : S1.Idx → BitVec 32) : usedWord (F := F) c w = w (ix1 (0 : Fin 1)) :=
  congrArg w (by
    funext a
    match a with
    | ⟨0, _⟩ => rfl)

theorem tbl_used : tbl m 1 = extractStridedSlice S1 ![7] (ends (m (((0 : Dev nD) : Thread nD τ).loc main_arg1))) slices_S8_S1_7 := V_used m 0

/-- The tests of the body, as one comparison. -/
theorem test_iff (a b : BitVec 32) : (Scalar.cmpi .ne (Scalar.extui (Scalar.cmpi .slt a b)) 0#32 : BitVec 1) = 1#1 ↔ IntOp.cmpi .slt a b = 1#1 := by
  show (IntOp.cmpi .ne (BitVec.setWidth 32 (IntOp.cmpi .slt a b)) 0#32 : BitVec 1) = 1#1 ↔ _
  generalize IntOp.cmpi .slt a b = w
  revert w
  decide

/-- A point's body adds its half exactly where the point's block is in use. -/
theorem used_iff (t : Fin grid0.N) : Used m t ↔ InUse (m (((0 : Dev nD) : Thread nD τ).loc main_arg1)) ⟨t.val / 2, block_lt t⟩ := by
  have hw : usedWord (F := F) (0 : Dev nD) (tbl m 1) = ends (m (((0 : Dev nD) : Thread nD τ).loc main_arg1)) (ix1 7) := by
    rw [tbl_used]
    exact (usedWord_eq 0 _).trans (congrArg (ends _) (by
      funext a
      match a with
      | ⟨0, _⟩ => rfl))
  unfold Used InUse
  rw [hw]
  unfold cond0_1
  rw [test_iff, (coords_val t).1]

end Cert.Experts

end
-- ==== Proof.Experts.Value.lean ====
/-
  The experts' kernel at the exact numbers: what a point adds to the block's sum, the sum at a block's second point, and the array
  the launch leaves.
-/
module

public import proofs.«01_k».proof.Proof.Experts.Pay

@[expose] public section

set_option maxRecDepth 16384

noncomputable section

namespace Cert.Experts

open Cert.ExpertsIdeal Cert.ExpertsIdeal.Gen
open Idealize.ShloMosaic Idealize.ShloMosaic.TcCoe Idealize.SL.Sem

variable (m : (ℓ : Loc nD τ sig) → Buf (Elt Ideal) ℓ)

/-- The packed rows, the experts' counts and the three weights as launched. -/
abbrev rowsIn : S102400x512.Idx → BitVec 32 := m (((0 : Dev nD) : Thread nD τ).loc main_arg0)
abbrev countsIn : S8.Idx → BitVec 32 := m (((0 : Dev nD) : Thread nD τ).loc main_arg1)
abbrev gateIn : S8x1024x3584.Idx → EReal := m (((0 : Dev nD) : Thread nD τ).loc main_arg2)
abbrev upIn : S8x1024x3584.Idx → EReal := m (((0 : Dev nD) : Thread nD τ).loc main_arg3)
abbrev downIn : S8x3584x1024.Idx → EReal := m (((0 : Dev nD) : Thread nD τ).loc main_arg4)

theorem tokens_apply (w : S512x512.Idx → BitVec 32) (r : Fin 512) (k : Fin 1024) :
    tokens (F := Ideal) w (ix2 r k) = if h : k.val < 512 then Ideal.ofBits .f32 (IntOp.shli .vector (w (ix2 r ⟨k.val, h⟩)) 16#32)
      else Ideal.ofBits .f32 (IntOp.andi (w (ix2 r ⟨k.val - 512, by omega⟩)) 4294901760#32) := by
  unfold tokens
  pointwise [k0_pay1, k0_pay2]
  simp only [← ix2_eq_valueIdx]

/-- The numbers of a point's block. -/
theorem tokens_val (hO : Ok m) (t : Fin (cfgM m hO).N) (r : Fin 512) (k : Fin 1024) :
    tokens (F := Ideal) (iblk m hO 0 0 t) (ix2 r k) = number (rowsIn m) ⟨t.val / 2 * 512 + r.val, by have := block_lt t; omega⟩ k := by
  refine (tokens_apply (iblk m hO 0 0 t) r k).trans ?_
  unfold number
  refine dite_congr rfl (fun h => ?_) (fun h => ?_)
  · exact congrArg (fun w => Ideal.ofBits .f32 (IntOp.shli .vector w 16#32)) ((words_block m hO 0 t r _).trans (congrFun (V_main_arg0 m 0) _))
  · exact congrArg (fun w => Ideal.ofBits .f32 (IntOp.andi w 4294901760#32)) ((words_block m hO 0 t r _).trans (congrFun (V_main_arg0 m 0) _))

theorem gate_val (hO : Ok m) (t : Fin (cfgM m hO).N) (k : Fin 1024) (f : Fin 1792) :
    iblk m hO 0 1 t (ix3 (0 : Fin 1) k f) = gateIn m (ix3 (expertAtPoint m t) k ⟨t.val % 2 * 1792 + f.val, by omega⟩) :=
  (gate_block m hO 0 t k f).trans (congrFun (V_gate m 0) _)

theorem up_val (hO : Ok m) (t : Fin (cfgM m hO).N) (k : Fin 1024) (f : Fin 1792) :
    iblk m hO 0 2 t (ix3 (0 : Fin 1) k f) = upIn m (ix3 (expertAtPoint m t) k ⟨t.val % 2 * 1792 + f.val, by omega⟩) :=
  (up_block m hO 0 t k f).trans (congrFun (V_up m 0) _)

theorem down_val (hO : Ok m) (t : Fin (cfgM m hO).N) (f : Fin 1792) (j : Fin 1024) :
    iblk m hO 0 3 t (ix3 (0 : Fin 1) f j) = downIn m (ix3 (expertAtPoint m t) ⟨t.val % 2 * 1792 + f.val, by omega⟩ j) :=
  (down_block m hO 0 t f j).trans (congrFun (V_down m 0) _)

/-- What a point's body stores, entry by entry: what it held plus the half's products. -/
theorem pay4_apply (x : FVec Ideal S512x1024 .bf16) (wg wu : FVec Ideal S1x1024x1792 .bf16) (acc : FVec Ideal S512x1024 .f32) (wd : FVec Ideal S1x1792x1024 .bf16)
    (r : Fin 512) (j : Fin 1024) :
    k0_pay4 x wg wu acc wd (ix2 r j) = acc (ix2 r j) + ∑ f, ((∑ k, x (ix2 r k) * wg (ix3 0 k f)) * Ideal.logistic (∑ k, x (ix2 r k) * wg (ix3 0 k f))
      * ∑ k, x (ix2 r k) * wu (ix3 0 k f)) * wd (ix3 0 f j) := by
  pointwise [k0_pay4]

/-- The same from what its operands read. -/
theorem pay4_of (x : FVec Ideal S512x1024 .bf16) (wg wu : FVec Ideal S1x1024x1792 .bf16) (acc : FVec Ideal S512x1024 .f32) (wd : FVec Ideal S1x1792x1024 .bf16)
    (r : Fin 512) (j : Fin 1024) (X : Fin 1024 → EReal) (G U : Fin 1024 → Fin 1792 → EReal) (D : Fin 1792 → EReal)
    (hx : ∀ k, x (ix2 r k) = X k) (hg : ∀ k f, wg (ix3 0 k f) = G k f) (hu : ∀ k f, wu (ix3 0 k f) = U k f) (hd : ∀ f, wd (ix3 0 f j) = D f) :
    k0_pay4 x wg wu acc wd (ix2 r j) = acc (ix2 r j) + ∑ f, ((∑ k, X k * G k f) * Ideal.logistic (∑ k, X k * G k f) * ∑ k, X k * U k f) * D f := by
  rw [pay4_apply]
  simp only [hx, hg, hu, hd]

/-- One half of a row's result. -/
def halfSum (x : S102400x512.Idx → BitVec 32) (wg wu : S8x1024x3584.Idx → EReal) (wd : S8x3584x1024.Idx → EReal) (e : Fin 8) (r : Fin 102400) (j : Fin 1024)
    (h : ℕ) (hh : h < 2) : EReal :=
  ∑ f : Fin 1792, hidden x wg wu e r ⟨h * 1792 + f.val, by omega⟩ * wd (ix3 e ⟨h * 1792 + f.val, by omega⟩ j)

theorem halves (x : S102400x512.Idx → BitVec 32) (wg wu : S8x1024x3584.Idx → EReal) (wd : S8x3584x1024.Idx → EReal) (e : Fin 8) (r : Fin 102400) (j : Fin 1024) :
    halfSum x wg wu wd e r j 0 (by omega) + halfSum x wg wu wd e r j 1 (by omega) = ∑ f, hidden x wg wu e r f * wd (ix3 e f j) := by
  rw [Fin.sum_univ_two_halves 1792 1792 rfl]
  unfold halfSum
  simp only [Nat.zero_mul, Nat.zero_add, Nat.one_mul]

/-- What a point adds to an entry of the block's sum. -/
theorem point_adds (hO : Ok m) (s t : Fin (cfgM m hO).N) (b : Fin 200) (h : ℕ) (hh : h < 2) (hs : s.val / 2 = b.val) (ht : t.val / 2 = b.val) (hm : t.val % 2 = h)
    (acc : FVec Ideal S512x1024 .f32) (r : Fin 512) (j : Fin 1024) :
    k0_pay4 (tokens (F := Ideal) (iblk m hO 0 0 s)) (iblk m hO 0 1 t) (iblk m hO 0 2 t) acc (iblk m hO 0 3 t) (ix2 r j)
      = acc (ix2 r j) + halfSum (rowsIn m) (gateIn m) (upIn m) (downIn m) (expertAt (countsIn m) b) ⟨b.val * 512 + r.val, by omega⟩ j h hh := by
  subst hm
  have he : expertAtPoint m t = expertAt (countsIn m) b := congrArg (expertAt (countsIn m)) (Fin.ext ht)
  have hr : (⟨s.val / 2 * 512 + r.val, by have := block_lt s; omega⟩ : Fin 102400) = ⟨b.val * 512 + r.val, by omega⟩ := Fin.ext (by show s.val / 2 * 512 + r.val = _; rw [hs])
  have hx : ∀ k, tokens (F := Ideal) (iblk m hO 0 0 s) (ix2 r k) = number (rowsIn m) ⟨b.val * 512 + r.val, by omega⟩ k := fun k => (tokens_val m hO s r k).trans (congrArg (fun i => number (rowsIn m) i k) hr)
  have hg : ∀ k f, iblk m hO 0 1 t (ix3 (0 : Fin 1) k f) = gateIn m (ix3 (expertAt (countsIn m) b) k ⟨t.val % 2 * 1792 + f.val, by omega⟩) := fun k f => (gate_val m hO t k f).trans (by rw [he])
  have hu : ∀ k f, iblk m hO 0 2 t (ix3 (0 : Fin 1) k f) = upIn m (ix3 (expertAt (countsIn m) b) k ⟨t.val % 2 * 1792 + f.val, by omega⟩) := fun k f => (up_val m hO t k f).trans (by rw [he])
  have hd : ∀ f, iblk m hO 0 3 t (ix3 (0 : Fin 1) f j) = downIn m (ix3 (expertAt (countsIn m) b) ⟨t.val % 2 * 1792 + f.val, by omega⟩ j) := fun f => (down_val m hO t f j).trans (by rw [he])
  exact pay4_of _ _ _ acc _ r j _ _ _ _ hx hg hu hd

theorem zero_apply (r : Fin 512) (j : Fin 1024) : k0_pay3 (F := Ideal) (ix2 r j) = 0 := by
  pointwise [k0_pay3]

/-- The block's sum at its second point, the block in use. -/
theorem sum_used (hO : Ok m) (s t : Fin (cfgM m hO).N) (b : Fin 200) (hs : s.val / 2 = b.val) (hs' : s.val % 2 = 0) (ht : t.val / 2 = b.val) (ht' : t.val % 2 = 1)
    (ps : Used m s) (pt : Used m t) (r : Fin 512) (j : Fin 1024) :
    sum1 m hO 0 s t (ix2 r j) = ∑ f, hidden (rowsIn m) (gateIn m) (upIn m) (expertAt (countsIn m) b) ⟨b.val * 512 + r.val, by omega⟩ f * downIn m (ix3 (expertAt (countsIn m) b) f j) := by
  have e0 : sum0 m hO 0 s (ix2 r j) = halfSum (rowsIn m) (gateIn m) (upIn m) (downIn m) (expertAt (countsIn m) b) ⟨b.val * 512 + r.val, by omega⟩ j 0 (by omega) := by
    unfold sum0
    rw [if_pos ps]
    refine (point_adds m hO s s b 0 (by omega) hs hs hs' k0_pay3 r j).trans ?_
    rw [zero_apply, zero_add]
  rw [← halves, ← e0]
  unfold sum1
  rw [if_pos pt]
  exact point_adds m hO s t b 1 (by omega) hs ht ht' (sum0 m hO 0 s) r j

/-- The block's sum at its second point, the block not in use. -/
theorem sum_unused (hO : Ok m) (s t : Fin (cfgM m hO).N) (ns : ¬Used m s) (nt : ¬Used m t) (r : Fin 512) (j : Fin 1024) :
    sum1 m hO 0 s t (ix2 r j) = 0 := by
  unfold sum1
  rw [if_neg nt]
  unfold sum0
  rw [if_neg ns]
  exact zero_apply r j

/-- The block's sum at its second point is the result. -/
theorem sum_val (hO : Ok m) (s t : Fin (cfgM m hO).N) (b : Fin 200) (hs : s.val / 2 = b.val) (hs' : s.val % 2 = 0) (ht : t.val / 2 = b.val) (ht' : t.val % 2 = 1)
    (r : Fin 512) (j : Fin 1024) :
    sum1 m hO 0 s t (ix2 r j) = resultAt (rowsIn m) (countsIn m) (gateIn m) (upIn m) (downIn m) ⟨b.val * 512 + r.val, by omega⟩ j := by
  have hb : blockOf ⟨b.val * 512 + r.val, by omega⟩ = b := Fin.ext (by show (b.val * 512 + r.val) / 512 = b.val; omega)
  have us : Used m s ↔ InUse (countsIn m) b := by
    rw [used_iff m s]; exact iff_of_eq (congrArg (InUse (countsIn m)) (Fin.ext hs))
  have ut : Used m t ↔ InUse (countsIn m) b := by
    rw [used_iff m t]; exact iff_of_eq (congrArg (InUse (countsIn m)) (Fin.ext ht))
  unfold resultAt
  rw [hb]
  by_cases hu : InUse (countsIn m) b
  · rw [if_pos hu]
    exact sum_used m hO s t b hs hs' ht ht' (us.mpr hu) (ut.mpr hu) r j
  · rw [if_neg hu]
    exact sum_unused m hO s t (mt us.mp hu) (mt ut.mp hu) r j

/-- Where an entry of the result's block lies in the array, at any tables. -/
theorem result_place (a : (pcfg0 (F := Ideal)).Adm) (t : Fin (cfg0 a).N) (r : Fin 512) (j : Fin 1024) :
    ((((cfg0 a).win 4).blk t).view.emb (ix2 r j) : S102400x1024.Idx) = ix2 ⟨t.val / 2 * 512 + r.val, by have := block_lt t; omega⟩ j := by
  funext b
  apply Fin.ext
  match b with
  | ⟨0, _⟩ =>
    show (BitVec.ofNat 32 (grid0.coords t 0).val).toNat * 512 + 1 * r.val = t.val / 2 * 512 + r.val
    rw [coord_word]; omega
  | ⟨1, _⟩ =>
    show (0#32).toNat * 1024 + 1 * j.val = j.val
    simp

/-- The whole result. -/
def resultArr : S102400x1024.Idx → EReal := fun i => resultAt (rowsIn m) (countsIn m) (gateIn m) (upIn m) (downIn m) (i 0) (i 1)

/-- Every entry of the result lies in the block of its second point. -/
theorem covered (a : (pcfg0 (F := Ideal)).Adm) (i : S102400x1024.Idx) :
    ∃ t : Fin (cfg0 a).N, ((cfg0 a).win 4).flush t = true ∧ i ∈ (((cfg0 a).win 4).blk t).view.set := by
  have h0 : (i 0).val < 102400 := (i 0).isLt
  have hlt : 2 * ((i 0).val / 512) + 1 < 400 := by omega
  refine ⟨⟨2 * ((i 0).val / 512) + 1, hlt⟩, ?_, ?_⟩
  · exact (flush0_4 a _).mpr (by show (2 * ((i 0).val / 512) + 1) % 2 = 1; omega)
  · have hp := result_place a ⟨2 * ((i 0).val / 512) + 1, hlt⟩ ⟨(i 0).val % 512, by omega⟩ (i 1)
    have hi : (ix2 ⟨(2 * ((i 0).val / 512) + 1) / 2 * 512 + (i 0).val % 512, by omega⟩ (i 1) : S102400x1024.Idx) = i := by
      funext b
      apply Fin.ext
      match b with
      | ⟨0, _⟩ => show (2 * ((i 0).val / 512) + 1) / 2 * 512 + (i 0).val % 512 = (i 0).val; omega
      | ⟨1, _⟩ => rfl
    have hm := (((cfg0 a).win 4).blk ⟨2 * ((i 0).val / 512) + 1, hlt⟩).view.emb_mem_set (ix2 ⟨(i 0).val % 512, by omega⟩ (i 1) : S512x1024.Idx)
    exact (congrArg (· ∈ (((cfg0 a).win 4).blk ⟨2 * ((i 0).val / 512) + 1, hlt⟩).view.set) (hp.trans hi)).mp hm

/-- The array the launch leaves. -/
theorem final (hO : Ok m) : (dats m hO 0 0).arrAt 4 (cfgM m hO).N = resultArr m := by
  refine (dats m hO 0 0).arrAt_eq_of_emb 4 (resultArr m) (fun t hf y => ?_) (covered (adm m hO))
  obtain ⟨r, j, rfl⟩ : ∃ (r : Fin 512) (j : Fin 1024), y = (ix2 r j : S512x1024.Idx) :=
    ⟨(show S512x1024.Idx from y) 0, (show S512x1024.Idx from y) 1, by funext a; match a with | ⟨0, _⟩ => rfl | ⟨1, _⟩ => rfl⟩
  have ho : t.val % 2 = 1 := (flush0_4 (adm m hO) t).mp hf
  have hp := result_place (adm m hO) t r j
  refine Eq.trans ?_ (congrArg (resultArr m) hp).symm
  have h1 : t.val < 400 := t.isLt
  have hv := sum_val m hO ⟨t.val - 1, lt_of_le_of_lt (Nat.sub_le _ _) t.isLt⟩ t ⟨t.val / 2, block_lt t⟩ (by show (t.val - 1) / 2 = t.val / 2; omega) (by show (t.val - 1) % 2 = 0; omega) rfl ho r j
  refine Eq.trans ?_ hv
  show (dats m hO 0 0).after 4 t (ix2 r j) = _
  rw [after_4, held_odd m hO 0 t.val t.isLt (by omega)]

/-- The run with its result: every execution leaves the experts' result, the arguments as launched and every counter zero. -/
theorem run_value (ρ : Dev nD → PrngReg) : θ_run defs (onTc (τ := τ) (main (F := Ideal))) ⟨m, fun _ => 0, ρ⟩ (fun r => ∀ c : Dev nD,
      r.2.mem ((c.tc : Thread nD τ).loc main_v20) = resultArr m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨by obtain rfl : c = 0 := Subsingleton.elim _ _; exact ((h.1.1 0).1 4).trans (final m (ok m)), h.2.1 c⟩)
    (θ_run_and (run_main m ρ (ok m)) (frame_of_ok m ρ (ok m)))

end Cert.Experts

end
-- ==== Proof.Experts.Ref.lean ====
/-
  The reference's result is the experts' result entry by entry: its lookups take the weights of each block's expert, its batched
  products are the sums of `hidden` and `resultAt`, and its reshapes cut the rows into blocks of 512 and back.
-/
module

public import proofs.«01_k».proof.Proof.Experts.Spec
public import proofs.«01_k».proof.Proof.Gen.ExpertsRefIdeal.Run
public import Idealize.ShloMosaic.Lib.Tactic

@[expose] public section

set_option maxRecDepth 16384

noncomputable section

namespace Cert.ExpertsRefValue

open Cert.ExpertsRefIdeal Cert.ExpertsRefIdeal.Gen Cert.ExpertsRefIdeal.Value
open Idealize.ShloMosaic Idealize.ShloMosaic.TcCoe Idealize.ShloMosaic.Tactic Idealize.SL.Sem

/-- The start indices of the lookups: a block's expert, taken from the end where it is negative. -/
def lookup (tb : S200.Idx → BitVec 32) : S200x1.Idx → BitVec 32 :=
  broadcastInDim S200x1 ![0] bcast_S200_S200x1_0 (select (cmpi .slt tb (broadcastInDim S200 ![] bcast_S_S200 (constantI S_ 32 0#32))) (addi tb (broadcastInDim S200 ![] bcast_S_S200 (constantI S_ 32 8#32))) tb)

/-- The rows' numbers, block by block. -/
def rows (x : S102400x512.Idx → BitVec 32) : FVec Ideal S200x512x1024 .f32 :=
  shapeCast _ (concatenate S102400x1024 1 [⟨S102400x512, (bitcastToFloat (F := Ideal) .f32 (Host.shli x (broadcastInDim S102400x512 ![] bcast_S_S102400x512 (constantI S_ 32 16#32))))⟩, ⟨S102400x512, (bitcastToFloat (F := Ideal) .f32 (andi x (broadcastInDim S102400x512 ![] bcast_S_S102400x512 (constantI S_ 32 4294901760#32))))⟩] concatenates_S102400x512_S102400x512_S102400x1024_d1) shapeCasts_S102400x1024_S200x512x1024

/-- The rows times the first-layer weights of their blocks' experts. -/
def product (x : S102400x512.Idx → BitVec 32) (w : FVec Ideal S8x1024x3584 .f32) (tb : S200.Idx → BitVec 32) : FVec Ideal S200x512x3584 .f32 :=
  Host.dotGeneral dot_S200x512x1024_S200x1024x3584_S200x512x3584_2_1_1_2_0_0 none (rows x) (Host.gather gather_S8x1024x3584_S200x1_S200x1024x3584_12_0_n_n_0_1_110243584 w (lookup tb))

/-- The reference's result, from the ends of the experts' blocks and the experts of the blocks. -/
def result (x : S102400x512.Idx → BitVec 32) (e : S8.Idx → BitVec 32) (tb : S200.Idx → BitVec 32) (wg wu : FVec Ideal S8x1024x3584 .f32) (wd : FVec Ideal S8x3584x1024 .f32) : FVec Ideal S102400x1024 .f32 :=
  shapeCast _ (select (broadcastInDim S200x512x1024 ![0, 1, 2] bcast_S200x1x1_S200x512x1024_0_1_2 (broadcastInDim S200x1x1 ![0] bcast_S200_S200x1x1_0 (cmpi .slt (iotaInDim S200 32 0) (broadcastInDim S200 ![] bcast_S_S200 (shapeCast S_ (extractStridedSlice S1 ![7] e slices_S8_S1_7) shapeCasts_S1_S_))))) (Host.dotGeneral dot_S200x512x3584_S200x3584x1024_S200x512x1024_2_1_1_2_0_0 none (mulf (mulf (product x wg tb) (Host.divf (broadcastInDim S200x512x3584 ![] bcast_S_S200x512x3584 (constant S_ .f32 0x3F800000#32)) (addf (broadcastInDim S200x512x3584 ![] bcast_S_S200x512x3584 (constant S_ .f32 0x3F800000#32)) (Host.exp (Host.negf (product x wg tb)))))) (product x wu tb)) (Host.gather gather_S8x3584x1024_S200x1_S200x3584x1024_12_0_n_n_0_1_135841024 wd (lookup tb))) (broadcastInDim S200x512x1024 ![] bcast_S_S200x512x1024 (constant (F := Ideal) S_ .f32 0x00000000#32))) shapeCasts_S200x512x1024_S102400x1024

/-- The run's result is this one. -/
theorem res_eq (m : (ℓ : Loc nD τ sig) → Buf (Elt Ideal) ℓ) (c : Dev nD) :
    res_main_v56 m c = result (m ((c.tc : Thread nD τ).loc main_arg0)) (Experts.ends (m ((c.tc : Thread nD τ).loc main_arg1))) (Experts.expertOf (Experts.ends (m ((c.tc : Thread nD τ).loc main_arg1))))
      (m ((c.tc : Thread nD τ).loc main_arg2)) (m ((c.tc : Thread nD τ).loc main_arg3)) (m ((c.tc : Thread nD τ).loc main_arg4)) := by
  sl_kernel_rfl

theorem lookup_apply (tb : S200.Idx → BitVec 32) (b : Fin 200) (h : (tb (ix1 b)).toNat < 8) : min (lookup tb (ix2 b (0 : Fin 1))).toInt.toNat (8 - 1) = (tb (ix1 b)).toNat := by
  unfold lookup
  pointwise
  generalize tb (ix1 b) = w at h ⊢
  obtain ⟨k, hk, rfl⟩ : ∃ k, k < 8 ∧ w = BitVec.ofNat 32 k := ⟨w.toNat, h, by simp⟩
  revert k
  decide

theorem rows_apply (x : S102400x512.Idx → BitVec 32) (b : Fin 200) (r : Fin 512) (k : Fin 1024) :
    rows x (ix3 b r k) = Experts.number x ⟨b.val * 512 + r.val, by omega⟩ k := by
  unfold rows Experts.number
  pointwise
  rfl

theorem product_apply (x : S102400x512.Idx → BitVec 32) (w : FVec Ideal S8x1024x3584 .f32) (tb : S200.Idx → BitVec 32) (b : Fin 200) (r : Fin 512) (f : Fin 3584) (h : (tb (ix1 b)).toNat < 8) :
    product x w tb (ix3 b r f) = ∑ k, Experts.number x ⟨b.val * 512 + r.val, by omega⟩ k * w (ix3 ⟨(tb (ix1 b)).toNat, h⟩ k f) := by
  unfold product
  pointwise
  refine Finset.sum_congr rfl fun k _ => ?_
  rw [rows_apply]
  refine congrArg _ ?_
  exact Experts.gather_stack _ w (lookup tb) b k f ⟨_, h⟩ (lookup_apply tb b h)

/-- The reference's result, entry by entry. -/
theorem result_apply (x : S102400x512.Idx → BitVec 32) (cnt : S8.Idx → BitVec 32) (wg wu : FVec Ideal S8x1024x3584 .f32) (wd : FVec Ideal S8x3584x1024 .f32) (r : Fin 102400) (c : Fin 1024) :
    result x (Experts.ends cnt) (Experts.expertOf (Experts.ends cnt)) wg wu wd (ix2 r c) = Experts.resultAt x cnt wg wu wd r c := by
  classical
  have hlt := Experts.expertOf_lt (Experts.ends cnt) (ix1 (Experts.blockOf r))
  have hr : (⟨(Experts.blockOf r).val * 512 + r.val % 512, by have := (Experts.blockOf r).isLt; omega⟩ : Fin 102400) = r := Fin.ext (by show r.val / 512 * 512 + r.val % 512 = r.val; omega)
  unfold result
  pointwise
  unfold Scalar.select Experts.resultAt
  refine if_congr Iff.rfl (Finset.sum_congr rfl fun f _ => ?_) rfl
  have hg := product_apply x wg (Experts.expertOf (Experts.ends cnt)) (Experts.blockOf r) ⟨r.val % 512, by omega⟩ f hlt
  have hu := product_apply x wu (Experts.expertOf (Experts.ends cnt)) (Experts.blockOf r) ⟨r.val % 512, by omega⟩ f hlt
  have hd := Experts.gather_stack gather_S8x3584x1024_S200x1_S200x3584x1024_12_0_n_n_0_1_135841024.wf wd (lookup (Experts.expertOf (Experts.ends cnt))) (Experts.blockOf r) f c ⟨_, hlt⟩ (lookup_apply _ _ hlt)
  rw [hr] at hg hu
  refine congrArg₂ (· * ·) ?_ hd
  refine congrArg₂ (· * ·) ?_ hu
  refine congrArg₂ (fun a b => a * Ideal.div 1 (1 + Ideal.exp (-b))) hg hg

end Cert.ExpertsRefValue

end
-- ==== Proof.Experts.Equal.lean ====
/-
  The two sides of the experts' value: the reference's result, from arguments equal to the kernel's, is the array the kernel leaves.
-/
module

public import proofs.«01_k».proof.Proof.Experts.Value
public import proofs.«01_k».proof.Proof.Experts.Ref

@[expose] public section

set_option maxRecDepth 16384

noncomputable section

namespace Cert.Experts

open Idealize.ShloMosaic Idealize.ShloMosaic.TcCoe Idealize.SL.Sem

/-- The reference's result as an array. -/
theorem ref_array (x : Cert.ExpertsIdeal.S102400x512.Idx → BitVec 32) (cnt : Cert.ExpertsIdeal.S8.Idx → BitVec 32) (wg wu : Cert.ExpertsIdeal.S8x1024x3584.Idx → EReal)
    (wd : Cert.ExpertsIdeal.S8x3584x1024.Idx → EReal) (i : Cert.ExpertsIdeal.S102400x1024.Idx) :
    Cert.ExpertsRefValue.result x (ends cnt) (expertOf (ends cnt)) wg wu wd i = resultAt x cnt wg wu wd (i 0) (i 1) := by
  have hi : i = ix2 (i 0) (i 1) := by
    funext a
    match a with
    | ⟨0, _⟩ => rfl
    | ⟨1, _⟩ => rfl
  exact (congrArg _ hi).trans (Cert.ExpertsRefValue.result_apply x cnt wg wu wd (i 0) (i 1))

/-- The reference's result from the kernel's arguments. -/
theorem ref_value (m : (ℓ : Loc Cert.ExpertsIdeal.nD Cert.ExpertsIdeal.τ Cert.ExpertsIdeal.sig) → Buf (Elt Ideal) ℓ)
    (m' : (ℓ : Loc Cert.ExpertsRefIdeal.nD Cert.ExpertsRefIdeal.τ Cert.ExpertsRefIdeal.sig) → Buf (Elt Ideal) ℓ) (c : Dev Cert.ExpertsRefIdeal.nD)
    (h0 : m' ((c.tc : Thread Cert.ExpertsRefIdeal.nD Cert.ExpertsRefIdeal.τ).loc Cert.ExpertsRefIdeal.main_arg0) = rowsIn m)
    (h1 : m' ((c.tc : Thread Cert.ExpertsRefIdeal.nD Cert.ExpertsRefIdeal.τ).loc Cert.ExpertsRefIdeal.main_arg1) = countsIn m)
    (h2 : m' ((c.tc : Thread Cert.ExpertsRefIdeal.nD Cert.ExpertsRefIdeal.τ).loc Cert.ExpertsRefIdeal.main_arg2) = gateIn m)
    (h3 : m' ((c.tc : Thread Cert.ExpertsRefIdeal.nD Cert.ExpertsRefIdeal.τ).loc Cert.ExpertsRefIdeal.main_arg3) = upIn m)
    (h4 : m' ((c.tc : Thread Cert.ExpertsRefIdeal.nD Cert.ExpertsRefIdeal.τ).loc Cert.ExpertsRefIdeal.main_arg4) = downIn m) :
    Cert.ExpertsRefIdeal.Value.res_main_v56 m' c = resultArr m := by
  rw [Cert.ExpertsRefValue.res_eq, h0, h1, h2, h3, h4]
  exact funext fun i => ref_array _ _ _ _ _ i

end Cert.Experts

end
-- ==== Proof.Attn.Spec.lean ====
/-
  The attention at the exact numbers, entry by entry: a normalised query against the keys of three blocks, the mask, the bias,
  the sink, and the weighted sum of the values over the total.
-/
module

public import proofs.«01_k».proof.Proof.Gen.AttnIdeal
public import Idealize.ShloMosaic.Lib.Pointwise

@[expose] public section

set_option maxRecDepth 16384

noncomputable section

namespace Cert.AttnValue

open Cert.AttnIdeal Cert.AttnIdeal.Gen
open Idealize.ShloMosaic Idealize.ShloMosaic.TcCoe Idealize.SL.Sem

/-- A head's entries over the root of their mean square, scaled. -/
def unitOf (v g : Fin 64 → EReal) (d : Fin 64) : EReal :=
  v d * Ideal.rsqrt (Ideal.div (∑ e, v e * v e) (Ideal.ofBits .f32 0x42800000#32) + Ideal.ofBits .f32 0x358637BD#32) * g d

/-- A query's score against a key, the bias added; −∞ outside the mask. -/
def scoreOf (p : BitVec 1) (q k : Fin 64 → EReal) (b : EReal) : EReal :=
  Scalar.select p (∑ e, q e * Ideal.ofBits .f32 0x3E000000#32 * k e + b) ⊥

/-- The greatest of a row of scores and the sink. -/
def topOf (s : Fin 384 → EReal) (z : EReal) : EReal := max (Finset.univ.fold max (Ideal.ofBits .f32 0xFF800000#32) s) z

/-- The values weighted by the exponentials of the scores, over their total and the sink's. -/
def averageOf (s v : Fin 384 → EReal) (z : EReal) : EReal :=
  Ideal.div (∑ j, Ideal.exp (s j - topOf s z) * v j) (∑ j, Ideal.exp (s j - topOf s z) + Ideal.exp (z - topOf s z))

/-- Whether a query of a block attends to a place of the band: at most 128 apart, and inside the sequence. -/
def maskBit (n : Nat) (q : Fin 128) (j : Fin 384) : BitVec 1 :=
  IntOp.andi
    (IntOp.andi (IntOp.cmpi .sle (IntOp.absi (IntOp.subi (IntOp.subi (BitVec.ofNat 32 j.val) 128#32) (BitVec.ofNat 32 q.val))) 128#32)
      (IntOp.cmpi .sge (IntOp.addi (Scalar.muli (Scalar.subi (BitVec.ofNat 32 n) 1#32) 128#32) (BitVec.ofNat 32 j.val)) 0#32))
    (IntOp.cmpi .slt (IntOp.addi (Scalar.muli (Scalar.subi (BitVec.ofNat 32 n) 1#32) 128#32) (BitVec.ofNat 32 j.val)) 8192#32)

/-- A place of a block's band, in the sequence: zero outside it. -/
def bandAt (x : S6x8192x1536.Idx → EReal) (b : Fin 6) (n : Fin 64) (j : Fin 384) (c : Fin 1536) : EReal :=
  if h : 128 ≤ 128 * n.val + j.val ∧ 128 * n.val + j.val < 8320 then x (ix3 b ⟨128 * n.val + j.val - 128, by omega⟩ c) else 0

/-- One entry of the attention's result. -/
def attnAt (x : S6x8192x1536.Idx → EReal) (z : S16.Idx → EReal) (bias : S16x128x384.Idx → EReal) (qg kg : S64.Idx → EReal)
    (b : Fin 6) (n : Fin 64) (q : Fin 128) (H : Fin 16) (d : Fin 64) : EReal :=
  averageOf (fun j => scoreOf (maskBit n.val q j)
      (unitOf (fun e => x (ix3 b ⟨128 * n.val + q.val, by omega⟩ ⟨64 * H.val + e.val, by omega⟩)) (fun e => qg (ix1 e)))
      (unitOf (fun e => bandAt x b n j ⟨1024 + (64 * (H.val / 4) + e.val), by omega⟩) (fun e => kg (ix1 e))) (bias (ix3 H q j)))
    (fun j => bandAt x b n j ⟨1280 + (64 * (H.val / 4) + d.val), by omega⟩) (z (ix1 H))

theorem and_one {a b : BitVec 1} (h : IntOp.andi a b = 1#1) : a = 1#1 ∧ b = 1#1 := by
  revert a b; decide

theorem and_assoc (a b c : BitVec 1) : IntOp.andi a (IntOp.andi b c) = IntOp.andi (IntOp.andi a b) c := by
  revert a b c; decide

theorem word_int (n : Nat) (h : n < 1024) : (BitVec.ofNat 32 n).toInt = n := by
  rw [BitVec.toInt_eq_toNat_cond, BitVec.toNat_ofNat]
  omega

theorem of_bool {p : Prop} [Decidable p] (h : BitVec.ofBool (decide p) = 1#1) : p := by
  by_contra hn
  rw [decide_eq_false hn] at h
  exact absurd h (by decide)

/-- The place as a word is the place as a number. -/
theorem place_word (n : Fin 64) (j : Fin 384) :
    (IntOp.addi (Scalar.muli (Scalar.subi (BitVec.ofNat 32 n.val) 1#32) 128#32) (BitVec.ofNat 32 j.val)).toInt = 128 * n.val + j.val - 128 := by
  have e : IntOp.addi (Scalar.muli (Scalar.subi (BitVec.ofNat 32 n.val) 1#32) 128#32) (BitVec.ofNat 32 j.val) = BitVec.ofInt 32 (128 * n.val + j.val - 128) := by
    show (BitVec.ofNat 32 n.val - 1#32) * 128#32 + BitVec.ofNat 32 j.val = _
    apply BitVec.eq_of_toInt_eq
    rw [BitVec.toInt_add, BitVec.toInt_mul, BitVec.toInt_sub, BitVec.toInt_ofInt, word_int n.val (by omega), word_int j.val (by omega)]
    have h1 : (1#32 : BitVec 32).toInt = 1 := rfl
    have h2 : (128#32 : BitVec 32).toInt = 128 := rfl
    rw [h1, h2]
    simp only [Int.bmod_def]
    omega
  rw [e, BitVec.toInt_ofInt, Int.bmod_def]
  omega

/-- A place attended to lies in the sequence. -/
theorem inBand {n : Fin 64} {q : Fin 128} {j : Fin 384} (h : maskBit n.val q j = 1#1) : 128 ≤ 128 * n.val + j.val ∧ 128 * n.val + j.val < 8320 := by
  obtain ⟨h1, h3⟩ := and_one h
  obtain ⟨-, h2⟩ := and_one h1
  change BitVec.ofBool (decide _) = _ at h2
  change BitVec.ofBool (decide _) = _ at h3
  have h2' := of_bool h2
  have h3' := of_bool h3
  rw [place_word] at h2' h3'
  have e0 : (0#32 : BitVec 32).toInt = 0 := rfl
  have e1 : (8192#32 : BitVec 32).toInt = 8192 := rfl
  rw [e0] at h2'
  rw [e1] at h3'
  omega

/-- Only the keys and the values attended to matter. -/
theorem averageOf_congr {p : Fin 384 → BitVec 1} {q : Fin 64 → EReal} {k k' : Fin 384 → Fin 64 → EReal} {b v v' : Fin 384 → EReal} {z : EReal}
    (h : ∀ j, p j = 1#1 → k j = k' j ∧ v j = v' j) :
    averageOf (fun j => scoreOf (p j) q (k j) (b j)) v z = averageOf (fun j => scoreOf (p j) q (k' j) (b j)) v' z := by
  have hs : (fun j => scoreOf (p j) q (k j) (b j)) = fun j => scoreOf (p j) q (k' j) (b j) := by
    funext j
    by_cases hp : p j = 1#1
    · rw [(h j hp).1]
    · unfold scoreOf Scalar.select
      rw [if_neg (show ¬p j = 1 from hp), if_neg (show ¬p j = 1 from hp)]
  rw [hs]
  unfold averageOf
  congr 1
  refine Finset.sum_congr rfl fun j _ => ?_
  by_cases hp : p j = 1#1
  · rw [(h j hp).2]
  · have e : scoreOf (p j) q (k' j) (b j) = ⊥ := by
      unfold scoreOf Scalar.select
      rw [if_neg (show ¬p j = 1 from hp)]
    have e' : Ideal.exp ((⊥ : EReal) - topOf (fun j => scoreOf (p j) q (k' j) (b j)) z) = 0 := by
      rw [sub_eq_add_neg, EReal.bot_add]
      rfl
    simp only [e, e', zero_mul]

/-- The distances. -/
def dist : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))

/-- Their buckets. -/
def bucket : IVec S128x384 32 :=
  addi (select (cmpi .sgt dist (broadcastInDim S128x384 ![] bcast_S_S128x384 (constantI S_ 32 0#32))) (broadcastInDim S128x384 ![] bcast_S_S128x384 (constantI S_ 32 16#32)) (broadcastInDim S128x384 ![] bcast_S_S128x384 (constantI S_ 32 0#32)))
    (select (cmpi .slt (absi dist) (broadcastInDim S128x384 ![] bcast_S_S128x384 (constantI S_ 32 8#32))) (absi dist)
      (minsi (addi (broadcastInDim S128x384 ![] bcast_S_S128x384 (constantI S_ 32 8#32))
        (fptosi 32 (mulf (Host.divf (Host.log (Host.divf (sitofp (F := Ideal) .f32 (maxsi (absi dist) (broadcastInDim S128x384 ![] bcast_S_S128x384 (constantI S_ 32 1#32)))) (broadcastInDim S128x384 ![] bcast_S_S128x384 (constant (F := Ideal) S_ .f32 0x41000000#32))))
          (broadcastInDim S128x384 ![] bcast_S_S128x384 (constant (F := Ideal) S_ .f32 0x40317218#32))) (broadcastInDim S128x384 ![] bcast_S_S128x384 (constant (F := Ideal) S_ .f32 0x41000000#32)))))
        (broadcastInDim S128x384 ![] bcast_S_S128x384 (constantI S_ 32 15#32))))

/-- The bias of every head, query and place, looked up in the table by the distance's bucket. -/
def biasTable (w : FVec Ideal S32x16 .f32) : FVec Ideal S16x128x384 .f32 :=
  transpose S16x128x384 [2, 0, 1] (Host.gather gather_S32x16_S128x384x1_S128x384x16_2_0_n_n_0_2_116 w
    (broadcastInDim S128x384x1 ![0, 1] bcast_S128x384_S128x384x1_0_1 (select (cmpi .slt bucket (broadcastInDim S128x384 ![] bcast_S_S128x384 (constantI S_ 32 0#32))) (addi bucket (broadcastInDim S128x384 ![] bcast_S_S128x384 (constantI S_ 32 32#32))) bucket)))
    transposes_S128x384x16_S16x128x384_2_0_1

end Cert.AttnValue

end
-- ==== Proof.Attn.Head.lean ====
/-
  What one head of the attention's body computes, from the blocks it reads.
-/
module

public import proofs.«01_k».proof.Proof.Gen.AttnIdeal.Frame
public import proofs.«01_k».proof.Proof.Attn.Spec
public import Idealize.ShloMosaic.Lib.Pipeline.ValueKit

@[expose] public section

set_option maxRecDepth 16384

noncomputable section

namespace Cert.AttnValue

open Cert.AttnIdeal Cert.AttnIdeal.Gen
open Idealize.ShloMosaic Idealize.ShloMosaic.TcCoe Idealize.SL.Sem

/-- The normalised keys. -/
def unitKeys (k : FVec Ideal S384x64 .f32) (g : FVec Ideal S1x64 .f32) : FVec Ideal S384x64 .bf16 :=
  truncf .bf16 (mulf (mulf k (broadcastTo S384x64 (rsqrt (addf (divf (shapeCast S384x1 (multiReduction .add [1] S384 (mulf k k) 0x00000000#32 reduces_S384x64_S384 (.inl rfl) rfl) shapeCasts_S384_S384x1) (broadcast S384x1 (Scalar.ofBits (F := Ideal) .f32 0x42800000#32))) (broadcast S384x1 (Scalar.ofBits (F := Ideal) .f32 0x358637BD#32)))) broadcasts_S384x1_S384x64)) (broadcastTo S384x64 (shapeCast S1x64 g shapeCasts_S1x64_S1x64) broadcasts_S1x64_S384x64)) bitsLt_bf16_f32

/-- The normalised queries, scaled. -/
def unitQueries (q : FVec Ideal S128x64 .f32) (g : FVec Ideal S1x64 .f32) : FVec Ideal S128x64 .bf16 :=
  truncf .bf16 (mulf (mulf (mulf q (broadcastTo S128x64 (rsqrt (addf (divf (shapeCast S128x1 (multiReduction .add [1] S128 (mulf q q) 0x00000000#32 reduces_S128x64_S128 (.inl rfl) rfl) shapeCasts_S128_S128x1) (broadcast S128x1 (Scalar.ofBits (F := Ideal) .f32 0x42800000#32))) (broadcast S128x1 (Scalar.ofBits (F := Ideal) .f32 0x358637BD#32)))) broadcasts_S128x1_S128x64)) (broadcastTo S128x64 (shapeCast S1x64 g shapeCasts_S1x64_S1x64) broadcasts_S1x64_S128x64)) (broadcast S128x64 (Scalar.ofBits (F := Ideal) .f32 0x3E000000#32))) bitsLt_bf16_f32

/-- The masked scores. -/
def scores (p : IVec S128x384 1) (q : FVec Ideal S128x64 .bf16) (k : FVec Ideal S384x64 .bf16) (b : FVec Ideal S1x128x384 .f32) : FVec Ideal S128x384 .f32 :=
  select p (addf (matmul dot_S128x64_S384x64_S128x384_1_1_0_0_n_n none q k (constant S128x384 .f32 0x00000000#32)) (shapeCast S128x384 b shapeCasts_S1x128x384_S128x384)) (broadcast S128x384 (Named.named (F := Ideal) κ "mask" 0xF149F2CA#32))

/-- The greatest score of each row, or the sink. -/
def tops (s : FVec Ideal S128x384 .f32) (z : Ideal .f32) : FVec Ideal S128x1 .f32 :=
  maximumf (shapeCast S128x1 (multiReduction .maximumf [1] S128 s 0xFF800000#32 reduces_S128x384_S128 (.inl rfl) rfl) shapeCasts_S128_S128x1) (broadcast S128x1 z)

/-- The scores' exponentials. -/
def weights (s : FVec Ideal S128x384 .f32) (z : Ideal .f32) : FVec Ideal S128x384 .f32 :=
  exp (subf s (broadcastTo S128x384 (tops s z) broadcasts_S128x1_S128x384))

/-- The totals. -/
def totals (s : FVec Ideal S128x384 .f32) (z : Ideal .f32) : FVec Ideal S128x1 .f32 :=
  addf (shapeCast S128x1 (multiReduction .add [1] S128 (weights s z) 0x00000000#32 reduces_S128x384_S128 (.inl rfl) rfl) shapeCasts_S128_S128x1) (exp (subf (broadcast S128x1 z) (tops s z)))

/-- The weighted values over the totals. -/
def averages (s : FVec Ideal S128x384 .f32) (v : FVec Ideal S384x64 .bf16) (z : Ideal .f32) : FVec Ideal S1x128x64 .bf16 :=
  shapeCast S1x128x64 (truncf .bf16 (divf (matmul dot_S128x384_S384x64_S128x64_1_0_0_1_n_n none (truncf .bf16 (weights s z) bitsLt_bf16_f32) v (constant S128x64 .f32 0x00000000#32)) (broadcastTo S128x64 (totals s z) broadcasts_S128x1_S128x64)) bitsLt_bf16_f32) shapeCasts_S128x64_S1x128x64

/-- One head. -/
def head (p : IVec S128x384 1) (q : FVec Ideal S128x64 .f32) (k : FVec Ideal S384x64 .f32) (v : FVec Ideal S384x64 .bf16) (qg kg : FVec Ideal S1x64 .f32) (b : FVec Ideal S1x128x384 .f32) (z : Ideal .f32) : FVec Ideal S1x128x64 .bf16 :=
  averages (scores p (unitQueries q qg) (unitKeys k kg) b) v z

theorem unitKeys_apply (k : FVec Ideal S384x64 .f32) (g : FVec Ideal S1x64 .f32) (j : Fin 384) (d : Fin 64) :
    unitKeys k g (ix2 j d) = unitOf (fun e => k (ix2 j e)) (fun e => g (ix2 0 e)) d := by
  unfold unitKeys unitOf
  pointwise

theorem unitQueries_apply (q : FVec Ideal S128x64 .f32) (g : FVec Ideal S1x64 .f32) (i : Fin 128) (d : Fin 64) :
    unitQueries q g (ix2 i d) = unitOf (fun e => q (ix2 i e)) (fun e => g (ix2 0 e)) d * Ideal.ofBits .f32 0x3E000000#32 := by
  unfold unitQueries unitOf
  pointwise

theorem named_mask : (Named.named (F := Ideal) κ "mask" 0xF149F2CA#32 : Ideal .f32) = (⊥ : EReal) := rfl

theorem scores_apply (p : IVec S128x384 1) (q : FVec Ideal S128x64 .bf16) (k : FVec Ideal S384x64 .bf16) (b : FVec Ideal S1x128x384 .f32) (i : Fin 128) (j : Fin 384) :
    scores p q k b (ix2 i j) = Scalar.select (p (ix2 i j)) (∑ e, q (ix2 i e) * k (ix2 j e) + b (ix3 0 i j)) (⊥ : EReal) := by
  unfold scores
  pointwise
  simp only [named_mask]

theorem tops_apply (s : FVec Ideal S128x384 .f32) (z : Ideal .f32) (i : Fin 128) (o : Fin 1) : tops s z (ix2 i o) = topOf (fun j => s (ix2 i j)) z := by
  unfold tops topOf
  pointwise

theorem weights_apply (s : FVec Ideal S128x384 .f32) (z : Ideal .f32) (i : Fin 128) (j : Fin 384) : weights s z (ix2 i j) = Ideal.exp (s (ix2 i j) - topOf (fun j => s (ix2 i j)) z) := by
  unfold weights
  pointwise
  simp only [tops_apply]

theorem totals_apply (s : FVec Ideal S128x384 .f32) (z : Ideal .f32) (i : Fin 128) (o : Fin 1) :
    totals s z (ix2 i o) = ∑ j, Ideal.exp (s (ix2 i j) - topOf (fun j => s (ix2 i j)) z) + Ideal.exp (z - topOf (fun j => s (ix2 i j)) z) := by
  unfold totals
  pointwise
  simp only [tops_apply, weights_apply]

theorem averages_apply (s : FVec Ideal S128x384 .f32) (v : FVec Ideal S384x64 .bf16) (z : Ideal .f32) (i : Fin 128) (d : Fin 64) :
    averages s v z (ix3 0 i d) = averageOf (fun j => s (ix2 i j)) (fun j => v (ix2 j d)) z := by
  unfold averages averageOf
  pointwise
  simp only [totals_apply, weights_apply]

/-- One head, entry by entry. -/
theorem head_apply (p : IVec S128x384 1) (q : FVec Ideal S128x64 .f32) (k : FVec Ideal S384x64 .f32) (v : FVec Ideal S384x64 .bf16) (qg kg : FVec Ideal S1x64 .f32) (b : FVec Ideal S1x128x384 .f32) (z : Ideal .f32) (i : Fin 128) (d : Fin 64) :
    head p q k v qg kg b z (ix3 0 i d)
      = averageOf (fun j => scoreOf (p (ix2 i j)) (unitOf (fun e => q (ix2 i e)) (fun e => qg (ix2 0 e))) (unitOf (fun e => k (ix2 j e)) (fun e => kg (ix2 0 e))) (b (ix3 0 i j))) (fun j => v (ix2 j d)) z := by
  unfold head
  rw [averages_apply]
  congr 1
  funext j
  rw [scores_apply]
  unfold scoreOf
  simp only [unitQueries_apply, unitKeys_apply]

end Cert.AttnValue

end
-- ==== Proof.Attn.Body.lean ====
/-
  The attention's output block of one grid point, head by head.
-/
module

public import proofs.«01_k».proof.Proof.Attn.Head

@[expose] public section

set_option maxRecDepth 16384

noncomputable section

namespace Cert.AttnValue

open Cert.AttnIdeal Cert.AttnIdeal.Gen
open Idealize.ShloMosaic Idealize.ShloMosaic.TcCoe Idealize.SL.Sem

/-- One entry of one head's result, from the blocks a grid point reads. -/
def headAt (i : grid0.Coords) (x0 : Vec Ideal S16 .f32) (x1 : Vec Ideal S1x128x1024 .bf16) (x2 x3 x4 x5 x6 x7 : Vec Ideal S1x128x256 .bf16) (x8 : Vec Ideal S16x128x384 .f32) (x9 x10 : Vec Ideal S1x64 .f32)
    (H : Fin 16) (q : Fin 128) (d : Fin 64) : EReal :=
  averageOf (fun j => scoreOf (k0_pay2 i (ix2 q j)) (unitOf (fun e => x1 (ix3 0 q ⟨64 * H.val + e.val, by omega⟩)) (fun e => x9 (ix2 0 e)))
      (unitOf (fun e => k0_pay3 (F := Ideal) x2 x3 x4 (ix2 j ⟨64 * (H.val / 4) + e.val, by omega⟩)) (fun e => x10 (ix2 0 e))) (x8 (ix3 H q j)))
    (fun j => k0_pay4 (F := Ideal) x5 x6 x7 (ix2 j ⟨64 * (H.val / 4) + d.val, by omega⟩)) (x0 (ix1 H))

theorem hz2 : (![0, 0] : Fin 2 → Nat) = fun _ => 0 := by decide

theorem hz3 : (![0, 0, 0] : Fin 3 → Nat) = fun _ => 0 := by decide

theorem eq_ix3 (y : S1x128x64.Idx) : y = ix3 0 (y 1) (y 2) := by
  funext a
  match a with
  | ⟨0, _⟩ => exact Fin.ext (by have := (y 0).isLt; show (y 0).val = 0; change (y 0).val < 1 at this; omega)
  | ⟨1, _⟩ => rfl
  | ⟨2, _⟩ => rfl

theorem sliceQ (x : Vec Ideal S1x128x1024 .bf16) (H : Fin 16) (o : Nat) (ho : o = 64 * H.val) (h : S128x1024.Slices ![0, o] S128x64) (q : Fin 128) (e : Fin 64) :
    extractStridedSlice S128x64 ![0, o] (k0_pay5 (F := Ideal) x) h (ix2 q e) = x (ix3 0 q ⟨64 * H.val + e.val, by omega⟩) := by
  subst ho
  have e1 : extractStridedSlice S128x64 ![0, 64 * H.val] (k0_pay5 (F := Ideal) x) h (ix2 q e) = k0_pay5 (F := Ideal) x (ix2 q ⟨64 * H.val + e.val, by omega⟩) := by
    refine congrArg (k0_pay5 (F := Ideal) x) ?_
    funext a
    apply Fin.ext
    match a with
    | ⟨0, _⟩ => show 0 + q.val = q.val; omega
    | ⟨1, _⟩ => rfl
  rw [e1]
  unfold k0_pay5
  pointwise

theorem sliceK {e' : EltTy} (x : Vec Ideal S384x256 e') (H : Fin 16) (o : Nat) (ho : o = 64 * (H.val / 4)) (h : S384x256.Slices ![0, o] S384x64) (j : Fin 384) (e : Fin 64) :
    extractStridedSlice S384x64 ![0, o] x h (ix2 j e) = x (ix2 j ⟨64 * (H.val / 4) + e.val, by omega⟩) := by
  subst ho
  refine congrArg x ?_
  funext a
  apply Fin.ext
  match a with
  | ⟨0, _⟩ => show 0 + j.val = j.val; omega
  | ⟨1, _⟩ => rfl

theorem bias_ld (x : Vec Ideal S16x128x384 .f32) (H : Fin 16) (h : ∀ a, (![H.val, 0, 0] : Fin 3 → Nat) a + S1x128x384.size a ≤ S16x128x384.size a) (q : Fin 128) (j : Fin 384) :
    View.ld (Val := Elt Ideal) (e' := .f32) x (Rect.unit (s := S16x128x384) ![H.val, 0, 0] S1x128x384.size h) (ix3 0 q j) = x (ix3 H q j) := by
  refine congrArg x ?_
  funext a
  apply Fin.ext
  match a with
  | ⟨0, _⟩ => show H.val + 1 * 0 = H.val; omega
  | ⟨1, _⟩ => show 0 + 1 * q.val = q.val; omega
  | ⟨2, _⟩ => show 0 + 1 * j.val = j.val; omega

theorem sink_ld (x : Vec Ideal S16 .f32) (H : Fin 16) (h : ∀ a, (![H.val] : Fin 1 → Nat) a + S1.size a ≤ S16.size a) (k : S1.Idx) :
    View.ld (Val := Elt Ideal) (e' := .f32) x (Rect.unit (s := S16) ![H.val] S1.size h) k = x (ix1 H) := by
  refine congrArg x ?_
  funext a
  apply Fin.ext
  match a with
  | ⟨0, _⟩ => have := (k 0).isLt; change (k 0).val < 1 at this; show H.val + 1 * (k 0).val = H.val; omega

section
variable (i : grid0.Coords) (x0 : Vec Ideal S16 .f32) (x1 : Vec Ideal S1x128x1024 .bf16) (x2 x3 x4 x5 x6 x7 : Vec Ideal S1x128x256 .bf16) (x8 : Vec Ideal S16x128x384 .f32) (x9 x10 : Vec Ideal S1x64 .f32)

/-- One head's stored block. -/
def headBlock (H o og : Nat) (hs : S128x1024.Slices ![0, o] S128x64) (hk : S384x256.Slices ![0, og] S384x64)
    (hb : ∀ a, (![H, 0, 0] : Fin 3 → Nat) a + S1x128x384.size a ≤ S16x128x384.size a) (hz : ∀ a, (![H] : Fin 1 → Nat) a + S1.size a ≤ S16.size a) (k : S1.Idx) : FVec Ideal S1x128x64 .bf16 :=
  head (k0_pay2 i) (extractStridedSlice S128x64 ![0, o] (k0_pay5 (F := Ideal) (View.ld (Val := Elt Ideal) (e' := .bf16) x1 (Rect.unit (s := S1x128x1024) ![0, 0, 0] S1x128x1024.size inb_S1x128x1024_S1x128x1024_0_0_0))) hs)
    (extractStridedSlice S384x64 ![0, og] (k0_pay3 (F := Ideal) (View.ld (Val := Elt Ideal) (e' := .bf16) x2 (Rect.unit (s := S1x128x256) ![0, 0, 0] S1x128x256.size inb_S1x128x256_S1x128x256_0_0_0)) (View.ld (Val := Elt Ideal) (e' := .bf16) x3 (Rect.unit (s := S1x128x256) ![0, 0, 0] S1x128x256.size inb_S1x128x256_S1x128x256_0_0_0)) (View.ld (Val := Elt Ideal) (e' := .bf16) x4 (Rect.unit (s := S1x128x256) ![0, 0, 0] S1x128x256.size inb_S1x128x256_S1x128x256_0_0_0))) hk)
    (extractStridedSlice S384x64 ![0, og] (k0_pay4 (F := Ideal) (View.ld (Val := Elt Ideal) (e' := .bf16) x5 (Rect.unit (s := S1x128x256) ![0, 0, 0] S1x128x256.size inb_S1x128x256_S1x128x256_0_0_0)) (View.ld (Val := Elt Ideal) (e' := .bf16) x6 (Rect.unit (s := S1x128x256) ![0, 0, 0] S1x128x256.size inb_S1x128x256_S1x128x256_0_0_0)) (View.ld (Val := Elt Ideal) (e' := .bf16) x7 (Rect.unit (s := S1x128x256) ![0, 0, 0] S1x128x256.size inb_S1x128x256_S1x128x256_0_0_0))) hk)
    (View.ld (Val := Elt Ideal) (e' := .f32) x9 (Rect.unit (s := S1x64) ![0, 0] S1x64.size inb_S1x64_S1x64_0_0)) (View.ld (Val := Elt Ideal) (e' := .f32) x10 (Rect.unit (s := S1x64) ![0, 0] S1x64.size inb_S1x64_S1x64_0_0))
    (View.ld (Val := Elt Ideal) (e' := .f32) x8 (Rect.unit (s := S16x128x384) ![H, 0, 0] S1x128x384.size hb)) (View.ld (Val := Elt Ideal) (e' := .f32) x0 (Rect.unit (s := S16) ![H] S1.size hz) k)

theorem headBlock_apply (H : Fin 16) (o og : Nat) (ho : o = 64 * H.val) (hog : og = 64 * (H.val / 4)) (hs : S128x1024.Slices ![0, o] S128x64) (hk : S384x256.Slices ![0, og] S384x64)
    (hb : ∀ a, (![H.val, 0, 0] : Fin 3 → Nat) a + S1x128x384.size a ≤ S16x128x384.size a) (hz : ∀ a, (![H.val] : Fin 1 → Nat) a + S1.size a ≤ S16.size a) (k : S1.Idx) (q : Fin 128) (d : Fin 64) :
    headBlock i x0 x1 x2 x3 x4 x5 x6 x7 x8 x9 x10 H.val o og hs hk hb hz k (ix3 0 q d) = headAt i x0 x1 x2 x3 x4 x5 x6 x7 x8 x9 x10 H q d := by
  unfold headBlock headAt
  rw [head_apply, sink_ld, View.ld_unit_zero (S := S1x128x1024) hz3, View.ld_unit_zero (S := S1x128x256) hz3, View.ld_unit_zero (S := S1x128x256) hz3, View.ld_unit_zero (S := S1x128x256) hz3, View.ld_unit_zero (S := S1x128x256) hz3, View.ld_unit_zero (S := S1x128x256) hz3, View.ld_unit_zero (S := S1x128x256) hz3]
  refine congrArg₂ (fun s v => averageOf s v _) (funext fun j => ?_) (funext fun j => sliceK (e' := .bf16) _ H og hog _ j d)
  refine congr (congr (congrArg (scoreOf _) (congrArg₂ unitOf (funext fun e => sliceQ _ H o ho _ q e) (funext fun e => ?_)))
    (congrArg₂ unitOf (funext fun e => sliceK (e' := .f32) _ H og hog _ j e) (funext fun e => ?_))) (bias_ld x8 H hb q j)
  · exact congrFun (View.ld_unit_zero (Val := Elt Ideal) (e := .f32) (S := S1x64) hz2 _ x9) _
  · exact congrFun (View.ld_unit_zero (Val := Elt Ideal) (e := .f32) (S := S1x64) hz2 _ x10) _

end

/-- The output block: each column of it is its head's. -/
theorem out_val (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S16x128x384 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x128x1024 .bf16) (harg13 : arg13.IsWhole)
    (x0 : Vec Ideal S16 .f32) (x1 : Vec Ideal S1x128x1024 .bf16) (x2 : Vec Ideal S1x128x256 .bf16) (x3 : Vec Ideal S1x128x256 .bf16) (x4 : Vec Ideal S1x128x256 .bf16) (x5 : Vec Ideal S1x128x256 .bf16) (x6 : Vec Ideal S1x128x256 .bf16) (x7 : Vec Ideal S1x128x256 .bf16) (x8 : Vec Ideal S16x128x384 .f32) (x9 : Vec Ideal S1x64 .f32) (x10 : Vec Ideal S1x64 .f32) (y : S1x128x1024.Idx) (G : EReal)
    (hG : ∀ (H : Fin 16) (q : Fin 128) (d : Fin 64), (y 1).val = q.val → (y 2).val = 64 * H.val + d.val → headAt i x0 x1 x2 x3 x4 x5 x6 x7 x8 x9 x10 H q d = G) :
    out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 y = G := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  simp only [View.readAt_eq_ld]
  generalize e2 : View.read (Elt Ideal) arg2.view (harg2.unread x0) = y2
  rw [harg2.read_unread] at e2
  subst e2
  generalize e3 : View.read (Elt Ideal) arg3.view (harg3.unread x1) = y3
  rw [harg3.read_unread] at e3
  subst e3
  generalize e4 : View.read (Elt Ideal) arg4.view (harg4.unread x2) = y4
  rw [harg4.read_unread] at e4
  subst e4
  generalize e5 : View.read (Elt Ideal) arg5.view (harg5.unread x3) = y5
  rw [harg5.read_unread] at e5
  subst e5
  generalize e6 : View.read (Elt Ideal) arg6.view (harg6.unread x4) = y6
  rw [harg6.read_unread] at e6
  subst e6
  generalize e7 : View.read (Elt Ideal) arg7.view (harg7.unread x5) = y7
  rw [harg7.read_unread] at e7
  subst e7
  generalize e8 : View.read (Elt Ideal) arg8.view (harg8.unread x6) = y8
  rw [harg8.read_unread] at e8
  subst e8
  generalize e9 : View.read (Elt Ideal) arg9.view (harg9.unread x7) = y9
  rw [harg9.read_unread] at e9
  subst e9
  generalize e10 : View.read (Elt Ideal) arg10.view (harg10.unread x8) = y10
  rw [harg10.read_unread] at e10
  subst e10
  generalize e11 : View.read (Elt Ideal) arg11.view (harg11.unread x9) = y11
  rw [harg11.read_unread] at e11
  subst e11
  generalize e12 : View.read (Elt Ideal) arg12.view (harg12.unread x10) = y12
  rw [harg12.read_unread] at e12
  subst e12
  canon_tiles z h
  · refine (congrArg _ (eq_ix3 z)).trans ((headBlock_apply i x0 x1 x2 x3 x4 x5 x6 x7 x8 x9 x10 15 960 192 rfl rfl slices_S128x1024_o0_960_S128x64 slices_S384x256_o0_192_S384x64 inb_S16x128x384_S1x128x384_15_0_0 inb_S16_S1_15 _ (z 1) (z 2)).trans (hG 15 (z 1) (z 2) ?_ ?_)) <;> omega
  · refine (congrArg _ (eq_ix3 z)).trans ((headBlock_apply i x0 x1 x2 x3 x4 x5 x6 x7 x8 x9 x10 14 896 192 rfl rfl slices_S128x1024_o0_896_S128x64 slices_S384x256_o0_192_S384x64 inb_S16x128x384_S1x128x384_14_0_0 inb_S16_S1_14 _ (z 1) (z 2)).trans (hG 14 (z 1) (z 2) ?_ ?_)) <;> omega
  · refine (congrArg _ (eq_ix3 z)).trans ((headBlock_apply i x0 x1 x2 x3 x4 x5 x6 x7 x8 x9 x10 13 832 192 rfl rfl slices_S128x1024_o0_832_S128x64 slices_S384x256_o0_192_S384x64 inb_S16x128x384_S1x128x384_13_0_0 inb_S16_S1_13 _ (z 1) (z 2)).trans (hG 13 (z 1) (z 2) ?_ ?_)) <;> omega
  · refine (congrArg _ (eq_ix3 z)).trans ((headBlock_apply i x0 x1 x2 x3 x4 x5 x6 x7 x8 x9 x10 12 768 192 rfl rfl slices_S128x1024_o0_768_S128x64 slices_S384x256_o0_192_S384x64 inb_S16x128x384_S1x128x384_12_0_0 inb_S16_S1_12 _ (z 1) (z 2)).trans (hG 12 (z 1) (z 2) ?_ ?_)) <;> omega
  · refine (congrArg _ (eq_ix3 z)).trans ((headBlock_apply i x0 x1 x2 x3 x4 x5 x6 x7 x8 x9 x10 11 704 128 rfl rfl slices_S128x1024_o0_704_S128x64 slices_S384x256_o0_128_S384x64 inb_S16x128x384_S1x128x384_11_0_0 inb_S16_S1_11 _ (z 1) (z 2)).trans (hG 11 (z 1) (z 2) ?_ ?_)) <;> omega
  · refine (congrArg _ (eq_ix3 z)).trans ((headBlock_apply i x0 x1 x2 x3 x4 x5 x6 x7 x8 x9 x10 10 640 128 rfl rfl slices_S128x1024_o0_640_S128x64 slices_S384x256_o0_128_S384x64 inb_S16x128x384_S1x128x384_10_0_0 inb_S16_S1_10 _ (z 1) (z 2)).trans (hG 10 (z 1) (z 2) ?_ ?_)) <;> omega
  · refine (congrArg _ (eq_ix3 z)).trans ((headBlock_apply i x0 x1 x2 x3 x4 x5 x6 x7 x8 x9 x10 9 576 128 rfl rfl slices_S128x1024_o0_576_S128x64 slices_S384x256_o0_128_S384x64 inb_S16x128x384_S1x128x384_9_0_0 inb_S16_S1_9 _ (z 1) (z 2)).trans (hG 9 (z 1) (z 2) ?_ ?_)) <;> omega
  · refine (congrArg _ (eq_ix3 z)).trans ((headBlock_apply i x0 x1 x2 x3 x4 x5 x6 x7 x8 x9 x10 8 512 128 rfl rfl slices_S128x1024_o0_512_S128x64 slices_S384x256_o0_128_S384x64 inb_S16x128x384_S1x128x384_8_0_0 inb_S16_S1_8 _ (z 1) (z 2)).trans (hG 8 (z 1) (z 2) ?_ ?_)) <;> omega
  · refine (congrArg _ (eq_ix3 z)).trans ((headBlock_apply i x0 x1 x2 x3 x4 x5 x6 x7 x8 x9 x10 7 448 64 rfl rfl slices_S128x1024_o0_448_S128x64 slices_S384x256_o0_64_S384x64 inb_S16x128x384_S1x128x384_7_0_0 inb_S16_S1_7 _ (z 1) (z 2)).trans (hG 7 (z 1) (z 2) ?_ ?_)) <;> omega
  · refine (congrArg _ (eq_ix3 z)).trans ((headBlock_apply i x0 x1 x2 x3 x4 x5 x6 x7 x8 x9 x10 6 384 64 rfl rfl slices_S128x1024_o0_384_S128x64 slices_S384x256_o0_64_S384x64 inb_S16x128x384_S1x128x384_6_0_0 inb_S16_S1_6 _ (z 1) (z 2)).trans (hG 6 (z 1) (z 2) ?_ ?_)) <;> omega
  · refine (congrArg _ (eq_ix3 z)).trans ((headBlock_apply i x0 x1 x2 x3 x4 x5 x6 x7 x8 x9 x10 5 320 64 rfl rfl slices_S128x1024_o0_320_S128x64 slices_S384x256_o0_64_S384x64 inb_S16x128x384_S1x128x384_5_0_0 inb_S16_S1_5 _ (z 1) (z 2)).trans (hG 5 (z 1) (z 2) ?_ ?_)) <;> omega
  · refine (congrArg _ (eq_ix3 z)).trans ((headBlock_apply i x0 x1 x2 x3 x4 x5 x6 x7 x8 x9 x10 4 256 64 rfl rfl slices_S128x1024_o0_256_S128x64 slices_S384x256_o0_64_S384x64 inb_S16x128x384_S1x128x384_4_0_0 inb_S16_S1_4 _ (z 1) (z 2)).trans (hG 4 (z 1) (z 2) ?_ ?_)) <;> omega
  · refine (congrArg _ (eq_ix3 z)).trans ((headBlock_apply i x0 x1 x2 x3 x4 x5 x6 x7 x8 x9 x10 3 192 0 rfl rfl slices_S128x1024_o0_192_S128x64 slices_S384x256_o0_0_S384x64 inb_S16x128x384_S1x128x384_3_0_0 inb_S16_S1_3 _ (z 1) (z 2)).trans (hG 3 (z 1) (z 2) ?_ ?_)) <;> omega
  · refine (congrArg _ (eq_ix3 z)).trans ((headBlock_apply i x0 x1 x2 x3 x4 x5 x6 x7 x8 x9 x10 2 128 0 rfl rfl slices_S128x1024_o0_128_S128x64 slices_S384x256_o0_0_S384x64 inb_S16x128x384_S1x128x384_2_0_0 inb_S16_S1_2 _ (z 1) (z 2)).trans (hG 2 (z 1) (z 2) ?_ ?_)) <;> omega
  · refine (congrArg _ (eq_ix3 z)).trans ((headBlock_apply i x0 x1 x2 x3 x4 x5 x6 x7 x8 x9 x10 1 64 0 rfl rfl slices_S128x1024_o0_64_S128x64 slices_S384x256_o0_0_S384x64 inb_S16x128x384_S1x128x384_1_0_0 inb_S16_S1_1 _ (z 1) (z 2)).trans (hG 1 (z 1) (z 2) ?_ ?_)) <;> omega
  · refine (congrArg _ (eq_ix3 z)).trans ((headBlock_apply i x0 x1 x2 x3 x4 x5 x6 x7 x8 x9 x10 0 0 0 rfl rfl slices_S128x1024_o0_0_S128x64 slices_S384x256_o0_0_S384x64 inb_S16x128x384_S1x128x384_0_0_0 inb_S16_S1_0 _ (z 1) (z 2)).trans (hG 0 (z 1) (z 2) ?_ ?_)) <;> omega

end Cert.AttnValue

end
-- ==== Proof.Attn.Value.lean ====
/-
  The attention at the exact numbers: what the blocks read, and the array the launch leaves.
-/
module

public import proofs.«01_k».proof.Proof.Attn.Body

@[expose] public section

set_option maxRecDepth 16384

noncomputable section

namespace Cert.AttnValue

open Cert.AttnIdeal Cert.AttnIdeal.Gen
open Idealize.ShloMosaic Idealize.ShloMosaic.TcCoe Idealize.SL.Sem

variable (m : (ℓ : Loc nD τ sig) → Buf (Elt Ideal) ℓ)

/-! The band's three blocks, stacked. -/

theorem keys_low (x y z : Vec Ideal S1x128x256 .bf16) (r : Fin 128) (c : Fin 256) :
    k0_pay3 (F := Ideal) x y z (ix2 ⟨r.val, by omega⟩ c) = x (ix3 0 r c) := by
  unfold k0_pay3
  pointwise

theorem keys_mid (x y z : Vec Ideal S1x128x256 .bf16) (r : Fin 128) (c : Fin 256) :
    k0_pay3 (F := Ideal) x y z (ix2 ⟨128 + r.val, by omega⟩ c) = y (ix3 0 r c) := by
  unfold k0_pay3
  pointwise

theorem keys_high (x y z : Vec Ideal S1x128x256 .bf16) (r : Fin 128) (c : Fin 256) :
    k0_pay3 (F := Ideal) x y z (ix2 ⟨256 + r.val, by omega⟩ c) = z (ix3 0 r c) := by
  unfold k0_pay3
  pointwise
  rw [dif_neg (by omega), dif_neg (by omega)]
  congr 2
  apply Fin.ext
  show 256 + r.val - 128 - 128 = r.val
  omega

theorem values_low (x y z : Vec Ideal S1x128x256 .bf16) (r : Fin 128) (c : Fin 256) :
    k0_pay4 (F := Ideal) x y z (ix2 ⟨r.val, by omega⟩ c) = x (ix3 0 r c) := by
  unfold k0_pay4
  pointwise

theorem values_mid (x y z : Vec Ideal S1x128x256 .bf16) (r : Fin 128) (c : Fin 256) :
    k0_pay4 (F := Ideal) x y z (ix2 ⟨128 + r.val, by omega⟩ c) = y (ix3 0 r c) := by
  unfold k0_pay4
  pointwise

theorem values_high (x y z : Vec Ideal S1x128x256 .bf16) (r : Fin 128) (c : Fin 256) :
    k0_pay4 (F := Ideal) x y z (ix2 ⟨256 + r.val, by omega⟩ c) = z (ix3 0 r c) := by
  unfold k0_pay4
  pointwise
  rw [dif_neg (by omega), dif_neg (by omega)]
  congr 2
  apply Fin.ext
  show 256 + r.val - 128 - 128 = r.val
  omega

/-- The mask. -/
theorem mask_val (i : grid0.Coords) (q : Fin 128) (j : Fin 384) : k0_pay2 i (ix2 q j) = maskBit (i 1).val q j := by
  unfold k0_pay2 maskBit
  pointwise

/-! A point's two coordinates, as its blocks' indices. -/

theorem batch_word : ∀ t : Fin grid0.N, (BitVec.ofNat 32 (grid0.coords t 0).val).toNat = (grid0.coords t 0).val := by decide +kernel
theorem block_word : ∀ t : Fin grid0.N, (BitVec.ofNat 32 (grid0.coords t 1).val).toNat = (grid0.coords t 1).val := by decide +kernel
theorem prev_word : ∀ t : Fin grid0.N, (Scalar.maxsi (Scalar.subi (BitVec.ofNat 32 (grid0.coords t 1).val) 1#32) 0#32).toNat = (grid0.coords t 1).val - 1 := by decide +kernel
theorem next_word : ∀ t : Fin grid0.N, (Scalar.minsi (Scalar.addi (BitVec.ofNat 32 (grid0.coords t 1).val) 1#32) 63#32).toNat = min ((grid0.coords t 1).val + 1) 63 := by decide +kernel

theorem coords_exist : ∀ (b : Fin 6) (n : Fin 64), (grid0.coords ⟨64 * b.val + n.val, by have : grid0.N = 384 := N_0; omega⟩ 0).val = b.val ∧ (grid0.coords ⟨64 * b.val + n.val, by have : grid0.N = 384 := N_0; omega⟩ 1).val = n.val := by decide +kernel

/-- The batch entry and the block of a point. -/
def batch (t : Fin cfg0.N) : Fin 6 := grid0.coords t 0
def block (t : Fin cfg0.N) : Fin 64 := grid0.coords t 1

/-! Where the entries of the blocks lie. -/

theorem query_place (t : Fin cfg0.N) (y : ((cfg0.win 1).xblock (cfg0.grid.coords t)).Idx) (r : Fin 128) (k : Fin 1024) (h0 : (y 0).val = 0) (h1 : (y 1).val = r.val) (h2 : (y 2).val = k.val) :
    (((cfg0.win 1).blk t).view.emb y : S6x8192x1536.Idx) = ix3 (batch t) ⟨128 * (block t).val + r.val, by have := (block t).isLt; omega⟩ ⟨k.val, by omega⟩ := by
  funext a
  apply Fin.ext
  match a with
  | ⟨0, _⟩ =>
    show (BitVec.ofNat 32 (grid0.coords t 0).val).toNat * 1 + 1 * (y 0).val = (grid0.coords t 0).val
    rw [batch_word, h0]; omega
  | ⟨1, _⟩ =>
    show (BitVec.ofNat 32 (grid0.coords t 1).val).toNat * 128 + 1 * (y 1).val = 128 * (grid0.coords t 1).val + r.val
    rw [block_word, h1]; omega
  | ⟨2, _⟩ =>
    show (0#32).toNat * 1024 + 1 * (y 2).val = k.val
    rw [h2]; simp

theorem result_place (t : Fin cfg0.N) (r : Fin 128) (k : Fin 1024) :
    (((cfg0.win 11).blk t).view.emb (ix3 0 r k) : S6x8192x1024.Idx) = ix3 (batch t) ⟨128 * (block t).val + r.val, by have := (block t).isLt; omega⟩ k := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (BitVec.ofNat 32 (grid0.coords t 1).val).toNat * 128 + 1 * r.val = 128 * (grid0.coords t 1).val + r.val
    rw [block_word]; omega
  | ⟨2, _⟩ =>
    show (0#32).toNat * 1024 + 1 * k.val = k.val
    simp

theorem keysPrev_place (t : Fin cfg0.N) (r : Fin 128) (k : Fin 256) :
    (((cfg0.win 2).blk t).view.emb (ix3 0 r k) : S6x8192x1536.Idx) = ix3 (batch t) ⟨128 * ((block t).val - 1) + r.val, by have := (block t).isLt; omega⟩ ⟨1024 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (Scalar.maxsi (Scalar.subi (BitVec.ofNat 32 (grid0.coords t 1).val) 1#32) 0#32).toNat * 128 + 1 * r.val = 128 * ((grid0.coords t 1).val - 1) + r.val
    rw [prev_word]; omega
  | ⟨2, _⟩ =>
    show (4#32).toNat * 256 + 1 * k.val = 1024 + k.val
    have : (4#32 : BitVec 32).toNat = 4 := rfl
    omega

theorem keysOwn_place (t : Fin cfg0.N) (r : Fin 128) (k : Fin 256) :
    (((cfg0.win 3).blk t).view.emb (ix3 0 r k) : S6x8192x1536.Idx) = ix3 (batch t) ⟨128 * (block t).val + r.val, by have := (block t).isLt; omega⟩ ⟨1024 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (BitVec.ofNat 32 (grid0.coords t 1).val).toNat * 128 + 1 * r.val = 128 * (grid0.coords t 1).val + r.val
    rw [block_word]; omega
  | ⟨2, _⟩ =>
    show (4#32).toNat * 256 + 1 * k.val = 1024 + k.val
    have : (4#32 : BitVec 32).toNat = 4 := rfl
    omega

theorem keysNext_place (t : Fin cfg0.N) (r : Fin 128) (k : Fin 256) :
    (((cfg0.win 4).blk t).view.emb (ix3 0 r k) : S6x8192x1536.Idx) = ix3 (batch t) ⟨128 * (min ((block t).val + 1) 63) + r.val, by have := (block t).isLt; omega⟩ ⟨1024 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (Scalar.minsi (Scalar.addi (BitVec.ofNat 32 (grid0.coords t 1).val) 1#32) 63#32).toNat * 128 + 1 * r.val = 128 * (min ((grid0.coords t 1).val + 1) 63) + r.val
    rw [next_word]; omega
  | ⟨2, _⟩ =>
    show (4#32).toNat * 256 + 1 * k.val = 1024 + k.val
    have : (4#32 : BitVec 32).toNat = 4 := rfl
    omega

theorem valuesPrev_place (t : Fin cfg0.N) (r : Fin 128) (k : Fin 256) :
    (((cfg0.win 5).blk t).view.emb (ix3 0 r k) : S6x8192x1536.Idx) = ix3 (batch t) ⟨128 * ((block t).val - 1) + r.val, by have := (block t).isLt; omega⟩ ⟨1280 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (Scalar.maxsi (Scalar.subi (BitVec.ofNat 32 (grid0.coords t 1).val) 1#32) 0#32).toNat * 128 + 1 * r.val = 128 * ((grid0.coords t 1).val - 1) + r.val
    rw [prev_word]; omega
  | ⟨2, _⟩ =>
    show (5#32).toNat * 256 + 1 * k.val = 1280 + k.val
    have : (5#32 : BitVec 32).toNat = 5 := rfl
    omega

theorem valuesOwn_place (t : Fin cfg0.N) (r : Fin 128) (k : Fin 256) :
    (((cfg0.win 6).blk t).view.emb (ix3 0 r k) : S6x8192x1536.Idx) = ix3 (batch t) ⟨128 * (block t).val + r.val, by have := (block t).isLt; omega⟩ ⟨1280 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (BitVec.ofNat 32 (grid0.coords t 1).val).toNat * 128 + 1 * r.val = 128 * (grid0.coords t 1).val + r.val
    rw [block_word]; omega
  | ⟨2, _⟩ =>
    show (5#32).toNat * 256 + 1 * k.val = 1280 + k.val
    have : (5#32 : BitVec 32).toNat = 5 := rfl
    omega

theorem valuesNext_place (t : Fin cfg0.N) (r : Fin 128) (k : Fin 256) :
    (((cfg0.win 7).blk t).view.emb (ix3 0 r k) : S6x8192x1536.Idx) = ix3 (batch t) ⟨128 * (min ((block t).val + 1) 63) + r.val, by have := (block t).isLt; omega⟩ ⟨1280 + k.val, by omega⟩ := by
  funext a
  apply Fin.ext
  match a with
  | ⟨0, _⟩ =>
    show (BitVec.ofNat 32 (grid0.coords t 0).val).toNat * 1 + 1 * 0 = (grid0.coords t 0).val
    rw [batch_word]; omega
  | ⟨1, _⟩ =>
    show (Scalar.minsi (Scalar.addi (BitVec.ofNat 32 (grid0.coords t 1).val) 1#32) 63#32).toNat * 128 + 1 * r.val = 128 * (min ((grid0.coords t 1).val + 1) 63) + r.val
    rw [next_word]; omega
  | ⟨2, _⟩ =>
    show (5#32).toNat * 256 + 1 * k.val = 1280 + k.val
    have : (5#32 : BitVec 32).toNat = 5 := rfl
    omega

theorem sink_place (t : Fin cfg0.N) (i : S16.Idx) : (((cfg0.win 0).blk t).view.emb i : S16.Idx) = i := by
  funext a
  apply Fin.ext
  match a with
  | ⟨0, _⟩ =>
    show (0#32).toNat * 16 + 1 * (i 0).val = (i 0).val
    simp

theorem bias_place (t : Fin cfg0.N) (i : S16x128x384.Idx) : (((cfg0.win 8).blk t).view.emb i : S16x128x384.Idx) = i := by
  funext a
  apply Fin.ext
  match a with
  | ⟨0, _⟩ =>
    show (0#32).toNat * 16 + 1 * (i 0).val = (i 0).val
    simp
  | ⟨1, _⟩ =>
    show (0#32).toNat * 128 + 1 * (i 1).val = (i 1).val
    simp
  | ⟨2, _⟩ =>
    show (0#32).toNat * 384 + 1 * (i 2).val = (i 2).val
    simp

theorem qGain_place (t : Fin cfg0.N) (i : S1x64.Idx) : (((cfg0.win 9).blk t).view.emb i : S1x64.Idx) = i := by
  funext a
  apply Fin.ext
  match a with
  | ⟨0, _⟩ =>
    show (0#32).toNat * 1 + 1 * (i 0).val = (i 0).val
    simp
  | ⟨1, _⟩ =>
    show (0#32).toNat * 64 + 1 * (i 1).val = (i 1).val
    simp

theorem kGain_place (t : Fin cfg0.N) (i : S1x64.Idx) : (((cfg0.win 10).blk t).view.emb i : S1x64.Idx) = i := by
  funext a
  apply Fin.ext
  match a with
  | ⟨0, _⟩ =>
    show (0#32).toNat * 1 + 1 * (i 0).val = (i 0).val
    simp
  | ⟨1, _⟩ =>
    show (0#32).toNat * 64 + 1 * (i 1).val = (i 1).val
    simp

/-! The arguments as launched. -/

abbrev qkvIn (c : Dev nD) : S6x8192x1536.Idx → EReal := m ((c : Thread nD τ).loc main_arg0)
abbrev sinkIn (c : Dev nD) : S16.Idx → EReal := m ((c : Thread nD τ).loc main_arg1)
abbrev tableIn (c : Dev nD) : FVec Ideal S32x16 .f32 := m ((c : Thread nD τ).loc main_arg2)
abbrev qGainIn (c : Dev nD) : S64.Idx → EReal := m ((c : Thread nD τ).loc main_arg3)
abbrev kGainIn (c : Dev nD) : S64.Idx → EReal := m ((c : Thread nD τ).loc main_arg4)

/-! The operands the host prepares. -/

theorem V_qGain (c : Dev nD) : V m c main_v41 = (broadcastInDim S1x64 ![1] bcast_S64_S1x64_1 (m ((c : Thread nD τ).loc main_arg3) : FVec Ideal S64 .f32) : FVec Ideal S1x64 .f32) := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4, List.cons_append, List.nil_append]
  after_results_simp

theorem V_kGain (c : Dev nD) : V m c main_v42 = (broadcastInDim S1x64 ![1] bcast_S64_S1x64_1 (m ((c : Thread nD τ).loc main_arg4) : FVec Ideal S64 .f32) : FVec Ideal S1x64 .f32) := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4, List.cons_append, List.nil_append]
  after_results_simp

theorem V_bias (c : Dev nD) : V m c main_v40 = biasTable (tableIn m c) := by
  show StableHlo.after (List.flatten [hostOps0, hostOps0_1, hostOps0_2, hostOps0_3, hostOps0_4]) (fun b => m (c, b)) _ = _
  simp only [List.flatten_cons, List.flatten_nil, List.append_nil, hostOps0, hostOps0_1, hostOps0_2, hostOps0_3, hostOps0_4, List.cons_append, List.nil_append]
  after_results_simp
  rfl

theorem exists_128 (j : Fin 384) : 128 ≤ j.val → j.val < 256 → ∃ r : Fin 128, j = ⟨128 + r.val, by omega⟩ :=
  fun h h' => ⟨⟨j.val - 128, by omega⟩, Fin.ext (by show j.val = 128 + (j.val - 128); omega)⟩

theorem exists_256 (j : Fin 384) : 256 ≤ j.val → ∃ r : Fin 128, j = ⟨256 + r.val, by omega⟩ :=
  fun h => ⟨⟨j.val - 256, by omega⟩, Fin.ext (by show j.val = 256 + (j.val - 256); omega)⟩

/-! What the blocks read. -/

theorem query_val (c : Dev nD) (t : Fin cfg0.N) (r : Fin 128) (k : Fin 1024) :
    X0_1 m c t (ix3 0 r k) = qkvIn m c (ix3 (batch t) ⟨128 * (block t).val + r.val, by have := (block t).isLt; omega⟩ ⟨k.val, by omega⟩) := by
  unfold X0_1 Pipeline.Window.fill
  rw [dif_pos (moved0_1 t _)]
  exact (congrArg (V m c main_arg0 : S6x8192x1536.Idx → EReal) (query_place t _ r k rfl rfl rfl)).trans (congrFun (V_main_arg0 m c) _)

theorem keysPrev_val (c : Dev nD) (t : Fin cfg0.N) (r : Fin 128) (k : Fin 256) :
    (iblk m c 2 t : S1x128x256.Idx → EReal) (ix3 0 r k) = qkvIn m c (ix3 (batch t) ⟨128 * ((block t).val - 1) + r.val, by have := (block t).isLt; omega⟩ ⟨1024 + k.val, by omega⟩) :=
  (congrArg (V m c main_arg0 : S6x8192x1536.Idx → EReal) (keysPrev_place t r k)).trans (congrFun (V_main_arg0 m c) _)

theorem keysOwn_val (c : Dev nD) (t : Fin cfg0.N) (r : Fin 128) (k : Fin 256) :
    (iblk m c 3 t : S1x128x256.Idx → EReal) (ix3 0 r k) = qkvIn m c (ix3 (batch t) ⟨128 * (block t).val + r.val, by have := (block t).isLt; omega⟩ ⟨1024 + k.val, by omega⟩) :=
  (congrArg (V m c main_arg0 : S6x8192x1536.Idx → EReal) (keysOwn_place t r k)).trans (congrFun (V_main_arg0 m c) _)

theorem keysNext_val (c : Dev nD) (t : Fin cfg0.N) (r : Fin 128) (k : Fin 256) :
    (iblk m c 4 t : S1x128x256.Idx → EReal) (ix3 0 r k) = qkvIn m c (ix3 (batch t) ⟨128 * (min ((block t).val + 1) 63) + r.val, by have := (block t).isLt; omega⟩ ⟨1024 + k.val, by omega⟩) :=
  (congrArg (V m c main_arg0 : S6x8192x1536.Idx → EReal) (keysNext_place t r k)).trans (congrFun (V_main_arg0 m c) _)

theorem valuesPrev_val (c : Dev nD) (t : Fin cfg0.N) (r : Fin 128) (k : Fin 256) :
    (iblk m c 5 t : S1x128x256.Idx → EReal) (ix3 0 r k) = qkvIn m c (ix3 (batch t) ⟨128 * ((block t).val - 1) + r.val, by have := (block t).isLt; omega⟩ ⟨1280 + k.val, by omega⟩) :=
  (congrArg (V m c main_arg0 : S6x8192x1536.Idx → EReal) (valuesPrev_place t r k)).trans (congrFun (V_main_arg0 m c) _)

theorem valuesOwn_val (c : Dev nD) (t : Fin cfg0.N) (r : Fin 128) (k : Fin 256) :
    (iblk m c 6 t : S1x128x256.Idx → EReal) (ix3 0 r k) = qkvIn m c (ix3 (batch t) ⟨128 * (block t).val + r.val, by have := (block t).isLt; omega⟩ ⟨1280 + k.val, by omega⟩) :=
  (congrArg (V m c main_arg0 : S6x8192x1536.Idx → EReal) (valuesOwn_place t r k)).trans (congrFun (V_main_arg0 m c) _)

theorem valuesNext_val (c : Dev nD) (t : Fin cfg0.N) (r : Fin 128) (k : Fin 256) :
    (iblk m c 7 t : S1x128x256.Idx → EReal) (ix3 0 r k) = qkvIn m c (ix3 (batch t) ⟨128 * (min ((block t).val + 1) 63) + r.val, by have := (block t).isLt; omega⟩ ⟨1280 + k.val, by omega⟩) :=
  (congrArg (V m c main_arg0 : S6x8192x1536.Idx → EReal) (valuesNext_place t r k)).trans (congrFun (V_main_arg0 m c) _)

theorem sink_val (c : Dev nD) (t : Fin cfg0.N) (h : Fin 16) : (iblk m c 0 t : S16.Idx → EReal) (ix1 h) = sinkIn m c (ix1 h) :=
  (congrArg (V m c main_arg1 : S16.Idx → EReal) (sink_place t (ix1 h))).trans (congrFun (V_main_arg1 m c) _)

theorem bias_val (c : Dev nD) (t : Fin cfg0.N) (h : Fin 16) (q : Fin 128) (j : Fin 384) : (iblk m c 8 t : S16x128x384.Idx → EReal) (ix3 h q j) = biasTable (tableIn m c) (ix3 h q j) :=
  (congrArg (V m c main_v40 : S16x128x384.Idx → EReal) (bias_place t (ix3 h q j))).trans (congrFun (V_bias m c) _)

theorem qGain_val (c : Dev nD) (t : Fin cfg0.N) (d : Fin 64) : (iblk m c 9 t : S1x64.Idx → EReal) (ix2 0 d) = qGainIn m c (ix1 d) := by
  refine ((congrArg (V m c main_v41 : S1x64.Idx → EReal) (qGain_place t (ix2 0 d))).trans (congrFun (V_qGain m c) _)).trans ?_
  pointwise

theorem kGain_val (c : Dev nD) (t : Fin cfg0.N) (d : Fin 64) : (iblk m c 10 t : S1x64.Idx → EReal) (ix2 0 d) = kGainIn m c (ix1 d) := by
  refine ((congrArg (V m c main_v42 : S1x64.Idx → EReal) (kGain_place t (ix2 0 d))).trans (congrFun (V_kGain m c) _)).trans ?_
  pointwise

/-- The keys attended to are the sequence's. -/
theorem keys_band (c : Dev nD) (t : Fin cfg0.N) (j : Fin 384) (k : Fin 256) (h : 128 ≤ 128 * (block t).val + j.val ∧ 128 * (block t).val + j.val < 8320) :
    k0_pay3 (F := Ideal) (iblk m c 2 t) (iblk m c 3 t) (iblk m c 4 t) (ix2 j k) = bandAt (qkvIn m c) (batch t) (block t) j ⟨1024 + k.val, by omega⟩ := by
  unfold bandAt
  rw [dif_pos h]
  have hn := (block t).isLt
  by_cases h1 : j.val < 128
  · refine ((keys_low _ _ _ ⟨j.val, h1⟩ k).trans (keysPrev_val m c t ⟨j.val, h1⟩ k)).trans ?_
    refine congrArg (fun r => qkvIn m c (ix3 (batch t) r _)) (Fin.ext ?_)
    show 128 * ((block t).val - 1) + j.val = 128 * (block t).val + j.val - 128
    omega
  · by_cases h2 : j.val < 256
    · obtain ⟨r, rfl⟩ := exists_128 j (by omega) h2
      refine ((keys_mid _ _ _ r k).trans (keysOwn_val m c t r k)).trans ?_
      refine congrArg (fun r => qkvIn m c (ix3 (batch t) r _)) (Fin.ext ?_)
      show 128 * (block t).val + r.val = 128 * (block t).val + (128 + r.val) - 128
      omega
    · obtain ⟨r, rfl⟩ := exists_256 j (by omega)
      refine ((keys_high _ _ _ r k).trans (keysNext_val m c t r k)).trans ?_
      refine congrArg (fun r => qkvIn m c (ix3 (batch t) r _)) (Fin.ext ?_)
      have h' : 128 * (block t).val + (256 + r.val) < 8320 := h.2
      show 128 * (min ((block t).val + 1) 63) + r.val = 128 * (block t).val + (256 + r.val) - 128
      omega

/-- The values attended to are the sequence's. -/
theorem values_band (c : Dev nD) (t : Fin cfg0.N) (j : Fin 384) (k : Fin 256) (h : 128 ≤ 128 * (block t).val + j.val ∧ 128 * (block t).val + j.val < 8320) :
    k0_pay4 (F := Ideal) (iblk m c 5 t) (iblk m c 6 t) (iblk m c 7 t) (ix2 j k) = bandAt (qkvIn m c) (batch t) (block t) j ⟨1280 + k.val, by omega⟩ := by
  unfold bandAt
  rw [dif_pos h]
  have hn := (block t).isLt
  by_cases h1 : j.val < 128
  · refine ((values_low _ _ _ ⟨j.val, h1⟩ k).trans (valuesPrev_val m c t ⟨j.val, h1⟩ k)).trans ?_
    refine congrArg (fun r => qkvIn m c (ix3 (batch t) r _)) (Fin.ext ?_)
    show 128 * ((block t).val - 1) + j.val = 128 * (block t).val + j.val - 128
    omega
  · by_cases h2 : j.val < 256
    · obtain ⟨r, rfl⟩ := exists_128 j (by omega) h2
      refine ((values_mid _ _ _ r k).trans (valuesOwn_val m c t r k)).trans ?_
      refine congrArg (fun r => qkvIn m c (ix3 (batch t) r _)) (Fin.ext ?_)
      show 128 * (block t).val + r.val = 128 * (block t).val + (128 + r.val) - 128
      omega
    · obtain ⟨r, rfl⟩ := exists_256 j (by omega)
      refine ((values_high _ _ _ r k).trans (valuesNext_val m c t r k)).trans ?_
      refine congrArg (fun r => qkvIn m c (ix3 (batch t) r _)) (Fin.ext ?_)
      have h' : 128 * (block t).val + (256 + r.val) < 8320 := h.2
      show 128 * (min ((block t).val + 1) 63) + r.val = 128 * (block t).val + (256 + r.val) - 128
      omega

/-- A point's block. -/
theorem head_val (c : Dev nD) (t : Fin cfg0.N) (H : Fin 16) (q : Fin 128) (d : Fin 64) :
    headAt (grid0.coords t) (iblk m c 0 t) (X0_1 m c t) (iblk m c 2 t) (iblk m c 3 t) (iblk m c 4 t) (iblk m c 5 t) (iblk m c 6 t) (iblk m c 7 t) (iblk m c 8 t) (iblk m c 9 t) (iblk m c 10 t) H q d
      = attnAt (qkvIn m c) (sinkIn m c) (biasTable (tableIn m c)) (qGainIn m c) (kGainIn m c) (batch t) (block t) q H d := by
  unfold headAt attnAt
  have e1 : (fun e : Fin 64 => X0_1 m c t (ix3 0 q ⟨64 * H.val + e.val, by omega⟩)) = fun e => qkvIn m c (ix3 (batch t) ⟨128 * (block t).val + q.val, by have := (block t).isLt; omega⟩ ⟨64 * H.val + e.val, by omega⟩) :=
    funext fun e => query_val m c t q ⟨64 * H.val + e.val, by omega⟩
  have e2 : (fun e : Fin 64 => (iblk m c 9 t : S1x64.Idx → EReal) (ix2 0 e)) = fun e => qGainIn m c (ix1 e) := funext fun e => qGain_val m c t e
  have e3 : (fun e : Fin 64 => (iblk m c 10 t : S1x64.Idx → EReal) (ix2 0 e)) = fun e => kGainIn m c (ix1 e) := funext fun e => kGain_val m c t e
  have e4 : (fun j : Fin 384 => k0_pay2 (grid0.coords t) (ix2 q j)) = fun j => maskBit (block t).val q j := funext fun j => mask_val _ q j
  have e5 : (fun j : Fin 384 => (iblk m c 8 t : S16x128x384.Idx → EReal) (ix3 H q j)) = fun j => biasTable (tableIn m c) (ix3 H q j) := funext fun j => bias_val m c t H q j
  have key := averageOf_congr (p := fun j => maskBit (block t).val q j)
    (q := unitOf (fun e => qkvIn m c (ix3 (batch t) ⟨128 * (block t).val + q.val, by have := (block t).isLt; omega⟩ ⟨64 * H.val + e.val, by omega⟩)) (fun e => qGainIn m c (ix1 e)))
    (k := fun j => unitOf (fun e => k0_pay3 (F := Ideal) (iblk m c 2 t) (iblk m c 3 t) (iblk m c 4 t) (ix2 j ⟨64 * (H.val / 4) + e.val, by omega⟩)) (fun e => kGainIn m c (ix1 e)))
    (k' := fun j => unitOf (fun e => bandAt (qkvIn m c) (batch t) (block t) j ⟨1024 + (64 * (H.val / 4) + e.val), by omega⟩) (fun e => kGainIn m c (ix1 e)))
    (b := fun j => biasTable (tableIn m c) (ix3 H q j))
    (v := fun j => k0_pay4 (F := Ideal) (iblk m c 5 t) (iblk m c 6 t) (iblk m c 7 t) (ix2 j ⟨64 * (H.val / 4) + d.val, by omega⟩))
    (v' := fun j => bandAt (qkvIn m c) (batch t) (block t) j ⟨1280 + (64 * (H.val / 4) + d.val), by omega⟩)
    (z := sinkIn m c (ix1 H))
    (fun j hj => ⟨congrArg (unitOf · _) (funext fun e => keys_band m c t j ⟨64 * (H.val / 4) + e.val, by omega⟩ (inBand hj)), values_band m c t j ⟨64 * (H.val / 4) + d.val, by omega⟩ (inBand hj)⟩)
  refine Eq.trans ?_ key
  rw [e1, e2, e3, sink_val]
  refine congrArg (averageOf · _ _) (funext fun j => ?_)
  exact congr (congrArg (scoreOf · _ _) (congrFun e4 j)) (congrFun e5 j)

/-! ## The array the launch leaves -/

/-- The result. -/
def attnArr (c : Dev nD) : S6x8192x1024.Idx → EReal := fun i =>
  attnAt (qkvIn m c) (sinkIn m c) (biasTable (tableIn m c)) (qGainIn m c) (kGainIn m c) (i 0)
    ⟨(i 1).val / 128, by have : (i 1).val < 8192 := (i 1).isLt; omega⟩ ⟨(i 1).val % 128, by omega⟩
    ⟨(i 2).val / 64, by have : (i 2).val < 1024 := (i 2).isLt; omega⟩ ⟨(i 2).val % 64, by omega⟩

theorem attn_covered (i : S6x8192x1024.Idx) : ∃ t : Fin cfg0.N, (cfg0.win 11).flush t = true ∧ i ∈ ((cfg0.win 11).blk t).view.set := by
  have h1 : (i 1).val < 8192 := (i 1).isLt
  have h0 : (i 0).val < 6 := (i 0).isLt
  have hlt : 64 * (i 0).val + (i 1).val / 128 < grid0.N := by have : grid0.N = 384 := N_0; omega
  refine ⟨⟨64 * (i 0).val + (i 1).val / 128, hlt⟩, flush0_11 _, ?_⟩
  obtain ⟨hb, hn⟩ := coords_exist ⟨(i 0).val, h0⟩ ⟨(i 1).val / 128, by omega⟩
  have hp := result_place ⟨64 * (i 0).val + (i 1).val / 128, hlt⟩ ⟨(i 1).val % 128, by omega⟩ (i 2)
  have hi : (ix3 (batch ⟨64 * (i 0).val + (i 1).val / 128, hlt⟩) ⟨128 * (block ⟨64 * (i 0).val + (i 1).val / 128, hlt⟩).val + (i 1).val % 128, by have := (block ⟨64 * (i 0).val + (i 1).val / 128, hlt⟩).isLt; omega⟩ (i 2) : S6x8192x1024.Idx) = i := by
    funext b
    apply Fin.ext
    match b with
    | ⟨0, _⟩ => exact hb
    | ⟨1, _⟩ =>
      show 128 * (grid0.coords ⟨64 * (i 0).val + (i 1).val / 128, hlt⟩ 1).val + (i 1).val % 128 = (i 1).val
      have hn' : (grid0.coords ⟨64 * (i 0).val + (i 1).val / 128, hlt⟩ 1).val = (i 1).val / 128 := hn
      omega
    | ⟨2, _⟩ => rfl
  have hm := ((cfg0.win 11).blk ⟨64 * (i 0).val + (i 1).val / 128, hlt⟩).view.emb_mem_set (ix3 0 ⟨(i 1).val % 128, by omega⟩ (i 2) : S1x128x1024.Idx)
  exact (congrArg (· ∈ ((cfg0.win 11).blk ⟨64 * (i 0).val + (i 1).val / 128, hlt⟩).view.set) (hp.trans hi)).mp hm

theorem attn_final (c : Dev nD) : (dats m 0 c).arrAt 11 cfg0.N = attnArr m c := by
  refine (dats m 0 c).arrAt_eq_of_emb 11 (attnArr m c) (fun t hf y => ?_) attn_covered
  obtain ⟨r, j, rfl⟩ : ∃ (r : Fin 128) (j : Fin 1024), y = (ix3 0 r j : S1x128x1024.Idx) :=
    ⟨(show S1x128x1024.Idx from y) 1, (show S1x128x1024.Idx from y) 2, by
      funext a
      match a with
      | ⟨0, _⟩ => exact Fin.ext (by have := ((show S1x128x1024.Idx from y) 0).isLt; show ((show S1x128x1024.Idx from y) 0).val = 0; change ((show S1x128x1024.Idx from y) 0).val < 1 at this; omega)
      | ⟨1, _⟩ => rfl
      | ⟨2, _⟩ => rfl⟩
  refine Eq.trans ?_ (congrArg (attnArr m c) (result_place t r j)).symm
  show (dats m 0 c).after 11 t (ix3 0 r j) = _
  rw [after0_11]
  unfold outsAt0
  refine out_val _ _ _ _ _ _ _ _ _ _ _ _ _ _ _ _ _ _ _ _ _ _ _ _ _ _ _ _ _ _ _ _ _ _ _ _ _ _ _ (fun H q d hq hd => ?_)
  rw [head_val]
  have hq' : r.val = q.val := hq
  have hd' : j.val = 64 * H.val + d.val := hd
  have hn := (block t).isLt
  unfold attnArr
  have a1 : (⟨(128 * (block t).val + r.val) / 128, by omega⟩ : Fin 64) = block t := Fin.ext (by show (128 * (block t).val + r.val) / 128 = (block t).val; omega)
  have a2 : (⟨(128 * (block t).val + r.val) % 128, by omega⟩ : Fin 128) = q := Fin.ext (by show (128 * (block t).val + r.val) % 128 = q.val; omega)
  have a3 : (⟨j.val / 64, by omega⟩ : Fin 16) = H := Fin.ext (by show j.val / 64 = H.val; omega)
  have a4 : (⟨j.val % 64, by omega⟩ : Fin 64) = d := Fin.ext (by show j.val % 64 = d.val; omega)
  show _ = attnAt (qkvIn m c) (sinkIn m c) (biasTable (tableIn m c)) (qGainIn m c) (kGainIn m c) (batch t) ⟨(128 * (block t).val + r.val) / 128, _⟩ ⟨(128 * (block t).val + r.val) % 128, _⟩ ⟨j.val / 64, _⟩ ⟨j.val % 64, _⟩
  rw [a1, a2, a3, a4]

/-- The run with its result: every execution leaves it and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v43) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 11).trans (attn_final m c), h.2.1 c⟩)
    (θ_run_and (run_main m ρ) (frame m ρ))

end Cert.AttnValue

end
-- ==== Proof.Attn.RefTerm.lean ====
/-
  The attention: what the reference computes at the exact numbers, entry by entry.
-/
module

public import proofs.«01_k».proof.Proof.Gen.AttnRefIdeal.Run
public import proofs.«01_k».proof.Proof.Attn.Spec

@[expose] public section

set_option maxRecDepth 16384

noncomputable section

namespace Cert.AttnRefValue

open Cert.AttnRefIdeal Cert.AttnRefIdeal.Gen
open Idealize.ShloMosaic Idealize.ShloMosaic.TcCoe Idealize.SL.Sem

/-- The heads' rows. -/
def heads (x : FVec Ideal S6x8192x1536 .bf16) : FVec Ideal S6x8192x24x64 .f32 :=
  shapeCast _ (extf .f32 x bitsLt_bf16_f32) shapeCasts_S6x8192x1536_S6x8192x24x64

/-- The heads over the roots of their mean squares. -/
def normed (h : FVec Ideal S6x8192x24x64 .f32) : FVec Ideal S6x8192x24x64 .f32 :=
  mulf h (broadcastInDim S6x8192x24x64 ![0, 1, 2, 3] bcast_S6x8192x24x1_S6x8192x24x64_0_1_2_3 (Host.rsqrt (addf (Host.divf (broadcastInDim S6x8192x24x1 ![0, 1, 2] bcast_S6x8192x24_S6x8192x24x1_0_1_2 (Host.reduceAdd (mulf h h) (constant S_ .f32 0x00000000#32) reducesTo_S6x8192x24x64_S6x8192x24_d3 h_S_)) (broadcastInDim S6x8192x24x1 ![] bcast_S_S6x8192x24x1 (constant S_ .f32 0x42800000#32))) (broadcastInDim S6x8192x24x1 ![] bcast_S_S6x8192x24x1 (constant S_ .f32 0x358637BD#32)))))

/-- The queries, block by block. -/
def queries (x : FVec Ideal S6x8192x1536 .bf16) (g : FVec Ideal S64 .f32) : FVec Ideal S6x64x128x4x4x64 .f32 :=
  shapeCast _ (mulf (extractStridedSlice S6x8192x16x64 ![0, 0, 0, 0] (normed (heads x)) slices_S6x8192x24x64_S6x8192x16x64_0_0_0_0) (broadcastInDim S6x8192x16x64 ![0, 1, 2, 3] bcast_S1x1x1x64_S6x8192x16x64_0_1_2_3 (broadcastInDim S1x1x1x64 ![3] bcast_S64_S1x1x1x64_3 g))) shapeCasts_S6x8192x16x64_S6x64x128x4x4x64

/-- The keys. -/
def keyHeads (x : FVec Ideal S6x8192x1536 .bf16) (g : FVec Ideal S64 .f32) : FVec Ideal S6x8192x4x64 .f32 :=
  mulf (extractStridedSlice S6x8192x4x64 ![0, 0, 16, 0] (normed (heads x)) slices_S6x8192x24x64_S6x8192x4x64_0_0_16_0) (broadcastInDim S6x8192x4x64 ![0, 1, 2, 3] bcast_S1x1x1x64_S6x8192x4x64_0_1_2_3 (broadcastInDim S1x1x1x64 ![3] bcast_S64_S1x1x1x64_3 g))

/-- The values. -/
def valueHeads (x : FVec Ideal S6x8192x1536 .bf16) : FVec Ideal S6x8192x4x64 .f32 :=
  extractStridedSlice S6x8192x4x64 ![0, 0, 20, 0] (heads x) slices_S6x8192x24x64_S6x8192x4x64_0_0_20_0

/-- The keys and the values, a block of zeros on each side. -/
def padded (k v : FVec Ideal S6x8192x4x64 .f32) : FVec Ideal S6x66x128x8x64 .f32 :=
  shapeCast _ (pad S6x8448x8x64 ![0, 128, 0, 0] ![0, 128, 0, 0] ![0, 0, 0, 0] (concatenate S6x8192x8x64 2 [⟨S6x8192x4x64, k⟩, ⟨S6x8192x4x64, v⟩] concatenates_S6x8192x4x64_S6x8192x4x64_S6x8192x8x64_d2) (sitofp .f32 (constantI S_ 32 0#32)) pads_S6x8192x8x64_S6x8448x8x64_000_1281280_000_000 h_S_) shapeCasts_S6x8448x8x64_S6x66x128x8x64

/-- Every block's band. -/
def band (t : FVec Ideal S6x66x128x8x64 .f32) : FVec Ideal S6x64x384x8x64 .f32 :=
  concatenate S6x64x384x8x64 2 [⟨S6x64x128x8x64, extractStridedSlice S6x64x128x8x64 ![0, 0, 0, 0, 0] t slices_S6x66x128x8x64_S6x64x128x8x64_0_0_0_0_0⟩, ⟨S6x64x128x8x64, extractStridedSlice S6x64x128x8x64 ![0, 1, 0, 0, 0] t slices_S6x66x128x8x64_S6x64x128x8x64_0_1_0_0_0⟩, ⟨S6x64x128x8x64, extractStridedSlice S6x64x128x8x64 ![0, 2, 0, 0, 0] t slices_S6x66x128x8x64_S6x64x128x8x64_0_2_0_0_0⟩] concatenates_S6x64x128x8x64_S6x64x128x8x64_S6x64x128x8x64_S6x64x384x8x64_d2

/-- The band's keys, and its values. -/
def bandKeys (t : FVec Ideal S6x64x384x8x64 .f32) : FVec Ideal S6x64x384x4x64 .f32 := extractStridedSlice S6x64x384x4x64 ![0, 0, 0, 0, 0] t slices_S6x64x384x8x64_S6x64x384x4x64_0_0_0_0_0
def bandValues (t : FVec Ideal S6x64x384x8x64 .f32) : FVec Ideal S6x64x384x4x64 .f32 := extractStridedSlice S6x64x384x4x64 ![0, 0, 0, 4, 0] t slices_S6x64x384x8x64_S6x64x384x4x64_0_0_0_4_0

/-- The scaled products. -/
def products (k : FVec Ideal S6x64x384x4x64 .f32) (q : FVec Ideal S6x64x128x4x4x64 .f32) : FVec Ideal S6x64x4x4x128x384 .f32 :=
  mulf (transpose S6x64x4x4x128x384 [0, 1, 2, 5, 4, 3] (Host.dotGeneral dot_S6x64x384x4x64_S6x64x128x4x4x64_S6x64x4x384x128x4_4_5_2_24_013_013 none k q) transposes_S6x64x4x384x128x4_S6x64x4x4x128x384_0_1_2_5_4_3) (broadcastInDim S6x64x4x4x128x384 ![] bcast_S_S6x64x4x4x128x384 (constant S_ .f32 0x3E000000#32))

/-- The places, block by block. -/
def places : IVec S64x384 32 :=
  addi (muli (subi (iotaInDim S64x384 32 0) (broadcastInDim S64x384 ![] bcast_S_S64x384 (constantI S_ 32 1#32))) (broadcastInDim S64x384 ![] bcast_S_S64x384 (constantI S_ 32 128#32))) (iotaInDim S64x384 32 1)

/-- The distances. -/
def dist : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))

/-- The mask. -/
def mask : IVec S6x64x4x4x128x384 1 :=
  broadcastInDim S6x64x4x4x128x384 ![0, 1, 2, 3, 4, 5] bcast_S1x64x1x1x128x384_S6x64x4x4x128x384_0_1_2_3_4_5 (broadcastInDim S1x64x1x1x128x384 ![1, 4, 5] bcast_S64x128x384_S1x64x1x1x128x384_1_4_5
    (andi (broadcastInDim S64x128x384 ![0, 1, 2] bcast_S1x128x384_S64x128x384_0_1_2 (broadcastInDim S1x128x384 ![1, 2] bcast_S128x384_S1x128x384_1_2 (cmpi .sle (absi dist) (broadcastInDim S128x384 ![] bcast_S_S128x384 (constantI S_ 32 128#32)))))
      (broadcastInDim S64x128x384 ![0, 1, 2] bcast_S64x1x384_S64x128x384_0_1_2 (broadcastInDim S64x1x384 ![0, 2] bcast_S64x384_S64x1x384_0_2 (andi (cmpi .sge places (broadcastInDim S64x384 ![] bcast_S_S64x384 (constantI S_ 32 0#32))) (cmpi .slt places (broadcastInDim S64x384 ![] bcast_S_S64x384 (constantI S_ 32 8192#32))))))))

/-- The bias, for every block. -/
def biases (b : FVec Ideal S16x128x384 .f32) : FVec Ideal S6x64x4x4x128x384 .f32 :=
  broadcastInDim S6x64x4x4x128x384 ![0, 1, 2, 3, 4, 5] bcast_S1x1x4x4x128x384_S6x64x4x4x128x384_0_1_2_3_4_5 (broadcastInDim S1x1x4x4x128x384 ![2, 3, 4, 5] bcast_S4x4x128x384_S1x1x4x4x128x384_2_3_4_5 (shapeCast _ b shapeCasts_S16x128x384_S4x4x128x384))

/-- The masked scores. -/
def scores (p b : FVec Ideal S6x64x4x4x128x384 .f32) : FVec Ideal S6x64x4x4x128x384 .f32 :=
  select mask (addf p b) (broadcastInDim S6x64x4x4x128x384 ![] bcast_S_S6x64x4x4x128x384 (constant S_ .f32 0xFF800000#32))

/-- The sinks. -/
def sinks (z : FVec Ideal S16 .f32) : FVec Ideal S6x64x4x4x128x1 .f32 :=
  broadcastInDim S6x64x4x4x128x1 ![0, 1, 2, 3, 4, 5] bcast_S1x1x4x4x1x1_S6x64x4x4x128x1_0_1_2_3_4_5 (broadcastInDim S1x1x4x4x1x1 ![2, 3] bcast_S4x4_S1x1x4x4x1x1_2_3 (shapeCast _ z shapeCasts_S16_S4x4))

/-- The greatest scores. -/
def maxes (s : FVec Ideal S6x64x4x4x128x384 .f32) : FVec Ideal S6x64x4x4x128 .f32 :=
  Host.reduce FloatOps.maximumf s (constant S_ .f32 0xFF800000#32) reducesTo_S6x64x4x4x128x384_S6x64x4x4x128_d5 h_S_

/-- The greatest scores, or the sinks. -/
def tops (s : FVec Ideal S6x64x4x4x128x384 .f32) (z : FVec Ideal S16 .f32) : FVec Ideal S6x64x4x4x128x1 .f32 :=
  maximumf (broadcastInDim S6x64x4x4x128x1 ![0, 1, 2, 3, 4] bcast_S6x64x4x4x128_S6x64x4x4x128x1_0_1_2_3_4 (maxes s)) (sinks z)

/-- The scores' exponentials. -/
def weights (s : FVec Ideal S6x64x4x4x128x384 .f32) (z : FVec Ideal S16 .f32) : FVec Ideal S6x64x4x4x128x384 .f32 :=
  Host.exp (subf s (broadcastInDim S6x64x4x4x128x384 ![0, 1, 2, 3, 4, 5] bcast_S6x64x4x4x128x1_S6x64x4x4x128x384_0_1_2_3_4_5 (tops s z)))

/-- The sums along the band. -/
def sums (s : FVec Ideal S6x64x4x4x128x384 .f32) : FVec Ideal S6x64x4x4x128 .f32 :=
  Host.reduceAdd s (constant S_ .f32 0x00000000#32) reducesTo_S6x64x4x4x128x384_S6x64x4x4x128_d5 h_S_

/-- Their totals. -/
def totals (s : FVec Ideal S6x64x4x4x128x384 .f32) (z : FVec Ideal S16 .f32) : FVec Ideal S6x64x4x4x128x1 .f32 :=
  addf (broadcastInDim S6x64x4x4x128x1 ![0, 1, 2, 3, 4] bcast_S6x64x4x4x128_S6x64x4x4x128x1_0_1_2_3_4 (sums (weights s z))) (Host.exp (subf (sinks z) (tops s z)))

/-- The weighted values over the totals. -/
def averages (s : FVec Ideal S6x64x4x4x128x384 .f32) (v : FVec Ideal S6x64x384x4x64 .f32) (z : FVec Ideal S16 .f32) : FVec Ideal S6x64x4x4x128x64 .f32 :=
  Host.divf (Host.dotGeneral dot_S6x64x4x4x128x384_S6x64x384x4x64_S6x64x4x4x128x64_5_2_34_4_012_013 none (weights s z) v) (broadcastInDim S6x64x4x4x128x64 ![0, 1, 2, 3, 4, 5] bcast_S6x64x4x4x128x1_S6x64x4x4x128x64_0_1_2_3_4_5 (totals s z))

/-- The result's rows and columns. -/
def merged (o : FVec Ideal S6x64x4x4x128x64 .f32) : FVec Ideal S6x8192x1024 .bf16 :=
  truncf .bf16 (shapeCast _ (transpose S6x64x128x4x4x64 [0, 1, 4, 2, 3, 5] o transposes_S6x64x4x4x128x64_S6x64x128x4x4x64_0_1_4_2_3_5) shapeCasts_S6x64x128x4x4x64_S6x8192x1024) bitsLt_bf16_f32

/-- Every block's band of keys and values. -/
def bands (x : FVec Ideal S6x8192x1536 .bf16) (kg : FVec Ideal S64 .f32) : FVec Ideal S6x64x384x8x64 .f32 := band (padded (keyHeads x kg) (valueHeads x))

/-- The result. -/
def attn (x : FVec Ideal S6x8192x1536 .bf16) (z : FVec Ideal S16 .f32) (w : FVec Ideal S32x16 .f32) (qg kg : FVec Ideal S64 .f32) : FVec Ideal S6x8192x1024 .bf16 :=
  merged (averages (scores (products (bandKeys (bands x kg)) (queries x qg)) (biases (Cert.AttnValue.biasTable w))) (bandValues (bands x kg)) z)

theorem attn_eq (m : (ℓ : Loc nD τ sig) → Buf (Elt Ideal) ℓ) (c : Dev nD) :
    Cert.AttnRefIdeal.Value.res_main_v122 (F := Ideal) m c = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.AttnRefValue

end
-- ==== Proof.Attn.Ref.lean ====
/-
  The attention: the reference's result is the kernel's, entry by entry.
-/
module

public import proofs.«01_k».proof.Proof.Attn.RefTerm
public import Idealize.ShloMosaic.Lib.Pipeline.ValueKit

@[expose] public section

set_option maxRecDepth 16384

noncomputable section

namespace Cert.AttnRefValue

open Cert.AttnRefIdeal Cert.AttnRefIdeal.Gen Cert.AttnValue
open Idealize.ShloMosaic Idealize.ShloMosaic.TcCoe Idealize.SL.Sem

/-! ### Reductions along the last of six axes -/

section Fiber
variable {n0 n1 n2 n3 n4 n5 : Nat}

/-- The indices that drop to `j` are those with `j`'s coordinates and any last one. -/
theorem fiber (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, ix6 a b c d e k = i := by
  constructor
  · intro q
    refine ⟨i 5, ?_⟩
    funext w; apply Fin.ext
    match w with
    | ⟨0, _⟩ => exact (congrArg Fin.val (congrFun q ⟨0, (by decide : 0 < 5)⟩)).symm
    | ⟨1, _⟩ => exact (congrArg Fin.val (congrFun q ⟨1, (by decide : 1 < 5)⟩)).symm
    | ⟨2, _⟩ => exact (congrArg Fin.val (congrFun q ⟨2, (by decide : 2 < 5)⟩)).symm
    | ⟨3, _⟩ => exact (congrArg Fin.val (congrFun q ⟨3, (by decide : 3 < 5)⟩)).symm
    | ⟨4, _⟩ => exact (congrArg Fin.val (congrFun q ⟨4, (by decide : 4 < 5)⟩)).symm
    | ⟨5, _⟩ => rfl
  · rintro ⟨k, rfl⟩
    funext w; apply Fin.ext
    match w with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩) (a : Fin n0) (b : Fin n1) (c : Fin n2) (d : Fin n3) (e : Fin n4)
    (v : (⟨6, ![n0, n1, n2, n3, n4, n5]⟩ : Shape).Idx → EReal) (init : EReal) : Ideal.hostReduceAdd h v init (ix5 a b c d e) = init + ∑ k : Fin n5, v (ix6 a b c d e k) := by
  unfold Ideal.hostReduceAdd
  rw [Finset.sum_filter_eq_sum_of_fiber _ (fun k : Fin n5 => ix6 a b c d e k) (fun _ _ q => congrFun q 5) (fiber h a b c d e) v]

theorem max_last {u : Shape} (h : (⟨6, ![n0, n1, n2, n3, n4, n5]⟩ : Shape).ReducesTo [5] ⟨5, ![n0, n1, n2, n3, n4]⟩) (a : Fin n0) (b : Fin n1) (c : Fin n2) (d : Fin n3) (e : Fin n4)
    (v : (⟨6, ![n0, n1, n2, n3, n4, n5]⟩ : Shape).Idx → EReal) (init : u.Idx → EReal) (hu : 0 < u.numel) :
    Host.reduce max v init h hu (ix5 a b c d e) = (Finset.univ : Finset (Fin n5)).fold max (init (Shape.Idx.first hu)) (fun k => v (ix6 a b c d e k)) := by
  rw [Host.reduce_eq_fold, Finset.fold_filter_eq_fold_of_fiber max _ (fun k : Fin n5 => ix6 a b c d e k) (fun _ _ q => congrFun q 5) (fiber h a b c d e)]

end Fiber

/-! ### The two constants -/

theorem negInf : Ideal.ofBits .f32 0xFF800000#32 = ⊥ := by simp [Ideal.ofBits, Ideal.ieee]

theorem scale_nonneg : 0 ≤ Ideal.ofBits .f32 0x3E000000#32 := by
  simp only [Ideal.ofBits, Ideal.ieee]
  simp
  rw [← EReal.coe_mul]
  exact EReal.coe_nonneg.2 (by positivity)

theorem scale_ne_top : Ideal.ofBits .f32 0x3E000000#32 ≠ ⊤ := by
  simp only [Ideal.ofBits, Ideal.ieee]
  simp
  rw [← EReal.coe_mul]
  exact EReal.coe_ne_top _

/-- A sum times a constant that is nonnegative and finite. -/
theorem sum_scaled {c : EReal} (h0 : 0 ≤ c) (h1 : c ≠ ⊤) (s : Finset (Fin 64)) (f : Fin 64 → EReal) : (∑ e ∈ s, f e) * c = ∑ e ∈ s, f e * c := by
  induction s using Finset.induction_on with
  | empty => simp
  | insert a s ha ih => rw [Finset.sum_insert ha, Finset.sum_insert ha, EReal.right_distrib_of_nonneg_of_ne_top h0 h1, ih]

/-- The scale may be taken on the sum or on the query. -/
theorem score_eq (p : BitVec 1) (q k : Fin 64 → EReal) (b : EReal) :
    Scalar.select p ((∑ e, k e * q e) * Ideal.ofBits .f32 0x3E000000#32 + b) ⊥ = scoreOf p q k b := by
  unfold scoreOf
  rw [sum_scaled scale_nonneg scale_ne_top]
  congr 2
  refine Finset.sum_congr rfl fun e _ => ?_
  rw [mul_comm (k e) (q e), mul_right_comm]

/-! ### The reference's steps, read at an entry -/

theorem heads_apply (x : FVec Ideal S6x8192x1536 .bf16) (b : Fin 6) (r : Fin 8192) (h : Fin 24) (d : Fin 64) :
    heads x (ix4 b r h d) = x (ix3 b r ⟨64 * h.val + d.val, by omega⟩) := by
  unfold heads
  pointwise
  simp only [mul_comm h.val 64]

theorem normed_apply (x : FVec Ideal S6x8192x24x64 .f32) (b : Fin 6) (r : Fin 8192) (h : Fin 24) (d : Fin 64) :
    normed x (ix4 b r h d) = x (ix4 b r h d) * Ideal.rsqrt (Ideal.div (∑ e, x (ix4 b r h e) * x (ix4 b r h e)) (Ideal.ofBits .f32 0x42800000#32) + Ideal.ofBits .f32 0x358637BD#32) := by
  unfold normed
  pointwise

theorem queries_apply (x : FVec Ideal S6x8192x1536 .bf16) (g : FVec Ideal S64 .f32) (b : Fin 6) (n : Fin 64) (q : Fin 128) (k j : Fin 4) (d : Fin 64) :
    queries x g (ix6 b n q k j d) = unitOf (fun e => x (ix3 b ⟨128 * n.val + q.val, by omega⟩ ⟨64 * (4 * k.val + j.val) + e.val, by omega⟩)) (fun e => g (ix1 e)) d := by
  unfold queries unitOf
  pointwise
  rw [normed_apply]
  simp only [heads_apply, mul_comm n.val 128, mul_comm k.val 4]

theorem keyHeads_apply (x : FVec Ideal S6x8192x1536 .bf16) (g : FVec Ideal S64 .f32) (b : Fin 6) (r : Fin 8192) (h : Fin 4) (d : Fin 64) :
    keyHeads x g (ix4 b r h d) = unitOf (fun e => x (ix3 b r ⟨1024 + (64 * h.val + e.val), by omega⟩)) (fun e => g (ix1 e)) d := by
  have e1 : ∀ e : Nat, 64 * (16 + h.val) + e = 1024 + (64 * h.val + e) := by intro e; omega
  unfold keyHeads unitOf
  pointwise
  rw [normed_apply]
  simp only [heads_apply, e1]

theorem valueHeads_apply (x : FVec Ideal S6x8192x1536 .bf16) (b : Fin 6) (r : Fin 8192) (h : Fin 4) (d : Fin 64) :
    valueHeads x (ix4 b r h d) = x (ix3 b r ⟨1280 + (64 * h.val + d.val), by omega⟩) := by
  have e1 : ∀ e : Nat, 64 * (20 + h.val) + e = 1280 + (64 * h.val + e) := by intro e; omega
  unfold valueHeads
  pointwise
  rw [heads_apply]
  simp only [e1]

theorem padded_key (k v : FVec Ideal S6x8192x4x64 .f32) (b : Fin 6) (n : Fin 66) (r : Fin 128) (h : Fin 4) (d : Fin 64) (hb : 128 ≤ n.val * 128 + r.val ∧ n.val * 128 + r.val < 8320) :
    padded k v (ix5 b n r ⟨h.val, by omega⟩ d) = k (ix4 b ⟨n.val * 128 + r.val - 128, by omega⟩ h d) := by
  unfold padded
  pointwise
  rw [dif_pos (by omega)]

theorem padded_value (k v : FVec Ideal S6x8192x4x64 .f32) (b : Fin 6) (n : Fin 66) (r : Fin 128) (h : Fin 4) (d : Fin 64) (hb : 128 ≤ n.val * 128 + r.val ∧ n.val * 128 + r.val < 8320) :
    padded k v (ix5 b n r ⟨4 + h.val, by omega⟩ d) = v (ix4 b ⟨n.val * 128 + r.val - 128, by omega⟩ h d) := by
  unfold padded
  pointwise
  rw [dif_pos (by omega)]

theorem band_apply (t : FVec Ideal S6x66x128x8x64 .f32) (b : Fin 6) (n : Fin 64) (j : Fin 384) (h : Fin 8) (d : Fin 64) :
    band t (ix5 b n j h d) = t (ix5 b ⟨n.val + j.val / 128, by omega⟩ ⟨j.val % 128, by omega⟩ h d) := by
  have key : ∀ (a a' : Fin 66) (c c' : Fin 128), a.val = a'.val → c.val = c'.val → t (ix5 b a c h d) = t (ix5 b a' c' h d) := by
    intro a a' c c' e1 e2; rw [Fin.ext e1, Fin.ext e2]
  unfold band
  pointwise
  by_cases h1 : j.val < 128
  · rw [dif_pos h1]
    exact key _ _ _ _ (by simp only; omega) (by simp only; omega)
  · rw [dif_neg h1]
    by_cases h2 : j.val - 128 < 128
    · rw [dif_pos h2]
      exact key _ _ _ _ (by simp only; omega) (by simp only; omega)
    · rw [dif_neg h2]
      exact key _ _ _ _ (by simp only; omega) (by simp only; omega)

theorem bandKeys_apply (t : FVec Ideal S6x64x384x8x64 .f32) (b : Fin 6) (n : Fin 64) (j : Fin 384) (h : Fin 4) (d : Fin 64) :
    bandKeys t (ix5 b n j h d) = t (ix5 b n j ⟨h.val, by omega⟩ d) := by
  unfold bandKeys
  pointwise

theorem bandValues_apply (t : FVec Ideal S6x64x384x8x64 .f32) (b : Fin 6) (n : Fin 64) (j : Fin 384) (h : Fin 4) (d : Fin 64) :
    bandValues t (ix5 b n j h d) = t (ix5 b n j ⟨4 + h.val, by omega⟩ d) := by
  unfold bandValues
  pointwise

/-- Where the band is inside the sequence, its rows are the sequence's. -/
theorem row_val (n : Fin 64) (j : Fin 384) : (n.val + j.val / 128) * 128 + j.val % 128 = 128 * n.val + j.val := by omega

theorem bands_key (x : FVec Ideal S6x8192x1536 .bf16) (kg : FVec Ideal S64 .f32) (b : Fin 6) (n : Fin 64) (j : Fin 384) (h : Fin 4) (d : Fin 64) (hj : 128 ≤ 128 * n.val + j.val ∧ 128 * n.val + j.val < 8320) :
    bandKeys (bands x kg) (ix5 b n j h d) = unitOf (fun e => bandAt x b n j ⟨1024 + (64 * h.val + e.val), by omega⟩) (fun e => kg (ix1 e)) d := by
  unfold bands bandAt
  rw [bandKeys_apply, band_apply, padded_key _ _ _ _ _ _ _ (by simp only [row_val]; exact hj), keyHeads_apply]
  simp only [row_val, dif_pos hj]

theorem bands_value (x : FVec Ideal S6x8192x1536 .bf16) (kg : FVec Ideal S64 .f32) (b : Fin 6) (n : Fin 64) (j : Fin 384) (h : Fin 4) (d : Fin 64) (hj : 128 ≤ 128 * n.val + j.val ∧ 128 * n.val + j.val < 8320) :
    bandValues (bands x kg) (ix5 b n j h d) = bandAt x b n j ⟨1280 + (64 * h.val + d.val), by omega⟩ := by
  unfold bands bandAt
  rw [bandValues_apply, band_apply, padded_value _ _ _ _ _ _ _ (by simp only [row_val]; exact hj), valueHeads_apply]
  simp only [row_val, dif_pos hj]

theorem products_apply (k : FVec Ideal S6x64x384x4x64 .f32) (q : FVec Ideal S6x64x128x4x4x64 .f32) (b : Fin 6) (n : Fin 64) (h g : Fin 4) (i : Fin 128) (j : Fin 384) :
    products k q (ix6 b n h g i j) = (∑ e, k (ix5 b n j h e) * q (ix6 b n i h g e)) * Ideal.ofBits .f32 0x3E000000#32 := by
  unfold products
  pointwise

theorem mask_apply (b : Fin 6) (n : Fin 64) (h g : Fin 4) (i : Fin 128) (j : Fin 384) : mask (ix6 b n h g i j) = maskBit n.val i j := by
  unfold mask maskBit places dist
  pointwise
  exact and_assoc _ _ _

theorem biases_apply (a : FVec Ideal S16x128x384 .f32) (b : Fin 6) (n : Fin 64) (h g : Fin 4) (i : Fin 128) (j : Fin 384) :
    biases a (ix6 b n h g i j) = a (ix3 ⟨4 * h.val + g.val, by omega⟩ i j) := by
  unfold biases
  pointwise
  simp only [mul_comm h.val 4]

theorem scores_apply (p a : FVec Ideal S6x64x4x4x128x384 .f32) (b : Fin 6) (n : Fin 64) (h g : Fin 4) (i : Fin 128) (j : Fin 384) :
    scores p a (ix6 b n h g i j) = Scalar.select (maskBit n.val i j) (p (ix6 b n h g i j) + a (ix6 b n h g i j)) ⊥ := by
  rw [← mask_apply b n h g i j, ← negInf]
  unfold scores
  pointwise

theorem sinks_apply (z : FVec Ideal S16 .f32) (b : Fin 6) (n : Fin 64) (h g : Fin 4) (i : Fin 128) (o : Fin 1) :
    sinks z (ix6 b n h g i o) = z (ix1 ⟨4 * h.val + g.val, by omega⟩) := by
  unfold sinks
  pointwise
  simp only [mul_comm h.val 4]

theorem maxes_apply (s : FVec Ideal S6x64x4x4x128x384 .f32) (b : Fin 6) (n : Fin 64) (h g : Fin 4) (i : Fin 128) :
    maxes s (ix5 b n h g i) = Finset.univ.fold max (Ideal.ofBits .f32 0xFF800000#32) (fun j : Fin 384 => s (ix6 b n h g i j)) := by
  unfold maxes
  rw [Ideal.maximumf_eq_max, max_last]
  have e : (constant (F := Ideal) S_ .f32 0xFF800000#32) (Shape.Idx.first h_S_) = Ideal.ofBits .f32 0xFF800000#32 := rfl
  rw [e]

theorem sums_apply (s : FVec Ideal S6x64x4x4x128x384 .f32) (b : Fin 6) (n : Fin 64) (h g : Fin 4) (i : Fin 128) :
    sums s (ix5 b n h g i) = ∑ j : Fin 384, s (ix6 b n h g i j) := by
  refine (sum_last reducesTo_S6x64x4x4x128x384_S6x64x4x4x128_d5 b n h g i s _).trans ?_
  have e : (constant (F := Ideal) S_ .f32 0x00000000#32) (Shape.Idx.first h_S_) = (0 : EReal) := by
    show Ideal.ofBits .f32 0x00000000#32 = 0
    simp [Ideal.ofBits, Ideal.ieee]
  rw [e, zero_add]

theorem max_apply (m : FVec Ideal S6x64x4x4x128 .f32) (t : FVec Ideal S6x64x4x4x128x1 .f32) (b : Fin 6) (n : Fin 64) (h g : Fin 4) (i : Fin 128) (o : Fin 1) :
    maximumf (broadcastInDim S6x64x4x4x128x1 ![0, 1, 2, 3, 4] bcast_S6x64x4x4x128_S6x64x4x4x128x1_0_1_2_3_4 m) t (ix6 b n h g i o) = max (m (ix5 b n h g i)) (t (ix6 b n h g i o)) := by
  pointwise

theorem tops_apply (s : FVec Ideal S6x64x4x4x128x384 .f32) (z : FVec Ideal S16 .f32) (b : Fin 6) (n : Fin 64) (h g : Fin 4) (i : Fin 128) (o : Fin 1) :
    tops s z (ix6 b n h g i o) = topOf (fun j => s (ix6 b n h g i j)) (z (ix1 ⟨4 * h.val + g.val, by omega⟩)) := by
  unfold tops topOf
  rw [max_apply, maxes_apply, sinks_apply]

theorem weights_apply (s : FVec Ideal S6x64x4x4x128x384 .f32) (z : FVec Ideal S16 .f32) (b : Fin 6) (n : Fin 64) (h g : Fin 4) (i : Fin 128) (j : Fin 384) :
    weights s z (ix6 b n h g i j) = Ideal.exp (s (ix6 b n h g i j) - topOf (fun j => s (ix6 b n h g i j)) (z (ix1 ⟨4 * h.val + g.val, by omega⟩))) := by
  unfold weights
  pointwise
  rw [tops_apply]

theorem totals_apply (s : FVec Ideal S6x64x4x4x128x384 .f32) (z : FVec Ideal S16 .f32) (b : Fin 6) (n : Fin 64) (h g : Fin 4) (i : Fin 128) (o : Fin 1) :
    totals s z (ix6 b n h g i o) = ∑ j, Ideal.exp (s (ix6 b n h g i j) - topOf (fun j => s (ix6 b n h g i j)) (z (ix1 ⟨4 * h.val + g.val, by omega⟩))) + Ideal.exp (z (ix1 ⟨4 * h.val + g.val, by omega⟩) - topOf (fun j => s (ix6 b n h g i j)) (z (ix1 ⟨4 * h.val + g.val, by omega⟩))) := by
  unfold totals
  pointwise
  rw [sums_apply, tops_apply, sinks_apply]
  simp only [weights_apply]

theorem averages_apply (s : FVec Ideal S6x64x4x4x128x384 .f32) (v : FVec Ideal S6x64x384x4x64 .f32) (z : FVec Ideal S16 .f32) (b : Fin 6) (n : Fin 64) (h g : Fin 4) (i : Fin 128) (d : Fin 64) :
    averages s v z (ix6 b n h g i d) = averageOf (fun j => s (ix6 b n h g i j)) (fun j => v (ix5 b n j h d)) (z (ix1 ⟨4 * h.val + g.val, by omega⟩)) := by
  unfold averages averageOf
  pointwise
  simp only [totals_apply, weights_apply]

theorem merged_apply (o : FVec Ideal S6x64x4x4x128x64 .f32) (b : Fin 6) (r : Fin 8192) (j : Fin 1024) :
    merged o (ix3 b r j) = o (ix6 b ⟨r.val / 128, by omega⟩ ⟨j.val / 256, by omega⟩ ⟨j.val / 64 % 4, by omega⟩ ⟨r.val % 128, by omega⟩ ⟨j.val % 64, by omega⟩) := by
  unfold merged
  pointwise

/-! ### The result -/

/-- The averages are the kernel's entries. -/
theorem averages_entry (x : FVec Ideal S6x8192x1536 .bf16) (z : FVec Ideal S16 .f32) (a : FVec Ideal S16x128x384 .f32) (qg kg : FVec Ideal S64 .f32)
    (b : Fin 6) (n : Fin 64) (h g : Fin 4) (i : Fin 128) (d : Fin 64) :
    averages (scores (products (bandKeys (bands x kg)) (queries x qg)) (biases a)) (bandValues (bands x kg)) z (ix6 b n h g i d)
      = attnAt x z a qg kg b n i ⟨4 * h.val + g.val, by omega⟩ d := by
  have e : (4 * h.val + g.val) / 4 = h.val := by omega
  rw [averages_apply]
  unfold attnAt
  simp only [scores_apply, products_apply, biases_apply, score_eq, queries_apply, e]
  refine averageOf_congr (p := fun j => maskBit n.val i j) (k := fun j e => bandKeys (bands x kg) (ix5 b n j h e))
    (k' := fun j => unitOf (fun e => bandAt x b n j ⟨1024 + (64 * h.val + e.val), by omega⟩) (fun e => kg (ix1 e))) fun j hj => ⟨?_, ?_⟩
  · funext e
    exact bands_key x kg b n j h e (inBand hj)
  · exact bands_value x kg b n j h d (inBand hj)

theorem attn_apply (x : FVec Ideal S6x8192x1536 .bf16) (z : FVec Ideal S16 .f32) (w : FVec Ideal S32x16 .f32) (qg kg : FVec Ideal S64 .f32)
    (b : Fin 6) (r : Fin 8192) (c : Fin 1024) :
    attn x z w qg kg (ix3 b r c) = attnAt x z (biasTable w) qg kg b ⟨r.val / 128, by omega⟩ ⟨r.val % 128, by omega⟩ ⟨c.val / 64, by omega⟩ ⟨c.val % 64, by omega⟩ := by
  have e : (⟨4 * (c.val / 256) + c.val / 64 % 4, by omega⟩ : Fin 16) = ⟨c.val / 64, by omega⟩ := Fin.ext (by simp only; omega)
  unfold attn
  rw [merged_apply, averages_entry, e]

/-- The reference's result, as the kernel's. -/
theorem attn_array (x : FVec Ideal S6x8192x1536 .bf16) (z : FVec Ideal S16 .f32) (w : FVec Ideal S32x16 .f32) (qg kg : FVec Ideal S64 .f32) :
    attn x z w qg kg = fun y => attnAt x z (biasTable w) qg kg (y 0) ⟨(y 1).val / 128, by have : (y 1).val < 8192 := (y 1).isLt; omega⟩
      ⟨(y 1).val % 128, by omega⟩ ⟨(y 2).val / 64, by have : (y 2).val < 1024 := (y 2).isLt; omega⟩ ⟨(y 2).val % 64, by omega⟩ := by
  funext y
  rw [eq_ix3 y]
  exact attn_apply x z w qg kg _ _ _

end Cert.AttnRefValue

end
-- ==== Proof.EvenIn.Same.lean ====
/-
  The even layer's input: the printed program and the one read at the reals are one text, so a run of the second is a run of
  the first.
-/
module

public import proofs.«01_k».proof.Proof.Gen.EvenIn
public import proofs.«01_k».proof.Proof.Gen.EvenInIdeal
public import Idealize.ShloMosaic.Lib.Tactic

@[expose] public section

set_option maxRecDepth 16384
set_option maxHeartbeats 1000000

namespace Cert.EvenInSame

open Idealize.ShloMosaic Idealize.ShloMosaic.Tactic Idealize.SL.Sem

variable {F : FTy → Type} [FloatOps F]

theorem body_eq : Cert.EvenIn.cc0_even_in (F := F) = Cert.EvenInIdeal.cc0_even_in (F := F) := by sl_kernel_rfl

theorem bodies_eq : (Cert.EvenIn.defs₀ (F := F) : Defs Cert.EvenIn.nD Cert.EvenIn.τ Cert.EvenIn.sig (Elt F) Cert.EvenIn.Λ₀) = Cert.EvenInIdeal.defs₀ (F := F) := by
  refine congrArg Defs.onTc ?_
  funext ℓ args
  match ℓ, args with
  | ⟨0, _⟩, (t, s) => rfl

theorem defs_eq : (Cert.EvenIn.defs (F := F) : Defs Cert.EvenIn.nD Cert.EvenIn.τ Cert.EvenIn.sig (Elt F) _) = Cert.EvenInIdeal.defs (F := F) :=
  congrArg (fun d => Pipeline.defs (Cert.EvenInIdeal.pcfgs (F := F)) d) bodies_eq

theorem main_at (c : Dev Cert.EvenIn.nD) : Cert.EvenIn.main (F := F) c = Cert.EvenInIdeal.main (F := F) c := by
  sl_kernel_rfl

theorem main_eq : Cert.EvenIn.main (F := F) = Cert.EvenInIdeal.main (F := F) := funext fun c => main_at c

theorem run_same (s : MemSt Cert.EvenInIdeal.nD Cert.EvenInIdeal.τ Cert.EvenInIdeal.sig (Elt F)) (Q : PUnit × MemSt Cert.EvenInIdeal.nD Cert.EvenInIdeal.τ Cert.EvenInIdeal.sig (Elt F) → Prop)
    (h : θ_run (Cert.EvenInIdeal.defs (F := F)) (onTc (τ := Cert.EvenInIdeal.τ) (Cert.EvenInIdeal.main (F := F))) s Q) :
    θ_run (Cert.EvenIn.defs (F := F)) (onTc (τ := Cert.EvenIn.τ) (Cert.EvenIn.main (F := F))) s Q :=
  Eq.mpr (congrArg₂ (fun d (p : Dev Cert.EvenInIdeal.nD → Prog (TpuEff Cert.EvenInIdeal.nD Cert.EvenInIdeal.τ Cert.EvenInIdeal.sig (Elt F)
    (Pipeline.Sig Cert.EvenInIdeal.Λ₀ (Fin 1) fun p => (Cert.EvenInIdeal.pcfgs (F := F) p).Adm) .tc) PUnit) => θ_run d (onTc (τ := Cert.EvenInIdeal.τ) p) s Q) defs_eq main_eq) h

end Cert.EvenInSame
-- ==== Proof.EvenIn.Spec.lean ====
/-
  The even layer's input at the exact numbers, entry by entry: the projection of the normalised row, the gate, the group's
  normalisation, the mixing of a chunk's rows.
-/
module

public import proofs.«01_k».proof.Proof.Gen.EvenInIdeal
public import Idealize.ShloMosaic.Lib.Pointwise

@[expose] public section

set_option maxRecDepth 16384

noncomputable section

namespace Cert.EvenInValue

open Cert.EvenInIdeal
open Idealize.ShloMosaic Idealize.ShloMosaic.TcCoe Idealize.SL.Sem

/-- The gate's nonlinearity. -/
def gelu (p : EReal) : EReal :=
  p * (Ideal.ofBits .f32 0x3F000000#32 * (Ideal.ofBits .f32 0x3F800000#32 + Ideal.tanh (Ideal.ofBits .f32 0x3F4C422A#32 * (p + Ideal.ofBits .f32 0x3D372713#32 * (p * (p * p))))))

/-- A row over the root of its mean square, scaled. -/
def normAt (x : S49152x1024.Idx → EReal) (g : S1024.Idx → EReal) (r : Fin 49152) (k : Fin 1024) : EReal :=
  x (ix2 r k) * Ideal.rsqrt (Ideal.div (∑ i, x (ix2 r i) * x (ix2 r i)) (Ideal.ofBits .f32 0x44800000#32) + Ideal.ofBits .f32 0x358637BD#32) * g (ix1 k)

/-- The projection. -/
def projAt (x : S49152x1024.Idx → EReal) (g : S1024.Idx → EReal) (w : S1024x2560.Idx → EReal) (r : Fin 49152) (j : Fin 2560) : EReal :=
  ∑ k, normAt x g r k * w (ix2 k j)

/-- The mean of a group's entries. -/
def meanOf (v : Fin 128 → EReal) : EReal := Ideal.div (∑ e, v e) (Ideal.ofBits .f32 0x43000000#32)

/-- A group's entry less the mean, over the root of the variance, scaled and shifted. -/
def groupNorm (v : Fin 128 → EReal) (g b : EReal) (d : Fin 128) : EReal :=
  (v d - meanOf v) * Ideal.rsqrt (meanOf (fun e => (v e - meanOf v) * (v e - meanOf v)) + Ideal.ofBits .f32 0x358637BD#32) * g + b

/-- The gate. -/
def gateAt (x : S49152x1024.Idx → EReal) (g : S1024.Idx → EReal) (w : S1024x2560.Idx → EReal) (r : Fin 49152) (j : Fin 512) : EReal :=
  gelu (projAt x g w r ⟨j.val, by omega⟩)

/-- What is mixed, before its normalisation. -/
def valueAt (x : S49152x1024.Idx → EReal) (g : S1024.Idx → EReal) (w : S1024x2560.Idx → EReal) (r : Fin 49152) (h : Fin 4) (d : Fin 128) : EReal :=
  gelu (projAt x g w r ⟨512 + (128 * h.val + d.val), by omega⟩)

/-- What is mixed. -/
def normedAt (x : S49152x1024.Idx → EReal) (g : S1024.Idx → EReal) (w : S1024x2560.Idx → EReal) (lg lb : S512.Idx → EReal) (r : Fin 49152) (h : Fin 4) (d : Fin 128) : EReal :=
  groupNorm (valueAt x g w r h) (lg (ix1 ⟨128 * h.val + d.val, by omega⟩)) (lb (ix1 ⟨128 * h.val + d.val, by omega⟩)) d

/-- The mixed rows of chunk `n`. -/
def mixedAt (x : S49152x1024.Idx → EReal) (g : S1024.Idx → EReal) (w : S1024x2560.Idx → EReal) (lg lb : S512.Idx → EReal) (sw : S4x128x128.Idx → EReal) (sb : S4x128.Idx → EReal)
    (n : Fin 384) (i : Fin 128) (h : Fin 4) (d : Fin 128) : EReal :=
  ∑ j : Fin 128, sw (ix3 h i j) * normedAt x g w lg lb ⟨128 * n.val + j.val, by omega⟩ h d + sb (ix2 h i)

/-- The first result. -/
def mixerAt (x : S49152x1024.Idx → EReal) (g : S1024.Idx → EReal) (w : S1024x2560.Idx → EReal) (lg lb : S512.Idx → EReal) (sw : S4x128x128.Idx → EReal) (sb : S4x128.Idx → EReal)
    (r : Fin 49152) (j : Fin 512) : EReal :=
  gateAt x g w r j * mixedAt x g w lg lb sw sb ⟨r.val / 128, by omega⟩ ⟨r.val % 128, by omega⟩ ⟨j.val / 128, by omega⟩ ⟨j.val % 128, by omega⟩

/-- The first result, with the chunk, its row, the group and its entry named. -/
theorem mixerAt_of (x : S49152x1024.Idx → EReal) (g : S1024.Idx → EReal) (w : S1024x2560.Idx → EReal) (lg lb : S512.Idx → EReal) (sw : S4x128x128.Idx → EReal) (sb : S4x128.Idx → EReal)
    (r : Fin 49152) (j : Fin 512) (n : Fin 384) (i : Fin 128) (h : Fin 4) (d : Fin 128) (hr : r.val = 128 * n.val + i.val) (hj : j.val = 128 * h.val + d.val) :
    mixerAt x g w lg lb sw sb r j = gateAt x g w r j * mixedAt x g w lg lb sw sb n i h d := by
  have h1 : (⟨r.val / 128, by omega⟩ : Fin 384) = n := Fin.ext (show r.val / 128 = n.val by omega)
  have h2 : (⟨r.val % 128, by omega⟩ : Fin 128) = i := Fin.ext (show r.val % 128 = i.val by omega)
  have h3 : (⟨j.val / 128, by omega⟩ : Fin 4) = h := Fin.ext (show j.val / 128 = h.val by omega)
  have h4 : (⟨j.val % 128, by omega⟩ : Fin 128) = d := Fin.ext (show j.val % 128 = d.val by omega)
  unfold mixerAt
  rw [h1, h2, h3, h4]

/-- The second result. -/
def restAt (x : S49152x1024.Idx → EReal) (g : S1024.Idx → EReal) (w : S1024x2560.Idx → EReal) (r : Fin 49152) (j : Fin 1536) : EReal :=
  projAt x g w r ⟨1024 + j.val, by omega⟩

end Cert.EvenInValue

end
-- ==== Proof.EvenIn.Pay.lean ====
/-
  What the body of the even layer's input computes at the exact numbers, from what its operands read.
-/
module

public import proofs.«01_k».proof.Proof.Gen.EvenInIdeal.Frame
public import proofs.«01_k».proof.Proof.EvenIn.Spec
public import Idealize.ShloMosaic.Lib.Pipeline.ValueKit

@[expose] public section

set_option maxRecDepth 16384

noncomputable section

namespace Cert.EvenInValue

open Cert.EvenInIdeal Cert.EvenInIdeal.Gen
open Idealize.ShloMosaic Idealize.ShloMosaic.TcCoe Idealize.SL.Sem

/-- The normalised rows. -/
theorem pay2_of (x : FVec Ideal S512x1024 .f32) (g : FVec Ideal S1x1024 .f32) (r : Fin 512) (k : Fin 1024)
    (X G : Fin 1024 → EReal) (hx : ∀ k, x (ix2 r k) = X k) (hg : ∀ k, g (ix2 0 k) = G k) :
    k0_pay2 (F := Ideal) x g (ix2 r k) = X k * Ideal.rsqrt (Ideal.div (∑ i, X i * X i) (Ideal.ofBits .f32 0x44800000#32) + Ideal.ofBits .f32 0x358637BD#32) * G k := by
  pointwise [k0_pay2]
  simp only [hx, hg]

/-- The gate. -/
theorem pay3_of (x : FVec Ideal S512x1024 .f32) (g : FVec Ideal S1x1024 .f32) (w : FVec Ideal S1024x512 .bf16) (r j : Fin 512)
    (H W : Fin 1024 → EReal) (hh : ∀ k, k0_pay2 (F := Ideal) x g (ix2 r k) = H k) (hw : ∀ k, w (ix2 k j) = W k) :
    k0_pay3 (F := Ideal) x g w (ix2 r j) = gelu (∑ k, H k * W k) := by
  unfold gelu
  pointwise [k0_pay3]
  simp only [← ix2_eq_valueIdx, hh, hw]

/-- What is mixed, before its normalisation. -/
theorem pay6_of (x : FVec Ideal S512x1024 .f32) (g : FVec Ideal S1x1024 .f32) (w : FVec Ideal S1024x512 .bf16) (r j : Fin 512)
    (H W : Fin 1024 → EReal) (hh : ∀ k, k0_pay2 (F := Ideal) x g (ix2 r k) = H k) (hw : ∀ k, w (ix2 k j) = W k) :
    k0_pay6 (F := Ideal) (k0_pay4 x g w) (k0_pay5 x g w) (Scalar.ofBits .f32 0x3F4C422A#32) (ix2 r j) = gelu (∑ k, H k * W k) := by
  unfold gelu
  pointwise [k0_pay6, k0_pay5, k0_pay4]
  simp only [← ix2_eq_valueIdx, hh, hw]

/-- The rest of the projection. -/
theorem pay7_of (h : FVec Ideal S512x1024 .bf16) (w : FVec Ideal S1024x1536 .bf16) (r : Fin 512) (j : Fin 1536)
    (H W : Fin 1024 → EReal) (hh : ∀ k, h (ix2 r k) = H k) (hw : ∀ k, w (ix2 k j) = W k) :
    k0_pay7 (F := Ideal) h w (ix2 r j) = ∑ k, H k * W k := by
  pointwise [k0_pay7]
  simp only [← ix2_eq_valueIdx, hh, hw]

/-! ## The groups' normalisation -/

/-- Group 0's normalisation. -/
theorem pay8_of (v34 v39 : FVec Ideal S512x512 .f32) (q : Ideal .f32) (g b : FVec Ideal S1x128 .f32) (r : Fin 512) (d : Fin 128)
    (V : Fin 128 → EReal) (G B : EReal) (hv : ∀ e : Fin 128, (k0_pay6 (F := Ideal) v34 v39 q) (ix2 r ⟨128 * ((0 : Fin 4)).val + e.val, by have : ((0 : Fin 4)).val = 0 := rfl; omega⟩) = V e)
    (hg : g (ix2 0 d) = G) (hb : b (ix2 0 d) = B) :
    k0_pay8 (F := Ideal) v34 v39 q g b (ix2 r d) = groupNorm V G B d := by
  unfold groupNorm meanOf
  simp only [← hv, ← hg, ← hb]
  pointwise [k0_pay8]

/-- Group 1's normalisation. -/
theorem pay14_of (v : FVec Ideal S512x512 .f32) (g b : FVec Ideal S1x128 .f32) (r : Fin 512) (d : Fin 128)
    (V : Fin 128 → EReal) (G B : EReal) (hv : ∀ e : Fin 128, v (ix2 r ⟨128 * ((1 : Fin 4)).val + e.val, by have : ((1 : Fin 4)).val = 1 := rfl; omega⟩) = V e)
    (hg : g (ix2 0 d) = G) (hb : b (ix2 0 d) = B) :
    k0_pay14 (F := Ideal) v g b (ix2 r d) = groupNorm V G B d := by
  unfold groupNorm meanOf
  simp only [← hv, ← hg, ← hb]
  pointwise [k0_pay14]

/-- Group 2's normalisation. -/
theorem pay21_of (v : FVec Ideal S512x512 .f32) (g b : FVec Ideal S1x128 .f32) (r : Fin 512) (d : Fin 128)
    (V : Fin 128 → EReal) (G B : EReal) (hv : ∀ e : Fin 128, v (ix2 r ⟨128 * ((2 : Fin 4)).val + e.val, by have : ((2 : Fin 4)).val = 2 := rfl; omega⟩) = V e)
    (hg : g (ix2 0 d) = G) (hb : b (ix2 0 d) = B) :
    k0_pay21 (F := Ideal) v g b (ix2 r d) = groupNorm V G B d := by
  unfold groupNorm meanOf
  simp only [← hv, ← hg, ← hb]
  pointwise [k0_pay21]

/-- Group 3's normalisation. -/
theorem pay28_of (v : FVec Ideal S512x512 .f32) (g b : FVec Ideal S1x128 .f32) (r : Fin 512) (d : Fin 128)
    (V : Fin 128 → EReal) (G B : EReal) (hv : ∀ e : Fin 128, v (ix2 r ⟨128 * ((3 : Fin 4)).val + e.val, by have : ((3 : Fin 4)).val = 3 := rfl; omega⟩) = V e)
    (hg : g (ix2 0 d) = G) (hb : b (ix2 0 d) = B) :
    k0_pay28 (F := Ideal) v g b (ix2 r d) = groupNorm V G B d := by
  unfold groupNorm meanOf
  simp only [← hv, ← hg, ← hb]
  pointwise [k0_pay28]

end Cert.EvenInValue

end
-- ==== Proof.EvenIn.Tiles.lean ====
/-
  What each of the sixteen stores of the even layer's input writes at the exact numbers, from what its operands read.
-/
module

public import proofs.«01_k».proof.Proof.EvenIn.Pay

@[expose] public section

set_option maxRecDepth 16384

noncomputable section

namespace Cert.EvenInValue

open Cert.EvenInIdeal Cert.EvenInIdeal.Gen
open Idealize.ShloMosaic Idealize.ShloMosaic.TcCoe Idealize.SL.Sem

/-- Chunk 0, group 0. -/
theorem tile00 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨0 + i.val, by omega⟩ ⟨0 + d.val, by omega⟩) = U) (hs : ∀ j, s (ix3 0 i j) = S j)
    (hn : ∀ j : Fin 128, n (ix2 ⟨0 + j.val, by omega⟩ d) = N j) (hb : b (ix3 0 i d) = B) :
    k0_pay10 (F := Ideal) u n (k0_pay9 s) b (ix2 i d) = U * (∑ j, S j * N j + B) := by
  simp only [← hu, ← hs, ← hn, ← hb]
  pointwise [k0_pay10, k0_pay9]

/-- Chunk 1, group 0. -/
theorem tile10 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨128 + i.val, by omega⟩ ⟨0 + d.val, by omega⟩) = U) (hs : ∀ j, s (ix3 0 i j) = S j)
    (hn : ∀ j : Fin 128, n (ix2 ⟨128 + j.val, by omega⟩ d) = N j) (hb : b (ix3 0 i d) = B) :
    k0_pay11 (F := Ideal) u n s b (ix2 i d) = U * (∑ j, S j * N j + B) := by
  simp only [← hu, ← hs, ← hn, ← hb]
  pointwise [k0_pay11]

/-- Chunk 2, group 0. -/
theorem tile20 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨256 + i.val, by omega⟩ ⟨0 + d.val, by omega⟩) = U) (hs : ∀ j, s (ix3 0 i j) = S j)
    (hn : ∀ j : Fin 128, n (ix2 ⟨256 + j.val, by omega⟩ d) = N j) (hb : b (ix3 0 i d) = B) :
    k0_pay12 (F := Ideal) u n s b (ix2 i d) = U * (∑ j, S j * N j + B) := by
  simp only [← hu, ← hs, ← hn, ← hb]
  pointwise [k0_pay12]

/-- Chunk 3, group 0. -/
theorem tile30 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨384 + i.val, by omega⟩ ⟨0 + d.val, by omega⟩) = U) (hs : ∀ j, s (ix3 0 i j) = S j)
    (hn : ∀ j : Fin 128, n (ix2 ⟨384 + j.val, by omega⟩ d) = N j) (hb : b (ix3 0 i d) = B) :
    k0_pay13 (F := Ideal) u n s b (ix2 i d) = U * (∑ j, S j * N j + B) := by
  simp only [← hu, ← hs, ← hn, ← hb]
  pointwise [k0_pay13]

/-- Chunk 0, group 1. -/
theorem tile01 (u : FVec Ideal S512x512 .f32) (v : FVec Ideal S512x512 .f32) (g bb : FVec Ideal S1x128 .f32) (s : FVec Ideal S1x128x128 .bf16) (b : FVec Ideal S1x128x128 .f32) (i d : Fin 128)
    (U B : EReal) (S N : Fin 128 → EReal) (hu : u (ix2 ⟨0 + i.val, by omega⟩ ⟨128 + d.val, by omega⟩) = U) (hs : ∀ j, s (ix3 0 i j) = S j)
    (hn : ∀ j : Fin 128, k0_pay14 (F := Ideal) v g bb (ix2 ⟨0 + j.val, by omega⟩ d) = N j) (hb : b (ix3 0 i d) = B) :
    k0_pay17 (F := Ideal) u (k0_pay15 s) (k0_pay16 v g bb) b (ix2 i d) = U * (∑ j, S j * N j + B) := by
  simp only [← hu, ← hs, ← hn, ← hb]
  pointwise [k0_pay17, k0_pay15, k0_pay16]

/-- Chunk 1, group 1. -/
theorem tile11 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨128 + i.val, by omega⟩ ⟨128 + d.val, by omega⟩) = U) (hs : ∀ j, s (ix3 0 i j) = S j)
    (hn : ∀ j : Fin 128, n (ix2 ⟨128 + j.val, by omega⟩ d) = N j) (hb : b (ix3 0 i d) = B) :
    k0_pay18 (F := Ideal) u n s b (ix2 i d) = U * (∑ j, S j * N j + B) := by
  simp only [← hu, ← hs, ← hn, ← hb]
  pointwise [k0_pay18]

/-- Chunk 2, group 1. -/
theorem tile21 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨256 + i.val, by omega⟩ ⟨128 + d.val, by omega⟩) = U) (hs : ∀ j, s (ix3 0 i j) = S j)
    (hn : ∀ j : Fin 128, n (ix2 ⟨256 + j.val, by omega⟩ d) = N j) (hb : b (ix3 0 i d) = B) :
    k0_pay19 (F := Ideal) u n s b (ix2 i d) = U * (∑ j, S j * N j + B) := by
  simp only [← hu, ← hs, ← hn, ← hb]
  pointwise [k0_pay19]

/-- Chunk 3, group 1. -/
theorem tile31 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨384 + i.val, by omega⟩ ⟨128 + d.val, by omega⟩) = U) (hs : ∀ j, s (ix3 0 i j) = S j)
    (hn : ∀ j : Fin 128, n (ix2 ⟨384 + j.val, by omega⟩ d) = N j) (hb : b (ix3 0 i d) = B) :
    k0_pay20 (F := Ideal) u n s b (ix2 i d) = U * (∑ j, S j * N j + B) := by
  simp only [← hu, ← hs, ← hn, ← hb]
  pointwise [k0_pay20]

/-- Chunk 0, group 2. -/
theorem tile02 (u : FVec Ideal S512x512 .f32) (v : FVec Ideal S512x512 .f32) (g bb : FVec Ideal S1x128 .f32) (s : FVec Ideal S1x128x128 .bf16) (b : FVec Ideal S1x128x128 .f32) (i d : Fin 128)
    (U B : EReal) (S N : Fin 128 → EReal) (hu : u (ix2 ⟨0 + i.val, by omega⟩ ⟨256 + d.val, by omega⟩) = U) (hs : ∀ j, s (ix3 0 i j) = S j)
    (hn : ∀ j : Fin 128, k0_pay21 (F := Ideal) v g bb (ix2 ⟨0 + j.val, by omega⟩ d) = N j) (hb : b (ix3 0 i d) = B) :
    k0_pay24 (F := Ideal) u (k0_pay22 s) (k0_pay23 v g bb) (constant S128x128 .f32 0x00000000#32) b (ix2 i d) = U * (∑ j, S j * N j + B) := by
  simp only [← hu, ← hs, ← hn, ← hb]
  pointwise [k0_pay24, k0_pay22, k0_pay23]

/-- Chunk 1, group 2. -/
theorem tile12 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨128 + i.val, by omega⟩ ⟨256 + d.val, by omega⟩) = U) (hs : ∀ j, s (ix3 0 i j) = S j)
    (hn : ∀ j : Fin 128, n (ix2 ⟨128 + j.val, by omega⟩ d) = N j) (hb : b (ix3 0 i d) = B) :
    k0_pay25 (F := Ideal) u n s b (ix2 i d) = U * (∑ j, S j * N j + B) := by
  simp only [← hu, ← hs, ← hn, ← hb]
  pointwise [k0_pay25]

/-- Chunk 2, group 2. -/
theorem tile22 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨256 + i.val, by omega⟩ ⟨256 + d.val, by omega⟩) = U) (hs : ∀ j, s (ix3 0 i j) = S j)
    (hn : ∀ j : Fin 128, n (ix2 ⟨256 + j.val, by omega⟩ d) = N j) (hb : b (ix3 0 i d) = B) :
    k0_pay26 (F := Ideal) u n s b (ix2 i d) = U * (∑ j, S j * N j + B) := by
  simp only [← hu, ← hs, ← hn, ← hb]
  pointwise [k0_pay26]

/-- Chunk 3, group 2. -/
theorem tile32 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨384 + i.val, by omega⟩ ⟨256 + d.val, by omega⟩) = U) (hs : ∀ j, s (ix3 0 i j) = S j)
    (hn : ∀ j : Fin 128, n (ix2 ⟨384 + j.val, by omega⟩ d) = N j) (hb : b (ix3 0 i d) = B) :
    k0_pay27 (F := Ideal) u n s b (ix2 i d) = U * (∑ j, S j * N j + B) := by
  simp only [← hu, ← hs, ← hn, ← hb]
  pointwise [k0_pay27]

/-- Chunk 0, group 3. -/
theorem tile03 (u : FVec Ideal S512x512 .f32) (v : FVec Ideal S512x512 .f32) (g bb : FVec Ideal S1x128 .f32) (s : FVec Ideal S1x128x128 .bf16) (b : FVec Ideal S1x128x128 .f32) (i d : Fin 128)
    (U B : EReal) (S N : Fin 128 → EReal) (hu : u (ix2 ⟨0 + i.val, by omega⟩ ⟨384 + d.val, by omega⟩) = U) (hs : ∀ j, s (ix3 0 i j) = S j)
    (hn : ∀ j : Fin 128, k0_pay28 (F := Ideal) v g bb (ix2 ⟨0 + j.val, by omega⟩ d) = N j) (hb : b (ix3 0 i d) = B) :
    k0_pay30 (F := Ideal) u (k0_pay29 v g bb s) b (ix2 i d) = U * (∑ j, S j * N j + B) := by
  simp only [← hu, ← hs, ← hn, ← hb]
  pointwise [k0_pay30, k0_pay29]

/-- Chunk 1, group 3. -/
theorem tile13 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨128 + i.val, by omega⟩ ⟨384 + d.val, by omega⟩) = U) (hs : ∀ j, s (ix3 0 i j) = S j)
    (hn : ∀ j : Fin 128, n (ix2 ⟨128 + j.val, by omega⟩ d) = N j) (hb : b (ix3 0 i d) = B) :
    k0_pay31 (F := Ideal) u n s b (ix2 i d) = U * (∑ j, S j * N j + B) := by
  simp only [← hu, ← hs, ← hn, ← hb]
  pointwise [k0_pay31]

/-- Chunk 2, group 3. -/
theorem tile23 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨256 + i.val, by omega⟩ ⟨384 + d.val, by omega⟩) = U) (hs : ∀ j, s (ix3 0 i j) = S j)
    (hn : ∀ j : Fin 128, n (ix2 ⟨256 + j.val, by omega⟩ d) = N j) (hb : b (ix3 0 i d) = B) :
    k0_pay32 (F := Ideal) u n s b (ix2 i d) = U * (∑ j, S j * N j + B) := by
  simp only [← hu, ← hs, ← hn, ← hb]
  pointwise [k0_pay32]

/-- Chunk 3, group 3. -/
theorem tile33 (u : FVec Ideal S512x512 .f32) (n : FVec Ideal S512x128 .bf16) (s : FVec Ideal S1x128x128 .bf16) (b : FVec Ideal S1x128x128 .f32) (i d : Fin 128)
    (U B : EReal) (S N : Fin 128 → EReal) (hu : u (ix2 ⟨384 + i.val, by omega⟩ ⟨384 + d.val, by omega⟩) = U) (hs : ∀ j, s (ix3 0 i j) = S j)
    (hn : ∀ j : Fin 128, n (ix2 ⟨384 + j.val, by omega⟩ d) = N j) (hb : b (ix3 0 i d) = B) :
    k0_pay1 (F := Ideal) u n (k0_pay33 s) b (ix2 i d) = U * (∑ j, S j * N j + B) := by
  simp only [← hu, ← hs, ← hn, ← hb]
  pointwise [k0_pay1, k0_pay33]

end Cert.EvenInValue

end
-- ==== Proof.EvenIn.Body.lean ====
/-
  What the body of the even layer's input leaves in its two output blocks at the exact numbers, from what its operands read.
-/
module

public import proofs.«01_k».proof.Proof.EvenIn.Tiles

@[expose] public section

set_option maxRecDepth 16384

noncomputable section

namespace Cert.EvenInValue

open Cert.EvenInIdeal Cert.EvenInIdeal.Gen
open Idealize.ShloMosaic Idealize.ShloMosaic.TcCoe Idealize.SL.Sem

/-- The operands' blocks read the launched arrays at point `b`. -/
structure Reads (x0 : FVec Ideal S512x1024 .f32) (x1 : FVec Ideal S1x1024 .f32) (x2 : FVec Ideal S1024x2560 .bf16) (x3 x4 : FVec Ideal S1x512 .f32) (x5 : FVec Ideal S4x128x128 .bf16) (x6 : FVec Ideal S4x128x128 .f32)
    (x : S49152x1024.Idx → EReal) (g : S1024.Idx → EReal) (w : S1024x2560.Idx → EReal) (lg lb : S512.Idx → EReal) (sw : S4x128x128.Idx → EReal) (sb : S4x128.Idx → EReal) (b : Fin 96) : Prop where
  rows : ∀ (r : Fin 512) (k : Fin 1024), x0 (ix2 r k) = x (ix2 ⟨b.val * 512 + r.val, by omega⟩ k)
  scale : ∀ k : Fin 1024, x1 (ix2 0 k) = g (ix1 k)
  weight : ∀ (k : Fin 1024) (j : Fin 2560), x2 (ix2 k j) = w (ix2 k j)
  lng : ∀ j : Fin 512, x3 (ix2 0 j) = lg (ix1 j)
  lnb : ∀ j : Fin 512, x4 (ix2 0 j) = lb (ix1 j)
  mix : ∀ (h : Fin 4) (i j : Fin 128), x5 (ix3 h i j) = sw (ix3 h i j)
  bias : ∀ (h : Fin 4) (i d : Fin 128), x6 (ix3 h i d) = sb (ix2 h i)

/-! ## The loads -/

theorem ld_rows (x : Vec Ideal S512x1024 .f32) (r : Fin 512) (k : Fin 1024) : View.ld (Val := Elt Ideal) (e' := .f32) x r0_0 (ix2 r k) = x (ix2 ⟨0 + r.val, by omega⟩ ⟨0 + k.val, by omega⟩) := by
  refine congrArg x ?_
  funext a
  apply Fin.ext
  match a with
  | ⟨0, _⟩ => show 0 + 1 * r.val = 0 + r.val; omega
  | ⟨1, _⟩ => show 0 + 1 * k.val = 0 + k.val; omega

theorem ld_scale (x : Vec Ideal S1x1024 .f32) (r : Fin 1) (k : Fin 1024) : View.ld (Val := Elt Ideal) (e' := .f32) x r0_1 (ix2 r k) = x (ix2 ⟨0 + r.val, by omega⟩ ⟨0 + k.val, by omega⟩) := by
  refine congrArg x ?_
  funext a
  apply Fin.ext
  match a with
  | ⟨0, _⟩ => show 0 + 1 * r.val = 0 + r.val; omega
  | ⟨1, _⟩ => show 0 + 1 * k.val = 0 + k.val; omega

theorem ld_gate (x : Vec Ideal S1024x2560 .bf16) (r : Fin 1024) (k : Fin 512) : View.ld (Val := Elt Ideal) (e' := .bf16) x r0_2 (ix2 r k) = x (ix2 ⟨0 + r.val, by omega⟩ ⟨0 + k.val, by omega⟩) := by
  refine congrArg x ?_
  funext a
  apply Fin.ext
  match a with
  | ⟨0, _⟩ => show 0 + 1 * r.val = 0 + r.val; omega
  | ⟨1, _⟩ => show 0 + 1 * k.val = 0 + k.val; omega

theorem ld_value (x : Vec Ideal S1024x2560 .bf16) (r : Fin 1024) (k : Fin 512) : View.ld (Val := Elt Ideal) (e' := .bf16) x r0_3 (ix2 r k) = x (ix2 ⟨0 + r.val, by omega⟩ ⟨512 + k.val, by omega⟩) := by
  refine congrArg x ?_
  funext a
  apply Fin.ext
  match a with
  | ⟨0, _⟩ => show 0 + 1 * r.val = 0 + r.val; omega
  | ⟨1, _⟩ => show 512 + 1 * k.val = 512 + k.val; omega

theorem ld_rest (x : Vec Ideal S1024x2560 .bf16) (r : Fin 1024) (k : Fin 1536) : View.ld (Val := Elt Ideal) (e' := .bf16) x r0_4 (ix2 r k) = x (ix2 ⟨0 + r.val, by omega⟩ ⟨1024 + k.val, by omega⟩) := by
  refine congrArg x ?_
  funext a
  apply Fin.ext
  match a with
  | ⟨0, _⟩ => show 0 + 1 * r.val = 0 + r.val; omega
  | ⟨1, _⟩ => show 1024 + 1 * k.val = 1024 + k.val; omega

theorem ld_group0 (x : Vec Ideal S1x512 .f32) (r : Fin 1) (k : Fin 128) : View.ld (Val := Elt Ideal) (e' := .f32) x r0_6 (ix2 r k) = x (ix2 ⟨0 + r.val, by omega⟩ ⟨0 + k.val, by omega⟩) := by
  refine congrArg x ?_
  funext a
  apply Fin.ext
  match a with
  | ⟨0, _⟩ => show 0 + 1 * r.val = 0 + r.val; omega
  | ⟨1, _⟩ => show 0 + 1 * k.val = 0 + k.val; omega

theorem ld_group1 (x : Vec Ideal S1x512 .f32) (r : Fin 1) (k : Fin 128) : View.ld (Val := Elt Ideal) (e' := .f32) x r0_12 (ix2 r k) = x (ix2 ⟨0 + r.val, by omega⟩ ⟨128 + k.val, by omega⟩) := by
  refine congrArg x ?_
  funext a
  apply Fin.ext
  match a with
  | ⟨0, _⟩ => show 0 + 1 * r.val = 0 + r.val; omega
  | ⟨1, _⟩ => show 128 + 1 * k.val = 128 + k.val; omega

theorem ld_group2 (x : Vec Ideal S1x512 .f32) (r : Fin 1) (k : Fin 128) : View.ld (Val := Elt Ideal) (e' := .f32) x r0_18 (ix2 r k) = x (ix2 ⟨0 + r.val, by omega⟩ ⟨256 + k.val, by omega⟩) := by
  refine congrArg x ?_
  funext a
  apply Fin.ext
  match a with
  | ⟨0, _⟩ => show 0 + 1 * r.val = 0 + r.val; omega
  | ⟨1, _⟩ => show 256 + 1 * k.val = 256 + k.val; omega

theorem ld_group3 (x : Vec Ideal S1x512 .f32) (r : Fin 1) (k : Fin 128) : View.ld (Val := Elt Ideal) (e' := .f32) x r0_24 (ix2 r k) = x (ix2 ⟨0 + r.val, by omega⟩ ⟨384 + k.val, by omega⟩) := by
  refine congrArg x ?_
  funext a
  apply Fin.ext
  match a with
  | ⟨0, _⟩ => show 0 + 1 * r.val = 0 + r.val; omega
  | ⟨1, _⟩ => show 384 + 1 * k.val = 384 + k.val; omega

theorem ld_member0 {e : EltTy} (x : Vec Ideal S4x128x128 e) (i j : Fin 128) : View.ld (Val := Elt Ideal) (e' := e) x r0_7 (ix3 0 i j) = x (ix3 0 i j) := by
  refine congrArg x ?_
  funext a
  apply Fin.ext
  match a with
  | ⟨0, _⟩ => rfl
  | ⟨1, _⟩ => show 0 + 1 * i.val = i.val; omega
  | ⟨2, _⟩ => show 0 + 1 * j.val = j.val; omega

theorem ld_member1 {e : EltTy} (x : Vec Ideal S4x128x128 e) (i j : Fin 128) : View.ld (Val := Elt Ideal) (e' := e) x r0_13 (ix3 0 i j) = x (ix3 1 i j) := by
  refine congrArg x ?_
  funext a
  apply Fin.ext
  match a with
  | ⟨0, _⟩ => rfl
  | ⟨1, _⟩ => show 0 + 1 * i.val = i.val; omega
  | ⟨2, _⟩ => show 0 + 1 * j.val = j.val; omega

theorem ld_member2 {e : EltTy} (x : Vec Ideal S4x128x128 e) (i j : Fin 128) : View.ld (Val := Elt Ideal) (e' := e) x r0_19 (ix3 0 i j) = x (ix3 2 i j) := by
  refine congrArg x ?_
  funext a
  apply Fin.ext
  match a with
  | ⟨0, _⟩ => rfl
  | ⟨1, _⟩ => show 0 + 1 * i.val = i.val; omega
  | ⟨2, _⟩ => show 0 + 1 * j.val = j.val; omega

theorem ld_member3 {e : EltTy} (x : Vec Ideal S4x128x128 e) (i j : Fin 128) : View.ld (Val := Elt Ideal) (e' := e) x r0_25 (ix3 0 i j) = x (ix3 3 i j) := by
  refine congrArg x ?_
  funext a
  apply Fin.ext
  match a with
  | ⟨0, _⟩ => rfl
  | ⟨1, _⟩ => show 0 + 1 * i.val = i.val; omega
  | ⟨2, _⟩ => show 0 + 1 * j.val = j.val; omega

variable {x0 : FVec Ideal S512x1024 .f32} {x1 : FVec Ideal S1x1024 .f32} {x2 : FVec Ideal S1024x2560 .bf16} {x3 x4 : FVec Ideal S1x512 .f32} {x5 : FVec Ideal S4x128x128 .bf16} {x6 : FVec Ideal S4x128x128 .f32}
  {x : S49152x1024.Idx → EReal} {g : S1024.Idx → EReal} {w : S1024x2560.Idx → EReal} {lg lb : S512.Idx → EReal} {sw : S4x128x128.Idx → EReal} {sb : S4x128.Idx → EReal} {b : Fin 96}

/-! ## The projection's three parts -/

theorem norm_val (H : Reads x0 x1 x2 x3 x4 x5 x6 x g w lg lb sw sb b) (r : Fin 512) (k : Fin 1024) (R : Fin 49152) (hR : R.val = b.val * 512 + r.val) :
    k0_pay2 (F := Ideal) (View.ld x0 r0_0) (View.ld x1 r0_1) (ix2 r k) = normAt x g R k := by
  have hx : ∀ k, View.ld (Val := Elt Ideal) (e' := .f32) x0 r0_0 (ix2 r k) = x (ix2 R k) := fun k =>
    (ld_rows x0 r k).trans ((congrArg₂ (fun a b => x0 (ix2 a b)) (Fin.ext (Nat.zero_add _)) (Fin.ext (Nat.zero_add _))).trans
      ((H.rows r k).trans (congrArg (fun a => x (ix2 a k)) (Fin.ext hR.symm))))
  have hg : ∀ k, View.ld (Val := Elt Ideal) (e' := .f32) x1 r0_1 (ix2 0 k) = g (ix1 k) := fun k =>
    (ld_scale x1 0 k).trans ((congrArg₂ (fun a b => x1 (ix2 a b)) (Fin.ext (Nat.zero_add _)) (Fin.ext (Nat.zero_add _))).trans (H.scale k))
  exact pay2_of _ _ r k _ _ hx hg

theorem gate_val (H : Reads x0 x1 x2 x3 x4 x5 x6 x g w lg lb sw sb b) (r j : Fin 512) (R : Fin 49152) (hR : R.val = b.val * 512 + r.val) :
    k0_pay34 (F := Ideal) x0 x1 x2 x3 x4 x5 x6 (ix2 r j) = gateAt x g w R j :=
  pay3_of _ _ _ r j _ _ (fun k => norm_val H r k R hR) (fun k =>
    (ld_gate x2 k j).trans ((congrArg₂ (fun a b => x2 (ix2 a b)) (Fin.ext (Nat.zero_add _)) (Fin.ext (Nat.zero_add _))).trans (H.weight k ⟨j.val, by omega⟩)))

theorem value_val (H : Reads x0 x1 x2 x3 x4 x5 x6 x g w lg lb sw sb b) (r : Fin 512) (h : Fin 4) (d : Fin 128) (R : Fin 49152) (hR : R.val = b.val * 512 + r.val) :
    k0_pay37 (F := Ideal) x0 x1 x2 x3 x4 x5 x6 (ix2 r ⟨128 * h.val + d.val, by omega⟩) = valueAt x g w R h d :=
  pay6_of _ _ _ r ⟨128 * h.val + d.val, by omega⟩ _ _ (fun k => norm_val H r k R hR) (fun k =>
    (ld_value x2 k ⟨128 * h.val + d.val, by omega⟩).trans ((congrArg (fun a => x2 (ix2 a ⟨512 + (128 * h.val + d.val), by omega⟩)) (Fin.ext (Nat.zero_add _))).trans
      (H.weight k ⟨512 + (128 * h.val + d.val), by omega⟩)))

/-- The second output block. -/
theorem rest_val (H : Reads x0 x1 x2 x3 x4 x5 x6 x g w lg lb sw sb b) (r : Fin 512) (j : Fin 1536) (R : Fin 49152) (hR : R.val = b.val * 512 + r.val) :
    k0_pay7 (F := Ideal) (k0_pay2 (View.ld x0 r0_0) (View.ld x1 r0_1)) (View.ld x2 r0_4) (ix2 r j) = restAt x g w R j :=
  pay7_of _ (View.ld (Val := Elt Ideal) (e' := .bf16) x2 r0_4) r j _ (fun k => w (ix2 k ⟨1024 + j.val, by omega⟩)) (fun k => norm_val H r k R hR) (fun k =>
    (ld_rest x2 k j).trans ((congrArg (fun a => x2 (ix2 a ⟨1024 + j.val, by omega⟩)) (Fin.ext (Nat.zero_add _))).trans (H.weight k ⟨1024 + j.val, by omega⟩)))

/-! ## The groups -/

theorem group0_val (H : Reads x0 x1 x2 x3 x4 x5 x6 x g w lg lb sw sb b) (r : Fin 512) (d : Fin 128) (R : Fin 49152) (hR : R.val = b.val * 512 + r.val) :
    k0_pay38 (F := Ideal) x0 x1 x2 x3 x4 x5 x6 (ix2 r d) = normedAt x g w lg lb R 0 d :=
  pay8_of _ _ _ _ _ r d _ _ _ (fun e => value_val H r 0 e R hR)
    ((ld_group0 x3 0 d).trans ((congrArg (fun a => x3 (ix2 a ⟨0 + d.val, by omega⟩)) (Fin.ext (Nat.zero_add _))).trans (H.lng ⟨0 + d.val, by omega⟩)))
    ((ld_group0 x4 0 d).trans ((congrArg (fun a => x4 (ix2 a ⟨0 + d.val, by omega⟩)) (Fin.ext (Nat.zero_add _))).trans (H.lnb ⟨0 + d.val, by omega⟩)))

theorem group1_val (H : Reads x0 x1 x2 x3 x4 x5 x6 x g w lg lb sw sb b) (r : Fin 512) (d : Fin 128) (R : Fin 49152) (hR : R.val = b.val * 512 + r.val) :
    k0_pay39 (F := Ideal) x0 x1 x2 x3 x4 x5 x6 (ix2 r d) = normedAt x g w lg lb R 1 d :=
  pay14_of _ _ _ r d _ _ _ (fun e => value_val H r 1 e R hR)
    ((ld_group1 x3 0 d).trans ((congrArg (fun a => x3 (ix2 a ⟨128 + d.val, by omega⟩)) (Fin.ext (Nat.zero_add _))).trans (H.lng ⟨128 + d.val, by omega⟩)))
    ((ld_group1 x4 0 d).trans ((congrArg (fun a => x4 (ix2 a ⟨128 + d.val, by omega⟩)) (Fin.ext (Nat.zero_add _))).trans (H.lnb ⟨128 + d.val, by omega⟩)))

theorem group2_val (H : Reads x0 x1 x2 x3 x4 x5 x6 x g w lg lb sw sb b) (r : Fin 512) (d : Fin 128) (R : Fin 49152) (hR : R.val = b.val * 512 + r.val) :
    k0_pay40 (F := Ideal) x0 x1 x2 x3 x4 x5 x6 (ix2 r d) = normedAt x g w lg lb R 2 d :=
  pay21_of _ _ _ r d _ _ _ (fun e => value_val H r 2 e R hR)
    ((ld_group2 x3 0 d).trans ((congrArg (fun a => x3 (ix2 a ⟨256 + d.val, by omega⟩)) (Fin.ext (Nat.zero_add _))).trans (H.lng ⟨256 + d.val, by omega⟩)))
    ((ld_group2 x4 0 d).trans ((congrArg (fun a => x4 (ix2 a ⟨256 + d.val, by omega⟩)) (Fin.ext (Nat.zero_add _))).trans (H.lnb ⟨256 + d.val, by omega⟩)))

theorem group3_val (H : Reads x0 x1 x2 x3 x4 x5 x6 x g w lg lb sw sb b) (r : Fin 512) (d : Fin 128) (R : Fin 49152) (hR : R.val = b.val * 512 + r.val) :
    k0_pay41 (F := Ideal) x0 x1 x2 x3 x4 x5 x6 (ix2 r d) = normedAt x g w lg lb R 3 d :=
  pay28_of _ _ _ r d _ _ _ (fun e => value_val H r 3 e R hR)
    ((ld_group3 x3 0 d).trans ((congrArg (fun a => x3 (ix2 a ⟨384 + d.val, by omega⟩)) (Fin.ext (Nat.zero_add _))).trans (H.lng ⟨384 + d.val, by omega⟩)))
    ((ld_group3 x4 0 d).trans ((congrArg (fun a => x4 (ix2 a ⟨384 + d.val, by omega⟩)) (Fin.ext (Nat.zero_add _))).trans (H.lnb ⟨384 + d.val, by omega⟩)))

/-! ## The sixteen pieces -/

theorem piece00 (H : Reads x0 x1 x2 x3 x4 x5 x6 x g w lg lb sw sb b) (i d : Fin 128) (R : Fin 49152) (J : Fin 512)
    (hR : R.val = b.val * 512 + (0 + i.val)) (hJ : J.val = 0 + d.val) :
    k0_pay10 (F := Ideal) (k0_pay34 x0 x1 x2 x3 x4 x5 x6) (k0_pay38 x0 x1 x2 x3 x4 x5 x6) (k0_pay9 (View.ld x5 r0_7)) (View.ld x6 r0_7) (ix2 i d) = mixerAt x g w lg lb sw sb R J :=
  (tile00 _ _ _ _ i d _ _ _ _
    ((gate_val H ⟨0 + i.val, by omega⟩ ⟨0 + d.val, by omega⟩ R hR).trans (congrArg (gateAt x g w R) (Fin.ext hJ.symm)))
    (fun j => (ld_member0 (e := .bf16) x5 i j).trans (H.mix 0 i j))
    (fun j => group0_val H ⟨0 + j.val, by omega⟩ d ⟨128 * (4 * b.val + 0) + j.val, by omega⟩ (by show 128 * (4 * b.val + 0) + j.val = b.val * 512 + (0 + j.val); omega))
    ((ld_member0 (e := .f32) x6 i d).trans (H.bias 0 i d))).trans
    (mixerAt_of x g w lg lb sw sb R J ⟨4 * b.val + 0, by omega⟩ i 0 d (by show R.val = 128 * (4 * b.val + 0) + i.val; omega) (by show J.val = 128 * 0 + d.val; omega)).symm

theorem piece10 (H : Reads x0 x1 x2 x3 x4 x5 x6 x g w lg lb sw sb b) (i d : Fin 128) (R : Fin 49152) (J : Fin 512)
    (hR : R.val = b.val * 512 + (128 + i.val)) (hJ : J.val = 0 + d.val) :
    k0_pay11 (F := Ideal) (k0_pay34 x0 x1 x2 x3 x4 x5 x6) (k0_pay38 x0 x1 x2 x3 x4 x5 x6) (View.ld x5 r0_7) (View.ld x6 r0_7) (ix2 i d) = mixerAt x g w lg lb sw sb R J :=
  (tile10 _ _ _ _ i d _ _ _ _
    ((gate_val H ⟨128 + i.val, by omega⟩ ⟨0 + d.val, by omega⟩ R hR).trans (congrArg (gateAt x g w R) (Fin.ext hJ.symm)))
    (fun j => (ld_member0 (e := .bf16) x5 i j).trans (H.mix 0 i j))
    (fun j => group0_val H ⟨128 + j.val, by omega⟩ d ⟨128 * (4 * b.val + 1) + j.val, by omega⟩ (by show 128 * (4 * b.val + 1) + j.val = b.val * 512 + (128 + j.val); omega))
    ((ld_member0 (e := .f32) x6 i d).trans (H.bias 0 i d))).trans
    (mixerAt_of x g w lg lb sw sb R J ⟨4 * b.val + 1, by omega⟩ i 0 d (by show R.val = 128 * (4 * b.val + 1) + i.val; omega) (by show J.val = 128 * 0 + d.val; omega)).symm

theorem piece20 (H : Reads x0 x1 x2 x3 x4 x5 x6 x g w lg lb sw sb b) (i d : Fin 128) (R : Fin 49152) (J : Fin 512)
    (hR : R.val = b.val * 512 + (256 + i.val)) (hJ : J.val = 0 + d.val) :
    k0_pay12 (F := Ideal) (k0_pay34 x0 x1 x2 x3 x4 x5 x6) (k0_pay38 x0 x1 x2 x3 x4 x5 x6) (View.ld x5 r0_7) (View.ld x6 r0_7) (ix2 i d) = mixerAt x g w lg lb sw sb R J :=
  (tile20 _ _ _ _ i d _ _ _ _
    ((gate_val H ⟨256 + i.val, by omega⟩ ⟨0 + d.val, by omega⟩ R hR).trans (congrArg (gateAt x g w R) (Fin.ext hJ.symm)))
    (fun j => (ld_member0 (e := .bf16) x5 i j).trans (H.mix 0 i j))
    (fun j => group0_val H ⟨256 + j.val, by omega⟩ d ⟨128 * (4 * b.val + 2) + j.val, by omega⟩ (by show 128 * (4 * b.val + 2) + j.val = b.val * 512 + (256 + j.val); omega))
    ((ld_member0 (e := .f32) x6 i d).trans (H.bias 0 i d))).trans
    (mixerAt_of x g w lg lb sw sb R J ⟨4 * b.val + 2, by omega⟩ i 0 d (by show R.val = 128 * (4 * b.val + 2) + i.val; omega) (by show J.val = 128 * 0 + d.val; omega)).symm

theorem piece30 (H : Reads x0 x1 x2 x3 x4 x5 x6 x g w lg lb sw sb b) (i d : Fin 128) (R : Fin 49152) (J : Fin 512)
    (hR : R.val = b.val * 512 + (384 + i.val)) (hJ : J.val = 0 + d.val) :
    k0_pay13 (F := Ideal) (k0_pay34 x0 x1 x2 x3 x4 x5 x6) (k0_pay38 x0 x1 x2 x3 x4 x5 x6) (View.ld x5 r0_7) (View.ld x6 r0_7) (ix2 i d) = mixerAt x g w lg lb sw sb R J :=
  (tile30 _ _ _ _ i d _ _ _ _
    ((gate_val H ⟨384 + i.val, by omega⟩ ⟨0 + d.val, by omega⟩ R hR).trans (congrArg (gateAt x g w R) (Fin.ext hJ.symm)))
    (fun j => (ld_member0 (e := .bf16) x5 i j).trans (H.mix 0 i j))
    (fun j => group0_val H ⟨384 + j.val, by omega⟩ d ⟨128 * (4 * b.val + 3) + j.val, by omega⟩ (by show 128 * (4 * b.val + 3) + j.val = b.val * 512 + (384 + j.val); omega))
    ((ld_member0 (e := .f32) x6 i d).trans (H.bias 0 i d))).trans
    (mixerAt_of x g w lg lb sw sb R J ⟨4 * b.val + 3, by omega⟩ i 0 d (by show R.val = 128 * (4 * b.val + 3) + i.val; omega) (by show J.val = 128 * 0 + d.val; omega)).symm

theorem piece01 (H : Reads x0 x1 x2 x3 x4 x5 x6 x g w lg lb sw sb b) (i d : Fin 128) (R : Fin 49152) (J : Fin 512)
    (hR : R.val = b.val * 512 + (0 + i.val)) (hJ : J.val = 128 + d.val) :
    k0_pay17 (F := Ideal) (k0_pay34 x0 x1 x2 x3 x4 x5 x6) (k0_pay15 (View.ld x5 r0_13)) (k0_pay16 (k0_pay37 x0 x1 x2 x3 x4 x5 x6) (View.ld x3 r0_12) (View.ld x4 r0_12)) (View.ld x6 r0_13) (ix2 i d) = mixerAt x g w lg lb sw sb R J :=
  (tile01 _ _ _ _ _ _ i d _ _ _ _
    ((gate_val H ⟨0 + i.val, by omega⟩ ⟨128 + d.val, by omega⟩ R hR).trans (congrArg (gateAt x g w R) (Fin.ext hJ.symm)))
    (fun j => (ld_member1 (e := .bf16) x5 i j).trans (H.mix 1 i j))
    (fun j => group1_val H ⟨0 + j.val, by omega⟩ d ⟨128 * (4 * b.val + 0) + j.val, by omega⟩ (by show 128 * (4 * b.val + 0) + j.val = b.val * 512 + (0 + j.val); omega))
    ((ld_member1 (e := .f32) x6 i d).trans (H.bias 1 i d))).trans
    (mixerAt_of x g w lg lb sw sb R J ⟨4 * b.val + 0, by omega⟩ i 1 d (by show R.val = 128 * (4 * b.val + 0) + i.val; omega) (by show J.val = 128 * 1 + d.val; omega)).symm

theorem piece11 (H : Reads x0 x1 x2 x3 x4 x5 x6 x g w lg lb sw sb b) (i d : Fin 128) (R : Fin 49152) (J : Fin 512)
    (hR : R.val = b.val * 512 + (128 + i.val)) (hJ : J.val = 128 + d.val) :
    k0_pay18 (F := Ideal) (k0_pay34 x0 x1 x2 x3 x4 x5 x6) (k0_pay39 x0 x1 x2 x3 x4 x5 x6) (View.ld x5 r0_13) (View.ld x6 r0_13) (ix2 i d) = mixerAt x g w lg lb sw sb R J :=
  (tile11 _ _ _ _ i d _ _ _ _
    ((gate_val H ⟨128 + i.val, by omega⟩ ⟨128 + d.val, by omega⟩ R hR).trans (congrArg (gateAt x g w R) (Fin.ext hJ.symm)))
    (fun j => (ld_member1 (e := .bf16) x5 i j).trans (H.mix 1 i j))
    (fun j => group1_val H ⟨128 + j.val, by omega⟩ d ⟨128 * (4 * b.val + 1) + j.val, by omega⟩ (by show 128 * (4 * b.val + 1) + j.val = b.val * 512 + (128 + j.val); omega))
    ((ld_member1 (e := .f32) x6 i d).trans (H.bias 1 i d))).trans
    (mixerAt_of x g w lg lb sw sb R J ⟨4 * b.val + 1, by omega⟩ i 1 d (by show R.val = 128 * (4 * b.val + 1) + i.val; omega) (by show J.val = 128 * 1 + d.val; omega)).symm

theorem piece21 (H : Reads x0 x1 x2 x3 x4 x5 x6 x g w lg lb sw sb b) (i d : Fin 128) (R : Fin 49152) (J : Fin 512)
    (hR : R.val = b.val * 512 + (256 + i.val)) (hJ : J.val = 128 + d.val) :
    k0_pay19 (F := Ideal) (k0_pay34 x0 x1 x2 x3 x4 x5 x6) (k0_pay39 x0 x1 x2 x3 x4 x5 x6) (View.ld x5 r0_13) (View.ld x6 r0_13) (ix2 i d) = mixerAt x g w lg lb sw sb R J :=
  (tile21 _ _ _ _ i d _ _ _ _
    ((gate_val H ⟨256 + i.val, by omega⟩ ⟨128 + d.val, by omega⟩ R hR).trans (congrArg (gateAt x g w R) (Fin.ext hJ.symm)))
    (fun j => (ld_member1 (e := .bf16) x5 i j).trans (H.mix 1 i j))
    (fun j => group1_val H ⟨256 + j.val, by omega⟩ d ⟨128 * (4 * b.val + 2) + j.val, by omega⟩ (by show 128 * (4 * b.val + 2) + j.val = b.val * 512 + (256 + j.val); omega))
    ((ld_member1 (e := .f32) x6 i d).trans (H.bias 1 i d))).trans
    (mixerAt_of x g w lg lb sw sb R J ⟨4 * b.val + 2, by omega⟩ i 1 d (by show R.val = 128 * (4 * b.val + 2) + i.val; omega) (by show J.val = 128 * 1 + d.val; omega)).symm

theorem piece31 (H : Reads x0 x1 x2 x3 x4 x5 x6 x g w lg lb sw sb b) (i d : Fin 128) (R : Fin 49152) (J : Fin 512)
    (hR : R.val = b.val * 512 + (384 + i.val)) (hJ : J.val = 128 + d.val) :
    k0_pay20 (F := Ideal) (k0_pay34 x0 x1 x2 x3 x4 x5 x6) (k0_pay39 x0 x1 x2 x3 x4 x5 x6) (View.ld x5 r0_13) (View.ld x6 r0_13) (ix2 i d) = mixerAt x g w lg lb sw sb R J :=
  (tile31 _ _ _ _ i d _ _ _ _
    ((gate_val H ⟨384 + i.val, by omega⟩ ⟨128 + d.val, by omega⟩ R hR).trans (congrArg (gateAt x g w R) (Fin.ext hJ.symm)))
    (fun j => (ld_member1 (e := .bf16) x5 i j).trans (H.mix 1 i j))
    (fun j => group1_val H ⟨384 + j.val, by omega⟩ d ⟨128 * (4 * b.val + 3) + j.val, by omega⟩ (by show 128 * (4 * b.val + 3) + j.val = b.val * 512 + (384 + j.val); omega))
    ((ld_member1 (e := .f32) x6 i d).trans (H.bias 1 i d))).trans
    (mixerAt_of x g w lg lb sw sb R J ⟨4 * b.val + 3, by omega⟩ i 1 d (by show R.val = 128 * (4 * b.val + 3) + i.val; omega) (by show J.val = 128 * 1 + d.val; omega)).symm

theorem piece02 (H : Reads x0 x1 x2 x3 x4 x5 x6 x g w lg lb sw sb b) (i d : Fin 128) (R : Fin 49152) (J : Fin 512)
    (hR : R.val = b.val * 512 + (0 + i.val)) (hJ : J.val = 256 + d.val) :
    k0_pay24 (F := Ideal) (k0_pay34 x0 x1 x2 x3 x4 x5 x6) (k0_pay22 (View.ld x5 r0_19)) (k0_pay23 (k0_pay37 x0 x1 x2 x3 x4 x5 x6) (View.ld x3 r0_18) (View.ld x4 r0_18)) (constant S128x128 .f32 0x00000000#32) (View.ld x6 r0_19) (ix2 i d) = mixerAt x g w lg lb sw sb R J :=
  (tile02 _ _ _ _ _ _ i d _ _ _ _
    ((gate_val H ⟨0 + i.val, by omega⟩ ⟨256 + d.val, by omega⟩ R hR).trans (congrArg (gateAt x g w R) (Fin.ext hJ.symm)))
    (fun j => (ld_member2 (e := .bf16) x5 i j).trans (H.mix 2 i j))
    (fun j => group2_val H ⟨0 + j.val, by omega⟩ d ⟨128 * (4 * b.val + 0) + j.val, by omega⟩ (by show 128 * (4 * b.val + 0) + j.val = b.val * 512 + (0 + j.val); omega))
    ((ld_member2 (e := .f32) x6 i d).trans (H.bias 2 i d))).trans
    (mixerAt_of x g w lg lb sw sb R J ⟨4 * b.val + 0, by omega⟩ i 2 d (by show R.val = 128 * (4 * b.val + 0) + i.val; omega) (by show J.val = 128 * 2 + d.val; omega)).symm

theorem piece12 (H : Reads x0 x1 x2 x3 x4 x5 x6 x g w lg lb sw sb b) (i d : Fin 128) (R : Fin 49152) (J : Fin 512)
    (hR : R.val = b.val * 512 + (128 + i.val)) (hJ : J.val = 256 + d.val) :
    k0_pay25 (F := Ideal) (k0_pay34 x0 x1 x2 x3 x4 x5 x6) (k0_pay40 x0 x1 x2 x3 x4 x5 x6) (View.ld x5 r0_19) (View.ld x6 r0_19) (ix2 i d) = mixerAt x g w lg lb sw sb R J :=
  (tile12 _ _ _ _ i d _ _ _ _
    ((gate_val H ⟨128 + i.val, by omega⟩ ⟨256 + d.val, by omega⟩ R hR).trans (congrArg (gateAt x g w R) (Fin.ext hJ.symm)))
    (fun j => (ld_member2 (e := .bf16) x5 i j).trans (H.mix 2 i j))
    (fun j => group2_val H ⟨128 + j.val, by omega⟩ d ⟨128 * (4 * b.val + 1) + j.val, by omega⟩ (by show 128 * (4 * b.val + 1) + j.val = b.val * 512 + (128 + j.val); omega))
    ((ld_member2 (e := .f32) x6 i d).trans (H.bias 2 i d))).trans
    (mixerAt_of x g w lg lb sw sb R J ⟨4 * b.val + 1, by omega⟩ i 2 d (by show R.val = 128 * (4 * b.val + 1) + i.val; omega) (by show J.val = 128 * 2 + d.val; omega)).symm

theorem piece22 (H : Reads x0 x1 x2 x3 x4 x5 x6 x g w lg lb sw sb b) (i d : Fin 128) (R : Fin 49152) (J : Fin 512)
    (hR : R.val = b.val * 512 + (256 + i.val)) (hJ : J.val = 256 + d.val) :
    k0_pay26 (F := Ideal) (k0_pay34 x0 x1 x2 x3 x4 x5 x6) (k0_pay40 x0 x1 x2 x3 x4 x5 x6) (View.ld x5 r0_19) (View.ld x6 r0_19) (ix2 i d) = mixerAt x g w lg lb sw sb R J :=
  (tile22 _ _ _ _ i d _ _ _ _
    ((gate_val H ⟨256 + i.val, by omega⟩ ⟨256 + d.val, by omega⟩ R hR).trans (congrArg (gateAt x g w R) (Fin.ext hJ.symm)))
    (fun j => (ld_member2 (e := .bf16) x5 i j).trans (H.mix 2 i j))
    (fun j => group2_val H ⟨256 + j.val, by omega⟩ d ⟨128 * (4 * b.val + 2) + j.val, by omega⟩ (by show 128 * (4 * b.val + 2) + j.val = b.val * 512 + (256 + j.val); omega))
    ((ld_member2 (e := .f32) x6 i d).trans (H.bias 2 i d))).trans
    (mixerAt_of x g w lg lb sw sb R J ⟨4 * b.val + 2, by omega⟩ i 2 d (by show R.val = 128 * (4 * b.val + 2) + i.val; omega) (by show J.val = 128 * 2 + d.val; omega)).symm

theorem piece32 (H : Reads x0 x1 x2 x3 x4 x5 x6 x g w lg lb sw sb b) (i d : Fin 128) (R : Fin 49152) (J : Fin 512)
    (hR : R.val = b.val * 512 + (384 + i.val)) (hJ : J.val = 256 + d.val) :
    k0_pay27 (F := Ideal) (k0_pay34 x0 x1 x2 x3 x4 x5 x6) (k0_pay40 x0 x1 x2 x3 x4 x5 x6) (View.ld x5 r0_19) (View.ld x6 r0_19) (ix2 i d) = mixerAt x g w lg lb sw sb R J :=
  (tile32 _ _ _ _ i d _ _ _ _
    ((gate_val H ⟨384 + i.val, by omega⟩ ⟨256 + d.val, by omega⟩ R hR).trans (congrArg (gateAt x g w R) (Fin.ext hJ.symm)))
    (fun j => (ld_member2 (e := .bf16) x5 i j).trans (H.mix 2 i j))
    (fun j => group2_val H ⟨384 + j.val, by omega⟩ d ⟨128 * (4 * b.val + 3) + j.val, by omega⟩ (by show 128 * (4 * b.val + 3) + j.val = b.val * 512 + (384 + j.val); omega))
    ((ld_member2 (e := .f32) x6 i d).trans (H.bias 2 i d))).trans
    (mixerAt_of x g w lg lb sw sb R J ⟨4 * b.val + 3, by omega⟩ i 2 d (by show R.val = 128 * (4 * b.val + 3) + i.val; omega) (by show J.val = 128 * 2 + d.val; omega)).symm

theorem piece03 (H : Reads x0 x1 x2 x3 x4 x5 x6 x g w lg lb sw sb b) (i d : Fin 128) (R : Fin 49152) (J : Fin 512)
    (hR : R.val = b.val * 512 + (0 + i.val)) (hJ : J.val = 384 + d.val) :
    k0_pay30 (F := Ideal) (k0_pay34 x0 x1 x2 x3 x4 x5 x6) (k0_pay29 (k0_pay37 x0 x1 x2 x3 x4 x5 x6) (View.ld x3 r0_24) (View.ld x4 r0_24) (View.ld x5 r0_25)) (View.ld x6 r0_25) (ix2 i d) = mixerAt x g w lg lb sw sb R J :=
  (tile03 _ _ _ _ _ _ i d _ _ _ _
    ((gate_val H ⟨0 + i.val, by omega⟩ ⟨384 + d.val, by omega⟩ R hR).trans (congrArg (gateAt x g w R) (Fin.ext hJ.symm)))
    (fun j => (ld_member3 (e := .bf16) x5 i j).trans (H.mix 3 i j))
    (fun j => group3_val H ⟨0 + j.val, by omega⟩ d ⟨128 * (4 * b.val + 0) + j.val, by omega⟩ (by show 128 * (4 * b.val + 0) + j.val = b.val * 512 + (0 + j.val); omega))
    ((ld_member3 (e := .f32) x6 i d).trans (H.bias 3 i d))).trans
    (mixerAt_of x g w lg lb sw sb R J ⟨4 * b.val + 0, by omega⟩ i 3 d (by show R.val = 128 * (4 * b.val + 0) + i.val; omega) (by show J.val = 128 * 3 + d.val; omega)).symm

theorem piece13 (H : Reads x0 x1 x2 x3 x4 x5 x6 x g w lg lb sw sb b) (i d : Fin 128) (R : Fin 49152) (J : Fin 512)
    (hR : R.val = b.val * 512 + (128 + i.val)) (hJ : J.val = 384 + d.val) :
    k0_pay31 (F := Ideal) (k0_pay34 x0 x1 x2 x3 x4 x5 x6) (k0_pay41 x0 x1 x2 x3 x4 x5 x6) (View.ld x5 r0_25) (View.ld x6 r0_25) (ix2 i d) = mixerAt x g w lg lb sw sb R J :=
  (tile13 _ _ _ _ i d _ _ _ _
    ((gate_val H ⟨128 + i.val, by omega⟩ ⟨384 + d.val, by omega⟩ R hR).trans (congrArg (gateAt x g w R) (Fin.ext hJ.symm)))
    (fun j => (ld_member3 (e := .bf16) x5 i j).trans (H.mix 3 i j))
    (fun j => group3_val H ⟨128 + j.val, by omega⟩ d ⟨128 * (4 * b.val + 1) + j.val, by omega⟩ (by show 128 * (4 * b.val + 1) + j.val = b.val * 512 + (128 + j.val); omega))
    ((ld_member3 (e := .f32) x6 i d).trans (H.bias 3 i d))).trans
    (mixerAt_of x g w lg lb sw sb R J ⟨4 * b.val + 1, by omega⟩ i 3 d (by show R.val = 128 * (4 * b.val + 1) + i.val; omega) (by show J.val = 128 * 3 + d.val; omega)).symm

theorem piece23 (H : Reads x0 x1 x2 x3 x4 x5 x6 x g w lg lb sw sb b) (i d : Fin 128) (R : Fin 49152) (J : Fin 512)
    (hR : R.val = b.val * 512 + (256 + i.val)) (hJ : J.val = 384 + d.val) :
    k0_pay32 (F := Ideal) (k0_pay34 x0 x1 x2 x3 x4 x5 x6) (k0_pay41 x0 x1 x2 x3 x4 x5 x6) (View.ld x5 r0_25) (View.ld x6 r0_25) (ix2 i d) = mixerAt x g w lg lb sw sb R J :=
  (tile23 _ _ _ _ i d _ _ _ _
    ((gate_val H ⟨256 + i.val, by omega⟩ ⟨384 + d.val, by omega⟩ R hR).trans (congrArg (gateAt x g w R) (Fin.ext hJ.symm)))
    (fun j => (ld_member3 (e := .bf16) x5 i j).trans (H.mix 3 i j))
    (fun j => group3_val H ⟨256 + j.val, by omega⟩ d ⟨128 * (4 * b.val + 2) + j.val, by omega⟩ (by show 128 * (4 * b.val + 2) + j.val = b.val * 512 + (256 + j.val); omega))
    ((ld_member3 (e := .f32) x6 i d).trans (H.bias 3 i d))).trans
    (mixerAt_of x g w lg lb sw sb R J ⟨4 * b.val + 2, by omega⟩ i 3 d (by show R.val = 128 * (4 * b.val + 2) + i.val; omega) (by show J.val = 128 * 3 + d.val; omega)).symm

theorem piece33 (H : Reads x0 x1 x2 x3 x4 x5 x6 x g w lg lb sw sb b) (i d : Fin 128) (R : Fin 49152) (J : Fin 512)
    (hR : R.val = b.val * 512 + (384 + i.val)) (hJ : J.val = 384 + d.val) :
    k0_pay1 (F := Ideal) (k0_pay34 x0 x1 x2 x3 x4 x5 x6) (k0_pay41 x0 x1 x2 x3 x4 x5 x6) (k0_pay33 (View.ld x5 r0_25)) (View.ld x6 r0_25) (ix2 i d) = mixerAt x g w lg lb sw sb R J :=
  (tile33 _ _ _ _ i d _ _ _ _
    ((gate_val H ⟨384 + i.val, by omega⟩ ⟨384 + d.val, by omega⟩ R hR).trans (congrArg (gateAt x g w R) (Fin.ext hJ.symm)))
    (fun j => (ld_member3 (e := .bf16) x5 i j).trans (H.mix 3 i j))
    (fun j => group3_val H ⟨384 + j.val, by omega⟩ d ⟨128 * (4 * b.val + 3) + j.val, by omega⟩ (by show 128 * (4 * b.val + 3) + j.val = b.val * 512 + (384 + j.val); omega))
    ((ld_member3 (e := .f32) x6 i d).trans (H.bias 3 i d))).trans
    (mixerAt_of x g w lg lb sw sb R J ⟨4 * b.val + 3, by omega⟩ i 3 d (by show R.val = 128 * (4 * b.val + 3) + i.val; omega) (by show J.val = 128 * 3 + d.val; omega)).symm

theorem eq_ix (y : S128x128.Idx) : y = ix2 (y 0) (y 1) := by
  funext a
  match a with
  | ⟨0, _⟩ => rfl
  | ⟨1, _⟩ => rfl

/-- The first output block. -/
theorem mixer_val (H : Reads x0 x1 x2 x3 x4 x5 x6 x g w lg lb sw sb b) (y : S512x512.Idx) (R : Fin 49152) (J : Fin 512)
    (hR : R.val = b.val * 512 + (y 0).val) (hJ : J.val = (y 1).val) :
    out0_7 (F := Ideal) x0 x1 x2 x3 x4 x5 x6 y = mixerAt x g w lg lb sw sb R J := by
  canon_tiles z h
  · refine (congrArg _ (eq_ix z)).trans (piece33 H (z 0) (z 1) R J ?_ ?_) <;> omega
  · refine (congrArg _ (eq_ix z)).trans (piece23 H (z 0) (z 1) R J ?_ ?_) <;> omega
  · refine (congrArg _ (eq_ix z)).trans (piece13 H (z 0) (z 1) R J ?_ ?_) <;> omega
  · refine (congrArg _ (eq_ix z)).trans (piece03 H (z 0) (z 1) R J ?_ ?_) <;> omega
  · refine (congrArg _ (eq_ix z)).trans (piece32 H (z 0) (z 1) R J ?_ ?_) <;> omega
  · refine (congrArg _ (eq_ix z)).trans (piece22 H (z 0) (z 1) R J ?_ ?_) <;> omega
  · refine (congrArg _ (eq_ix z)).trans (piece12 H (z 0) (z 1) R J ?_ ?_) <;> omega
  · refine (congrArg _ (eq_ix z)).trans (piece02 H (z 0) (z 1) R J ?_ ?_) <;> omega
  · refine (congrArg _ (eq_ix z)).trans (piece31 H (z 0) (z 1) R J ?_ ?_) <;> omega
  · refine (congrArg _ (eq_ix z)).trans (piece21 H (z 0) (z 1) R J ?_ ?_) <;> omega
  · refine (congrArg _ (eq_ix z)).trans (piece11 H (z 0) (z 1) R J ?_ ?_) <;> omega
  · refine (congrArg _ (eq_ix z)).trans (piece01 H (z 0) (z 1) R J ?_ ?_) <;> omega
  · refine (congrArg _ (eq_ix z)).trans (piece30 H (z 0) (z 1) R J ?_ ?_) <;> omega
  · refine (congrArg _ (eq_ix z)).trans (piece20 H (z 0) (z 1) R J ?_ ?_) <;> omega
  · refine (congrArg _ (eq_ix z)).trans (piece10 H (z 0) (z 1) R J ?_ ?_) <;> omega
  · refine (congrArg _ (eq_ix z)).trans (piece00 H (z 0) (z 1) R J ?_ ?_) <;> omega

end Cert.EvenInValue

end
-- ==== Proof.EvenIn.Value.lean ====
/-
  The even layer's input at the exact numbers: what the blocks read, and the two arrays the launch leaves.
-/
module

public import proofs.«01_k».proof.Proof.EvenIn.Body

@[expose] public section

set_option maxRecDepth 16384

noncomputable section

namespace Cert.EvenInValue

open Cert.EvenInIdeal Cert.EvenInIdeal.Gen
open Idealize.ShloMosaic Idealize.ShloMosaic.TcCoe Idealize.SL.Sem

variable (m : (ℓ : Loc nD τ sig) → Buf (Elt Ideal) ℓ)

theorem coords_val : ∀ t : Fin grid0.N, (grid0.coords t 0).val = t.val := by decide +kernel

theorem coord_word (t : Fin grid0.N) : (BitVec.ofNat 32 (grid0.coords t 0).val).toNat = t.val := by
  have : t.val < 96 := t.isLt
  rw [coords_val t, BitVec.toNat_ofNat]; omega

/-- Where an entry of the rows' block lies in its array. -/
theorem rows_place (t : Fin cfg0.N) (b : Fin 96) (hb : t.val = b.val) (r : Fin 512) (k : Fin 1024) :
    (((cfg0.win 0).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- Where an entry of the first result's block lies in its array. -/
theorem mixer_place (t : Fin cfg0.N) (b : Fin 96) (hb : t.val = b.val) (r : Fin 512) (k : Fin 512) :
    (((cfg0.win 7).blk t).view.emb (ix2 r k) : S49152x512.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 512 + 1 * k.val = k.val
    simp

/-- Where an entry of the second result's block lies in its array. -/
theorem rest_place (t : Fin cfg0.N) (b : Fin 96) (hb : t.val = b.val) (r : Fin 512) (k : Fin 1536) :
    (((cfg0.win 8).blk t).view.emb (ix2 r k) : S49152x1536.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1536 + 1 * k.val = k.val
    simp

/-! The other operands' blocks are their arrays. -/

theorem scale_place (t : Fin cfg0.N) (i : S1x1024.Idx) : (((cfg0.win 1).blk t).view.emb i : S1x1024.Idx) = i := by
  funext a
  apply Fin.ext
  match a with
  | ⟨0, _⟩ =>
    show (0#32).toNat * 1 + 1 * (i 0).val = (i 0).val
    simp
  | ⟨1, _⟩ =>
    show (0#32).toNat * 1024 + 1 * (i 1).val = (i 1).val
    simp

theorem weight_place (t : Fin cfg0.N) (i : S1024x2560.Idx) : (((cfg0.win 2).blk t).view.emb i : S1024x2560.Idx) = i := by
  funext a
  apply Fin.ext
  match a with
  | ⟨0, _⟩ =>
    show (0#32).toNat * 1024 + 1 * (i 0).val = (i 0).val
    simp
  | ⟨1, _⟩ =>
    show (0#32).toNat * 2560 + 1 * (i 1).val = (i 1).val
    simp

theorem lnScale_place (t : Fin cfg0.N) (i : S1x512.Idx) : (((cfg0.win 3).blk t).view.emb i : S1x512.Idx) = i := by
  funext a
  apply Fin.ext
  match a with
  | ⟨0, _⟩ =>
    show (0#32).toNat * 1 + 1 * (i 0).val = (i 0).val
    simp
  | ⟨1, _⟩ =>
    show (0#32).toNat * 512 + 1 * (i 1).val = (i 1).val
    simp

theorem lnShift_place (t : Fin cfg0.N) (i : S1x512.Idx) : (((cfg0.win 4).blk t).view.emb i : S1x512.Idx) = i := by
  funext a
  apply Fin.ext
  match a with
  | ⟨0, _⟩ =>
    show (0#32).toNat * 1 + 1 * (i 0).val = (i 0).val
    simp
  | ⟨1, _⟩ =>
    show (0#32).toNat * 512 + 1 * (i 1).val = (i 1).val
    simp

theorem mix_place (t : Fin cfg0.N) (i : S4x128x128.Idx) : (((cfg0.win 5).blk t).view.emb i : S4x128x128.Idx) = i := by
  funext a
  apply Fin.ext
  match a with
  | ⟨0, _⟩ =>
    show (0#32).toNat * 4 + 1 * (i 0).val = (i 0).val
    simp
  | ⟨1, _⟩ =>
    show (0#32).toNat * 128 + 1 * (i 1).val = (i 1).val
    simp
  | ⟨2, _⟩ =>
    show (0#32).toNat * 128 + 1 * (i 2).val = (i 2).val
    simp

theorem bias_place (t : Fin cfg0.N) (i : S4x128x128.Idx) : (((cfg0.win 6).blk t).view.emb i : S4x128x128.Idx) = i := by
  funext a
  apply Fin.ext
  match a with
  | ⟨0, _⟩ =>
    show (0#32).toNat * 4 + 1 * (i 0).val = (i 0).val
    simp
  | ⟨1, _⟩ =>
    show (0#32).toNat * 128 + 1 * (i 1).val = (i 1).val
    simp
  | ⟨2, _⟩ =>
    show (0#32).toNat * 128 + 1 * (i 2).val = (i 2).val
    simp

/-! The arguments as launched. -/

abbrev rowsIn (c : Dev nD) : S49152x1024.Idx → EReal := m ((c : Thread nD τ).loc main_arg0)
abbrev scaleIn (c : Dev nD) : S1024.Idx → EReal := m ((c : Thread nD τ).loc main_arg1)
abbrev weightIn (c : Dev nD) : S1024x2560.Idx → EReal := m ((c : Thread nD τ).loc main_arg2)
abbrev lnScaleIn (c : Dev nD) : S512.Idx → EReal := m ((c : Thread nD τ).loc main_arg3)
abbrev lnShiftIn (c : Dev nD) : S512.Idx → EReal := m ((c : Thread nD τ).loc main_arg4)
abbrev mixIn (c : Dev nD) : S4x128x128.Idx → EReal := m ((c : Thread nD τ).loc main_arg5)
abbrev biasIn (c : Dev nD) : S4x128.Idx → EReal := m ((c : Thread nD τ).loc main_arg6)

/-! The operands the host prepares. -/

theorem V_scale (c : Dev nD) : V m c main_v2 = (broadcastInDim S1x1024 ![1] bcast_S1024_S1x1024_1 (m ((c : Thread nD τ).loc main_arg1) : FVec Ideal S1024 .f32) : FVec Ideal S1x1024 .f32) := by
  show StableHlo.after (List.flatten [hostOps0]) (fun b => m (c, b)) _ = _
  simp only [List.flatten_cons, List.flatten_nil, List.append_nil, hostOps0, List.cons_append, List.nil_append]
  after_results_simp
theorem V_weight (c : Dev nD) : V m c main_v3 = (truncf .bf16 (m ((c : Thread nD τ).loc main_arg2) : FVec Ideal S1024x2560 .f32) bitsLt_bf16_f32 : FVec Ideal S1024x2560 .bf16) := by
  show StableHlo.after (List.flatten [hostOps0]) (fun b => m (c, b)) _ = _
  simp only [List.flatten_cons, List.flatten_nil, List.append_nil, hostOps0, List.cons_append, List.nil_append]
  after_results_simp
theorem V_lnScale (c : Dev nD) : V m c main_v4 = (broadcastInDim S1x512 ![1] bcast_S512_S1x512_1 (m ((c : Thread nD τ).loc main_arg3) : FVec Ideal S512 .f32) : FVec Ideal S1x512 .f32) := by
  show StableHlo.after (List.flatten [hostOps0]) (fun b => m (c, b)) _ = _
  simp only [List.flatten_cons, List.flatten_nil, List.append_nil, hostOps0, List.cons_append, List.nil_append]
  after_results_simp
theorem V_lnShift (c : Dev nD) : V m c main_v5 = (broadcastInDim S1x512 ![1] bcast_S512_S1x512_1 (m ((c : Thread nD τ).loc main_arg4) : FVec Ideal S512 .f32) : FVec Ideal S1x512 .f32) := by
  show StableHlo.after (List.flatten [hostOps0]) (fun b => m (c, b)) _ = _
  simp only [List.flatten_cons, List.flatten_nil, List.append_nil, hostOps0, List.cons_append, List.nil_append]
  after_results_simp
theorem V_mix (c : Dev nD) : V m c main_v6 = (truncf .bf16 (m ((c : Thread nD τ).loc main_arg5) : FVec Ideal S4x128x128 .f32) bitsLt_bf16_f32 : FVec Ideal S4x128x128 .bf16) := by
  show StableHlo.after (List.flatten [hostOps0]) (fun b => m (c, b)) _ = _
  simp only [List.flatten_cons, List.flatten_nil, List.append_nil, hostOps0, List.cons_append, List.nil_append]
  after_results_simp
theorem V_bias (c : Dev nD) : V m c main_v1 = (broadcastInDim S4x128x128 ![0, 1, 2] bcast_S4x128x1_S4x128x128_0_1_2 (broadcastInDim S4x128x1 ![0, 1] bcast_S4x128_S4x128x1_0_1 (m ((c : Thread nD τ).loc main_arg6) : FVec Ideal S4x128 .f32)) : FVec Ideal S4x128x128 .f32) := by
  show StableHlo.after (List.flatten [hostOps0]) (fun b => m (c, b)) _ = _
  simp only [List.flatten_cons, List.flatten_nil, List.append_nil, hostOps0, List.cons_append, List.nil_append]
  after_results_simp

/-- The blocks of a point read the launched arrays. -/
theorem reads (c : Dev nD) (t : Fin cfg0.N) (b : Fin 96) (hb : t.val = b.val) :
    Reads (iblk m c 0 t) (iblk m c 1 t) (iblk m c 2 t) (iblk m c 3 t) (iblk m c 4 t) (iblk m c 5 t) (iblk m c 6 t)
      (rowsIn m c) (scaleIn m c) (weightIn m c) (lnScaleIn m c) (lnShiftIn m c) (mixIn m c) (biasIn m c) b where
  rows r k := (congrArg (V m c main_arg0 : S49152x1024.Idx → EReal) (rows_place t b hb r k)).trans (congrFun (V_main_arg0 m c) _)
  scale k := by
    refine ((congrArg (V m c main_v2 : S1x1024.Idx → EReal) (scale_place t (ix2 0 k))).trans (congrFun (V_scale m c) _)).trans ?_
    pointwise
  weight k j := (congrArg (V m c main_v3 : S1024x2560.Idx → EReal) (weight_place t (ix2 k j))).trans (congrFun (V_weight m c) _)
  lng j := by
    refine ((congrArg (V m c main_v4 : S1x512.Idx → EReal) (lnScale_place t (ix2 0 j))).trans (congrFun (V_lnScale m c) _)).trans ?_
    pointwise
  lnb j := by
    refine ((congrArg (V m c main_v5 : S1x512.Idx → EReal) (lnShift_place t (ix2 0 j))).trans (congrFun (V_lnShift m c) _)).trans ?_
    pointwise
  mix h i j := (congrArg (V m c main_v6 : S4x128x128.Idx → EReal) (mix_place t (ix3 h i j))).trans (congrFun (V_mix m c) _)
  bias h i d := by
    refine ((congrArg (V m c main_v1 : S4x128x128.Idx → EReal) (bias_place t (ix3 h i d))).trans (congrFun (V_bias m c) _)).trans ?_
    pointwise

/-! ## The arrays the launch leaves -/

/-- The first result. -/
def mixerArr (c : Dev nD) : S49152x512.Idx → EReal := fun i => mixerAt (rowsIn m c) (scaleIn m c) (weightIn m c) (lnScaleIn m c) (lnShiftIn m c) (mixIn m c) (biasIn m c) (i 0) (i 1)

/-- The second result. -/
def restArr (c : Dev nD) : S49152x1536.Idx → EReal := fun i => restAt (rowsIn m c) (scaleIn m c) (weightIn m c) (i 0) (i 1)

/-! Every entry of the results lies in some point's block. -/

theorem mixer_covered (i : S49152x512.Idx) : ∃ t : Fin cfg0.N, (cfg0.win 7).flush t = true ∧ i ∈ ((cfg0.win 7).blk t).view.set := by
  have h0 : (i 0).val < 49152 := (i 0).isLt
  have hlt : (i 0).val / 512 < 96 := by omega
  refine ⟨⟨(i 0).val / 512, hlt⟩, flush0_7 _, ?_⟩
  have hp := mixer_place ⟨(i 0).val / 512, hlt⟩ ⟨(i 0).val / 512, hlt⟩ rfl ⟨(i 0).val % 512, by omega⟩ (i 1)
  have hi : (ix2 ⟨(i 0).val / 512 * 512 + (i 0).val % 512, by omega⟩ (i 1) : S49152x512.Idx) = i := by
    funext b
    apply Fin.ext
    match b with
    | ⟨0, _⟩ => show (i 0).val / 512 * 512 + (i 0).val % 512 = (i 0).val; omega
    | ⟨1, _⟩ => rfl
  have hm := ((cfg0.win 7).blk ⟨(i 0).val / 512, hlt⟩).view.emb_mem_set (ix2 ⟨(i 0).val % 512, by omega⟩ (i 1) : S512x512.Idx)
  exact (congrArg (· ∈ ((cfg0.win 7).blk ⟨(i 0).val / 512, hlt⟩).view.set) (hp.trans hi)).mp hm

theorem rest_covered (i : S49152x1536.Idx) : ∃ t : Fin cfg0.N, (cfg0.win 8).flush t = true ∧ i ∈ ((cfg0.win 8).blk t).view.set := by
  have h0 : (i 0).val < 49152 := (i 0).isLt
  have hlt : (i 0).val / 512 < 96 := by omega
  refine ⟨⟨(i 0).val / 512, hlt⟩, flush0_8 _, ?_⟩
  have hp := rest_place ⟨(i 0).val / 512, hlt⟩ ⟨(i 0).val / 512, hlt⟩ rfl ⟨(i 0).val % 512, by omega⟩ (i 1)
  have hi : (ix2 ⟨(i 0).val / 512 * 512 + (i 0).val % 512, by omega⟩ (i 1) : S49152x1536.Idx) = i := by
    funext b
    apply Fin.ext
    match b with
    | ⟨0, _⟩ => show (i 0).val / 512 * 512 + (i 0).val % 512 = (i 0).val; omega
    | ⟨1, _⟩ => rfl
  have hm := ((cfg0.win 8).blk ⟨(i 0).val / 512, hlt⟩).view.emb_mem_set (ix2 ⟨(i 0).val % 512, by omega⟩ (i 1) : S512x1536.Idx)
  exact (congrArg (· ∈ ((cfg0.win 8).blk ⟨(i 0).val / 512, hlt⟩).view.set) (hp.trans hi)).mp hm

theorem mixer_final (c : Dev nD) : (dats m 0 c).arrAt 7 cfg0.N = mixerArr m c := by
  refine (dats m 0 c).arrAt_eq_of_emb 7 (mixerArr m c) (fun t hf y => ?_) mixer_covered
  obtain ⟨r, j, rfl⟩ : ∃ (r : Fin 512) (j : Fin 512), y = (ix2 r j : S512x512.Idx) :=
    ⟨(show S512x512.Idx from y) 0, (show S512x512.Idx from y) 1, by funext a; match a with | ⟨0, _⟩ => rfl | ⟨1, _⟩ => rfl⟩
  have ht : t.val < 96 := t.isLt
  refine Eq.trans ?_ (congrArg (mixerArr m c) (mixer_place t ⟨t.val, ht⟩ rfl r j)).symm
  refine Eq.trans ?_ (mixer_val (reads m c t ⟨t.val, ht⟩ rfl) (ix2 r j) ⟨t.val * 512 + r.val, by omega⟩ j rfl rfl)
  show (dats m 0 c).after 7 t (ix2 r j) = _
  rw [after0_7]

theorem rest_final (c : Dev nD) : (dats m 0 c).arrAt 8 cfg0.N = restArr m c := by
  refine (dats m 0 c).arrAt_eq_of_emb 8 (restArr m c) (fun t hf y => ?_) rest_covered
  obtain ⟨r, j, rfl⟩ : ∃ (r : Fin 512) (j : Fin 1536), y = (ix2 r j : S512x1536.Idx) :=
    ⟨(show S512x1536.Idx from y) 0, (show S512x1536.Idx from y) 1, by funext a; match a with | ⟨0, _⟩ => rfl | ⟨1, _⟩ => rfl⟩
  have ht : t.val < 96 := t.isLt
  refine Eq.trans ?_ (congrArg (restArr m c) (rest_place t ⟨t.val, ht⟩ rfl r j)).symm
  refine Eq.trans ?_ (rest_val (reads m c t ⟨t.val, ht⟩ rfl) r j ⟨t.val * 512 + r.val, by omega⟩ rfl)
  show (dats m 0 c).after 8 t (ix2 r j) = _
  rw [after0_8]
  frame_out

/-- The run with its results: every execution leaves both and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v7_0) = mixerArr m c
      ∧ r.2.mem ((c.tc : Thread nD τ).loc main_v7_1) = restArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (mixer_final m c), ((h.1 c).1 8).trans (rest_final m c), h.2.1 c⟩)
    (θ_run_and (run_main m ρ) (frame m ρ))

end Cert.EvenInValue

end
-- ==== Proof.EvenIn.RefTerm.lean ====
/-
  The even layer's input: what the reference computes at the exact numbers, entry by entry.
-/
module

public import proofs.«01_k».proof.Proof.Gen.EvenInRefIdeal.Run
public import proofs.«01_k».proof.Proof.EvenIn.Spec

@[expose] public section

set_option maxRecDepth 16384

noncomputable section

namespace Cert.EvenInRefValue

open Cert.EvenInRefIdeal Cert.EvenInRefIdeal.Gen
open Idealize.ShloMosaic Idealize.ShloMosaic.TcCoe Idealize.SL.Sem

/-- The normalised rows. -/
def normed (x : FVec Ideal S49152x1024 .f32) (g : FVec Ideal S1024 .f32) : FVec Ideal S49152x1024 .f32 :=
  mulf (mulf x (broadcastInDim S49152x1024 ![0, 1] bcast_S49152x1_S49152x1024_0_1 (Host.rsqrt (addf (Host.divf (broadcastInDim S49152x1 ![0] bcast_S49152_S49152x1_0 (Host.reduceAdd (mulf x x) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 g))

/-- The projection. -/
def proj (x : FVec Ideal S49152x1024 .f32) (g : FVec Ideal S1024 .f32) (w : FVec Ideal S1024x2560 .f32) : FVec Ideal S49152x2560 .f32 :=
  Host.dotGeneral dot_S49152x1024_S1024x2560_S49152x2560_1_0_0_1_n_n none (normed x g) w

/-- The nonlinearity. -/
def geluArr (p : FVec Ideal S49152x512 .f32) : FVec Ideal S49152x512 .f32 :=
  mulf p (mulf (broadcastInDim S49152x512 ![] bcast_S_S49152x512 (constant S_ .f32 0x3F000000#32)) (addf (broadcastInDim S49152x512 ![] bcast_S_S49152x512 (constant S_ .f32 0x3F800000#32)) (Host.tanh (mulf (broadcastInDim S49152x512 ![] bcast_S_S49152x512 (constant S_ .f32 0x3F4C422A#32)) (addf p (mulf (broadcastInDim S49152x512 ![] bcast_S_S49152x512 (constant S_ .f32 0x3D372713#32)) (mulf (mulf p p) p)))))))

/-- The gate. -/
def gate (x : FVec Ideal S49152x1024 .f32) (g : FVec Ideal S1024 .f32) (w : FVec Ideal S1024x2560 .f32) : FVec Ideal S49152x512 .f32 :=
  geluArr (extractStridedSlice S49152x512 ![0, 0] (proj x g w) slices_S49152x2560_S49152x512_0_0)

/-- What is mixed, before its normalisation, chunk by chunk and group by group. -/
def value (x : FVec Ideal S49152x1024 .f32) (g : FVec Ideal S1024 .f32) (w : FVec Ideal S1024x2560 .f32) : FVec Ideal S384x128x4x128 .f32 :=
  shapeCast _ (geluArr (extractStridedSlice S49152x512 ![0, 512] (proj x g w) slices_S49152x2560_S49152x512_0_512)) shapeCasts_S49152x512_S384x128x4x128

/-- The groups' means. -/
def means (v : FVec Ideal S384x128x4x128 .f32) : FVec Ideal S384x128x4x1 .f32 :=
  Host.divf (broadcastInDim S384x128x4x1 ![0, 1, 2] bcast_S384x128x4_S384x128x4x1_0_1_2 (Host.reduceAdd v (constant S_ .f32 0x00000000#32) reducesTo_S384x128x4x128_S384x128x4_d3 h_S_)) (broadcastInDim S384x128x4x1 ![] bcast_S_S384x128x4x1 (constant S_ .f32 0x43000000#32))

/-- The groups less their means. -/
def centred (v : FVec Ideal S384x128x4x128 .f32) : FVec Ideal S384x128x4x128 .f32 :=
  subf v (broadcastInDim S384x128x4x128 ![0, 1, 2, 3] bcast_S384x128x4x1_S384x128x4x128_0_1_2_3 (means v))

/-- A row of scales, for every row of every chunk. -/
def spread (a : FVec Ideal S512 .f32) : FVec Ideal S384x128x4x128 .f32 :=
  broadcastInDim S384x128x4x128 ![0, 1, 2, 3] bcast_S1x1x4x128_S384x128x4x128_0_1_2_3 (broadcastInDim S1x1x4x128 ![2, 3] bcast_S4x128_S1x1x4x128_2_3 (shapeCast _ a shapeCasts_S512_S4x128))

/-- The groups, normalised, scaled and shifted. -/
def layerNormed (v : FVec Ideal S384x128x4x128 .f32) (lg lb : FVec Ideal S512 .f32) : FVec Ideal S384x128x4x128 .f32 :=
  addf (mulf (mulf (centred v) (broadcastInDim S384x128x4x128 ![0, 1, 2, 3] bcast_S384x128x4x1_S384x128x4x128_0_1_2_3 (Host.rsqrt (addf (means (mulf (centred v) (centred v))) (broadcastInDim S384x128x4x1 ![] bcast_S_S384x128x4x1 (constant S_ .f32 0x358637BD#32)))))) (spread lg)) (spread lb)

/-- The products of a chunk's rows with the mixing weight. -/
def products (v : FVec Ideal S384x128x4x128 .f32) (sw : FVec Ideal S4x128x128 .f32) : FVec Ideal S4x384x128x128 .f32 :=
  Host.dotGeneral dot_S384x128x4x128_S4x128x128_S4x384x128x128_1_2_03_1_2_0 none v sw

/-- The mixed rows. -/
def mixed (v : FVec Ideal S384x128x4x128 .f32) (sw : FVec Ideal S4x128x128 .f32) (sb : FVec Ideal S4x128 .f32) : FVec Ideal S384x128x4x128 .f32 :=
  addf (transpose S384x128x4x128 [1, 3, 0, 2] (products v sw) transposes_S4x384x128x128_S384x128x4x128_1_3_0_2) (broadcastInDim S384x128x4x128 ![0, 1, 2, 3] bcast_S1x128x4x1_S384x128x4x128_0_1_2_3 (broadcastInDim S1x128x4x1 ![1, 2] bcast_S128x4_S1x128x4x1_1_2 (transpose S128x4 [1, 0] sb transposes_S4x128_S128x4_1_0)))

/-- The first result. -/
def mixer (x : FVec Ideal S49152x1024 .f32) (g : FVec Ideal S1024 .f32) (w : FVec Ideal S1024x2560 .f32) (lg lb : FVec Ideal S512 .f32) (sw : FVec Ideal S4x128x128 .f32) (sb : FVec Ideal S4x128 .f32) : FVec Ideal S49152x512 .bf16 :=
  truncf .bf16 (mulf (gate x g w) (shapeCast _ (mixed (layerNormed (value x g w) lg lb) sw sb) shapeCasts_S384x128x4x128_S49152x512)) bitsLt_bf16_f32

/-- The second result. -/
def rest (x : FVec Ideal S49152x1024 .f32) (g : FVec Ideal S1024 .f32) (w : FVec Ideal S1024x2560 .f32) : FVec Ideal S49152x1536 .f32 :=
  extractStridedSlice S49152x1536 ![0, 1024] (proj x g w) slices_S49152x2560_S49152x1536_0_1024

theorem mixer_eq (m : (ℓ : Loc nD τ sig) → Buf (Elt Ideal) ℓ) (c : Dev nD) :
    Cert.EvenInRefIdeal.Value.res_main_v76 (F := Ideal) m c = mixer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.EvenInRefValue

end
-- ==== Proof.EvenIn.Ref.lean ====
/-
  The even layer's input: the reference's two results are the kernel's, entry by entry.
-/
module

public import proofs.«01_k».proof.Proof.EvenIn.RefTerm
public import Idealize.ShloMosaic.Lib.Pipeline.ValueKit

@[expose] public section

set_option maxRecDepth 16384

noncomputable section

namespace Cert.EvenInRefValue

open Cert.EvenInRefIdeal Cert.EvenInRefIdeal.Gen Cert.EvenInValue
open Idealize.ShloMosaic Idealize.ShloMosaic.TcCoe Idealize.SL.Sem

theorem normed_apply (x : FVec Ideal S49152x1024 .f32) (g : FVec Ideal S1024 .f32) (r : Fin 49152) (k : Fin 1024) : normed x g (ix2 r k) = normAt x g r k := by
  unfold normed normAt
  pointwise

theorem proj_apply (x : FVec Ideal S49152x1024 .f32) (g : FVec Ideal S1024 .f32) (w : FVec Ideal S1024x2560 .f32) (r : Fin 49152) (j : Fin 2560) : proj x g w (ix2 r j) = projAt x g w r j := by
  unfold proj projAt
  pointwise
  simp only [← ix2_eq_valueIdx, normed_apply]

theorem geluArr_apply (p : FVec Ideal S49152x512 .f32) (r : Fin 49152) (j : Fin 512) : geluArr p (ix2 r j) = gelu (p (ix2 r j)) := by
  unfold geluArr gelu
  pointwise
  rw [mul_comm (p (ix2 r j) * p (ix2 r j)) (p (ix2 r j))]

theorem gate_apply (x : FVec Ideal S49152x1024 .f32) (g : FVec Ideal S1024 .f32) (w : FVec Ideal S1024x2560 .f32) (r : Fin 49152) (j : Fin 512) : gate x g w (ix2 r j) = gateAt x g w r j := by
  unfold gate gateAt
  rw [geluArr_apply, ← proj_apply]
  pointwise

theorem value_apply (x : FVec Ideal S49152x1024 .f32) (g : FVec Ideal S1024 .f32) (w : FVec Ideal S1024x2560 .f32) (n : Fin 384) (i : Fin 128) (h : Fin 4) (d : Fin 128) :
    value x g w (ix4 n i h d) = valueAt x g w ⟨128 * n.val + i.val, by omega⟩ h d := by
  unfold value valueAt
  pointwise
  simp only [mul_comm n.val 128, mul_comm h.val 128]
  rw [geluArr_apply, ← proj_apply]
  pointwise

theorem means_apply (v : FVec Ideal S384x128x4x128 .f32) (n : Fin 384) (i : Fin 128) (h : Fin 4) (d : Fin 1) :
    means v (ix4 n i h d) = meanOf (fun e => v (ix4 n i h e)) := by
  unfold means meanOf
  pointwise

theorem centred_apply (v : FVec Ideal S384x128x4x128 .f32) (n : Fin 384) (i : Fin 128) (h : Fin 4) (d : Fin 128) :
    centred v (ix4 n i h d) = v (ix4 n i h d) - meanOf (fun e => v (ix4 n i h e)) := by
  unfold centred
  pointwise
  rw [means_apply]

theorem spread_apply (a : FVec Ideal S512 .f32) (n : Fin 384) (i : Fin 128) (h : Fin 4) (d : Fin 128) :
    spread a (ix4 n i h d) = a (ix1 ⟨128 * h.val + d.val, by omega⟩) := by
  unfold spread
  pointwise
  simp only [mul_comm h.val 128]

theorem layerNormed_apply (v : FVec Ideal S384x128x4x128 .f32) (lg lb : FVec Ideal S512 .f32) (n : Fin 384) (i : Fin 128) (h : Fin 4) (d : Fin 128) :
    layerNormed v lg lb (ix4 n i h d) = groupNorm (fun e => v (ix4 n i h e)) (lg (ix1 ⟨128 * h.val + d.val, by omega⟩)) (lb (ix1 ⟨128 * h.val + d.val, by omega⟩)) d := by
  unfold layerNormed groupNorm
  pointwise
  rw [spread_apply, spread_apply, means_apply, centred_apply]
  have hsq : (fun e : Fin 128 => mulf (centred v) (centred v) (ix4 n i h e))
      = fun e => (v (ix4 n i h e) - meanOf (fun e => v (ix4 n i h e))) * (v (ix4 n i h e) - meanOf (fun e => v (ix4 n i h e))) :=
    funext fun e => congrArg₂ (· * ·) (centred_apply v n i h e) (centred_apply v n i h e)
  rw [hsq]

theorem products_apply (v : FVec Ideal S384x128x4x128 .f32) (sw : FVec Ideal S4x128x128 .f32) (n : Fin 384) (i : Fin 128) (h : Fin 4) (d : Fin 128) :
    products v sw (ix4 h n d i) = ∑ j, v (ix4 n j h d) * sw (ix3 h i j) := by
  unfold products
  pointwise

theorem mixed_apply (v : FVec Ideal S384x128x4x128 .f32) (sw : FVec Ideal S4x128x128 .f32) (sb : FVec Ideal S4x128 .f32) (n : Fin 384) (i : Fin 128) (h : Fin 4) (d : Fin 128) :
    mixed v sw sb (ix4 n i h d) = ∑ j, sw (ix3 h i j) * v (ix4 n j h d) + sb (ix2 h i) := by
  unfold mixed
  pointwise
  rw [products_apply]
  exact congrArg (· + sb (ix2 h i)) (Finset.sum_congr rfl fun j _ => mul_comm _ _)

theorem rest_apply (x : FVec Ideal S49152x1024 .f32) (g : FVec Ideal S1024 .f32) (w : FVec Ideal S1024x2560 .f32) (r : Fin 49152) (j : Fin 1536) : rest x g w (ix2 r j) = restAt x g w r j := by
  unfold rest restAt
  rw [← proj_apply]
  pointwise

theorem mixer_apply (x : FVec Ideal S49152x1024 .f32) (g : FVec Ideal S1024 .f32) (w : FVec Ideal S1024x2560 .f32) (lg lb : FVec Ideal S512 .f32) (sw : FVec Ideal S4x128x128 .f32) (sb : FVec Ideal S4x128 .f32) (r : Fin 49152) (j : Fin 512) :
    mixer x g w lg lb sw sb (ix2 r j) = mixerAt x g w lg lb sw sb r j := by
  unfold mixer mixerAt
  pointwise
  rw [gate_apply, mixed_apply]
  unfold mixedAt normedAt
  simp only [layerNormed_apply, value_apply]

/-- The reference's first result, as an array. -/
theorem mixer_array (x : FVec Ideal S49152x1024 .f32) (g : FVec Ideal S1024 .f32) (w : FVec Ideal S1024x2560 .f32) (lg lb : FVec Ideal S512 .f32) (sw : FVec Ideal S4x128x128 .f32) (sb : FVec Ideal S4x128 .f32) :
    mixer x g w lg lb sw sb = fun y : S49152x512.Idx => mixerAt x g w lg lb sw sb (y 0) (y 1) := by
  funext y
  obtain ⟨r, j, rfl⟩ : ∃ (r : Fin 49152) (j : Fin 512), y = (ix2 r j : S49152x512.Idx) :=
    ⟨y 0, y 1, by funext a; match a with | ⟨0, _⟩ => rfl | ⟨1, _⟩ => rfl⟩
  exact mixer_apply x g w lg lb sw sb r j

/-- The reference's second result, as an array. -/
theorem rest_array (x : FVec Ideal S49152x1024 .f32) (g : FVec Ideal S1024 .f32) (w : FVec Ideal S1024x2560 .f32) :
    rest x g w = fun y : S49152x1536.Idx => restAt x g w (y 0) (y 1) := by
  funext y
  obtain ⟨r, j, rfl⟩ : ∃ (r : Fin 49152) (j : Fin 1536), y = (ix2 r j : S49152x1536.Idx) :=
    ⟨y 0, y 1, by funext a; match a with | ⟨0, _⟩ => rfl | ⟨1, _⟩ => rfl⟩
  exact rest_apply x g w r j

end Cert.EvenInRefValue

end
-- ==== Proof.Proj.QkvSame.lean ====
/-
  The attention's input projection: the printed program and the one read at the reals are one text, so a run of the second is a run of the
  first.
-/
module

public import proofs.«01_k».proof.Proof.Gen.Qkv
public import proofs.«01_k».proof.Proof.Gen.QkvIdeal
public import Idealize.ShloMosaic.Lib.Tactic

@[expose] public section

set_option maxRecDepth 16384
set_option maxHeartbeats 1000000

namespace Cert.QkvSame

open Idealize.ShloMosaic Idealize.ShloMosaic.Tactic Idealize.SL.Sem

variable {F : FTy → Type} [FloatOps F]

theorem body_eq : Cert.Qkv.cc0_qkv_proj (F := F) = Cert.QkvIdeal.cc0_qkv_proj (F := F) := by sl_kernel_rfl

theorem bodies_eq : (Cert.Qkv.defs₀ (F := F) : Defs Cert.Qkv.nD Cert.Qkv.τ Cert.Qkv.sig (Elt F) Cert.Qkv.Λ₀) = Cert.QkvIdeal.defs₀ (F := F) := by
  refine congrArg Defs.onTc ?_
  funext ℓ args
  match ℓ, args with
  | ⟨0, _⟩, (t, s) => rfl

theorem defs_eq : (Cert.Qkv.defs (F := F) : Defs Cert.Qkv.nD Cert.Qkv.τ Cert.Qkv.sig (Elt F) _) = Cert.QkvIdeal.defs (F := F) :=
  congrArg (fun d => Pipeline.defs (Cert.QkvIdeal.pcfgs (F := F)) d) bodies_eq

theorem main_at (c : Dev Cert.Qkv.nD) : Cert.Qkv.main (F := F) c = Cert.QkvIdeal.main (F := F) c := by
  sl_kernel_rfl

theorem main_eq : Cert.Qkv.main (F := F) = Cert.QkvIdeal.main (F := F) := funext fun c => main_at c

theorem run_same (s : MemSt Cert.QkvIdeal.nD Cert.QkvIdeal.τ Cert.QkvIdeal.sig (Elt F)) (Q : PUnit × MemSt Cert.QkvIdeal.nD Cert.QkvIdeal.τ Cert.QkvIdeal.sig (Elt F) → Prop)
    (h : θ_run (Cert.QkvIdeal.defs (F := F)) (onTc (τ := Cert.QkvIdeal.τ) (Cert.QkvIdeal.main (F := F))) s Q) :
    θ_run (Cert.Qkv.defs (F := F)) (onTc (τ := Cert.Qkv.τ) (Cert.Qkv.main (F := F))) s Q :=
  Eq.mpr (congrArg₂ (fun d (p : Dev Cert.QkvIdeal.nD → Prog (TpuEff Cert.QkvIdeal.nD Cert.QkvIdeal.τ Cert.QkvIdeal.sig (Elt F)
    (Pipeline.Sig Cert.QkvIdeal.Λ₀ (Fin 1) fun p => (Cert.QkvIdeal.pcfgs (F := F) p).Adm) .tc) PUnit) => θ_run d (onTc (τ := Cert.QkvIdeal.τ) p) s Q) defs_eq main_eq) h

end Cert.QkvSame
-- ==== Proof.Proj.QkvValue.lean ====
/-
  The attention's input projection at the exact numbers: what a point writes, and the array the launch leaves.
-/
module

public import proofs.«01_k».proof.Proof.Gen.QkvIdeal.Frame
public import Idealize.ShloMosaic.Lib.Pipeline.ValueKit

@[expose] public section

set_option maxRecDepth 16384

noncomputable section

namespace Cert.QkvValue

open Cert.QkvIdeal Cert.QkvIdeal.Gen
open Idealize.ShloMosaic Idealize.ShloMosaic.TcCoe Idealize.SL.Sem

/-- A row over the root of its mean square, scaled. -/
def normAt (x : S49152x1024.Idx → EReal) (g : S1024.Idx → EReal) (r : Fin 49152) (k : Fin 1024) : EReal :=
  x (ix2 r k) * Ideal.rsqrt (Ideal.div (∑ i, x (ix2 r i) * x (ix2 r i)) (Ideal.ofBits .f32 0x44800000#32) + Ideal.ofBits .f32 0x358637BD#32) * g (ix1 k)

/-- The result: the normalised row times the weight. -/
def resultAt (x : S49152x1024.Idx → EReal) (g : S1024.Idx → EReal) (w : S1024x1536.Idx → EReal) (r : Fin 49152) (j : Fin 1536) : EReal :=
  ∑ k, normAt x g r k * w (ix2 k j)

variable (m : (ℓ : Loc nD τ sig) → Buf (Elt Ideal) ℓ)

theorem coords_val : ∀ t : Fin grid0.N, (grid0.coords t 0).val = t.val := by decide +kernel

theorem coord_word (t : Fin grid0.N) : (BitVec.ofNat 32 (grid0.coords t 0).val).toNat = t.val := by
  have : t.val < 96 := t.isLt
  rw [coords_val t, BitVec.toNat_ofNat]; omega

/-- Where an entry of the rows' block lies in its array. -/
theorem rows_place (t : Fin cfg0.N) (b : Fin 96) (hb : t.val = b.val) (r : Fin 512) (k : Fin 1024) :
    (((cfg0.win 0).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- Where an entry of the result's block lies in its array. -/
theorem result_place (t : Fin cfg0.N) (b : Fin 96) (hb : t.val = b.val) (r : Fin 512) (k : Fin 1536) :
    (((cfg0.win 3).blk t).view.emb (ix2 r k) : S49152x1536.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1536 + 1 * k.val = k.val
    simp

/-- The scale's block is its array. -/
theorem scale_place (t : Fin cfg0.N) (i : S1x1024.Idx) :
    (((cfg0.win 1).blk t).view.emb i : S1x1024.Idx) = i := by
  funext a
  apply Fin.ext
  match a with
  | ⟨0, _⟩ =>
    show (0#32).toNat * 1 + 1 * (i 0).val = (i 0).val
    simp
  | ⟨1, _⟩ =>
    show (0#32).toNat * 1024 + 1 * (i 1).val = (i 1).val
    simp

/-- The weight's block is its array. -/
theorem weight_place (t : Fin cfg0.N) (i : S1024x1536.Idx) :
    (((cfg0.win 2).blk t).view.emb i : S1024x1536.Idx) = i := by
  funext a
  apply Fin.ext
  match a with
  | ⟨0, _⟩ =>
    show (0#32).toNat * 1024 + 1 * (i 0).val = (i 0).val
    simp
  | ⟨1, _⟩ =>
    show (0#32).toNat * 1536 + 1 * (i 1).val = (i 1).val
    simp

/-- The rows, the scale and the weight as launched. -/
abbrev rowsIn (c : Dev nD) : S49152x1024.Idx → EReal := m ((c : Thread nD τ).loc main_arg0)
abbrev scaleIn (c : Dev nD) : S1024.Idx → EReal := m ((c : Thread nD τ).loc main_arg1)
abbrev weightIn (c : Dev nD) : S1024x1536.Idx → EReal := m ((c : Thread nD τ).loc main_arg2)

theorem V_scale (c : Dev nD) : V m c main_v0 = (broadcastInDim S1x1024 ![1] bcast_S1024_S1x1024_1 (m ((c : Thread nD τ).loc main_arg1) : FVec Ideal S1024 .f32) : FVec Ideal S1x1024 .f32) := by
  show StableHlo.after (List.flatten [hostOps0]) (fun b => m (c, b)) _ = _
  simp only [List.flatten_cons, List.flatten_nil, List.append_nil, hostOps0, List.cons_append, List.nil_append]
  after_results_simp
theorem V_weight (c : Dev nD) : V m c main_v1 = (truncf .bf16 (m ((c : Thread nD τ).loc main_arg2) : FVec Ideal S1024x1536 .f32) bitsLt_bf16_f32 : FVec Ideal S1024x1536 .bf16) := by
  show StableHlo.after (List.flatten [hostOps0]) (fun b => m (c, b)) _ = _
  simp only [List.flatten_cons, List.flatten_nil, List.append_nil, hostOps0, List.cons_append, List.nil_append]
  after_results_simp

theorem rows_block (c : Dev nD) (t : Fin cfg0.N) (b : Fin 96) (hb : t.val = b.val) (r : Fin 512) (k : Fin 1024) :
    iblk m c 0 t (ix2 r k) = rowsIn m c (ix2 ⟨b.val * 512 + r.val, by omega⟩ k) :=
  (congrArg (V m c main_arg0 : S49152x1024.Idx → EReal) (rows_place t b hb r k)).trans (congrFun (V_main_arg0 m c) _)

theorem scale_block (c : Dev nD) (t : Fin cfg0.N) (k : Fin 1024) : iblk m c 1 t (ix2 (0 : Fin 1) k) = scaleIn m c (ix1 k) := by
  refine ((congrArg (V m c main_v0 : S1x1024.Idx → EReal) (scale_place t (ix2 0 k))).trans (congrFun (V_scale m c) _)).trans ?_
  pointwise

theorem weight_block (c : Dev nD) (t : Fin cfg0.N) (k : Fin 1024) (j : Fin 1536) :
    iblk m c 2 t (ix2 k j) = weightIn m c (ix2 k j) :=
  (congrArg (V m c main_v1 : S1024x1536.Idx → EReal) (weight_place t (ix2 k j))).trans (congrFun (V_weight m c) _)

/-- What a point's body stores, from what its operands read. -/
theorem pay1_of (x : FVec Ideal S512x1024 .f32) (g : FVec Ideal S1x1024 .f32) (w : FVec Ideal S1024x1536 .bf16) (r : Fin 512) (j : Fin 1536)
    (X G W : Fin 1024 → EReal) (hx : ∀ k, x (ix2 r k) = X k) (hg : ∀ k, g (ix2 0 k) = G k) (hw : ∀ k, w (ix2 k j) = W k) :
    k0_pay1 (F := Ideal) x g w (ix2 r j) = ∑ k, X k * Ideal.rsqrt (Ideal.div (∑ i, X i * X i) (Ideal.ofBits .f32 0x44800000#32) + Ideal.ofBits .f32 0x358637BD#32) * G k * W k := by
  pointwise [k0_pay1]
  simp only [hx, hg, hw]

/-- What a point writes back. -/
theorem point_val (c : Dev nD) (t : Fin cfg0.N) (b : Fin 96) (hb : t.val = b.val) (r : Fin 512) (j : Fin 1536) :
    k0_pay1 (F := Ideal) (iblk m c 0 t) (iblk m c 1 t) (iblk m c 2 t) (ix2 r j) = resultAt (rowsIn m c) (scaleIn m c) (weightIn m c) ⟨b.val * 512 + r.val, by omega⟩ j :=
  pay1_of _ _ _ r j _ _ _ (rows_block m c t b hb r) (scale_block m c t) (fun k => weight_block m c t k j)

/-! ## The array the launch leaves -/

/-- The whole result. -/
def resultArr (c : Dev nD) : S49152x1536.Idx → EReal := fun i => resultAt (rowsIn m c) (scaleIn m c) (weightIn m c) (i 0) (i 1)

/-- Every entry of the result lies in some point's block. -/
theorem covered (i : S49152x1536.Idx) : ∃ t : Fin cfg0.N, (cfg0.win 3).flush t = true ∧ i ∈ ((cfg0.win 3).blk t).view.set := by
  have h0 : (i 0).val < 49152 := (i 0).isLt
  have hlt : (i 0).val / 512 < 96 := by omega
  refine ⟨⟨(i 0).val / 512, hlt⟩, flush0_3 _, ?_⟩
  have hp := result_place ⟨(i 0).val / 512, hlt⟩ ⟨(i 0).val / 512, hlt⟩ rfl ⟨(i 0).val % 512, by omega⟩ (i 1)
  have hi : (ix2 ⟨(i 0).val / 512 * 512 + (i 0).val % 512, by omega⟩ (i 1) : S49152x1536.Idx) = i := by
    funext b
    apply Fin.ext
    match b with
    | ⟨0, _⟩ => show (i 0).val / 512 * 512 + (i 0).val % 512 = (i 0).val; omega
    | ⟨1, _⟩ => rfl
  have hm := ((cfg0.win 3).blk ⟨(i 0).val / 512, hlt⟩).view.emb_mem_set (ix2 ⟨(i 0).val % 512, by omega⟩ (i 1) : S512x1536.Idx)
  exact (congrArg (· ∈ ((cfg0.win 3).blk ⟨(i 0).val / 512, hlt⟩).view.set) (hp.trans hi)).mp hm

/-- The array the launch leaves. -/
theorem final (c : Dev nD) : (dats m 0 c).arrAt 3 cfg0.N = resultArr m c := by
  refine (dats m 0 c).arrAt_eq_of_emb 3 (resultArr m c) (fun t hf y => ?_) covered
  obtain ⟨r, j, rfl⟩ : ∃ (r : Fin 512) (j : Fin 1536), y = (ix2 r j : S512x1536.Idx) :=
    ⟨(show S512x1536.Idx from y) 0, (show S512x1536.Idx from y) 1, by funext a; match a with | ⟨0, _⟩ => rfl | ⟨1, _⟩ => rfl⟩
  have ht : t.val < 96 := t.isLt
  refine Eq.trans ?_ (congrArg (resultArr m c) (result_place t ⟨t.val, ht⟩ rfl r j)).symm
  refine Eq.trans ?_ (point_val m c t ⟨t.val, ht⟩ rfl r j)
  show (dats m 0 c).after 3 t (ix2 r j) = _
  rw [after0_3]
  frame_out

/-- The run with its result: every execution leaves the result and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v2) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2.1 c⟩)
    (θ_run_and (run_main m ρ) (frame m ρ))

end Cert.QkvValue

end
-- ==== Proof.Proj.QkvRef.lean ====
/-
  The attention's input projection: the reference's result is the kernel's, entry by entry.
-/
module

public import proofs.«01_k».proof.Proof.Proj.QkvValue
public import proofs.«01_k».proof.Proof.Gen.QkvRefIdeal.Run

@[expose] public section

set_option maxRecDepth 16384

noncomputable section

namespace Cert.QkvRefValue

open Cert.QkvRefIdeal Cert.QkvRefIdeal.Gen
open Idealize.ShloMosaic Idealize.ShloMosaic.TcCoe Idealize.SL.Sem

/-- The normalised rows. -/
def normed (x : FVec Ideal S49152x1024 .f32) (g : FVec Ideal S1024 .f32) : FVec Ideal S49152x1024 .f32 :=
  mulf (mulf x (broadcastInDim S49152x1024 ![0, 1] bcast_S49152x1_S49152x1024_0_1 (Host.rsqrt (addf (Host.divf (broadcastInDim S49152x1 ![0] bcast_S49152_S49152x1_0 (Host.reduceAdd (mulf x x) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 g))

/-- The reference's result. -/
def result (x : FVec Ideal S49152x1024 .f32) (g : FVec Ideal S1024 .f32) (w : FVec Ideal S1024x1536 .f32) : FVec Ideal S49152x1536 .bf16 :=
  truncf .bf16 (Host.dotGeneral dot_S49152x1024_S1024x1536_S49152x1536_1_0_0_1_n_n none (normed x g) w) bitsLt_bf16_f32

theorem normed_apply (x : FVec Ideal S49152x1024 .f32) (g : FVec Ideal S1024 .f32) (r : Fin 49152) (k : Fin 1024) : normed x g (ix2 r k) = QkvValue.normAt x g r k := by
  unfold normed QkvValue.normAt
  pointwise

theorem result_apply (x : FVec Ideal S49152x1024 .f32) (g : FVec Ideal S1024 .f32) (w : FVec Ideal S1024x1536 .f32) (r : Fin 49152) (j : Fin 1536) :
    result x g w (ix2 r j) = QkvValue.resultAt x g w r j := by
  unfold result QkvValue.resultAt
  pointwise
  simp only [← ix2_eq_valueIdx, normed_apply]

/-- The same as an array. -/
theorem result_array (x : FVec Ideal S49152x1024 .f32) (g : FVec Ideal S1024 .f32) (w : FVec Ideal S1024x1536 .f32) : result x g w = fun i => QkvValue.resultAt x g w (i 0) (i 1) := by
  funext i
  have hi : i = ix2 (i 0) (i 1) := by
    funext a
    match a with
    | ⟨0, _⟩ => rfl
    | ⟨1, _⟩ => rfl
  exact (congrArg _ hi).trans (result_apply x g w (i 0) (i 1))

end Cert.QkvRefValue

end
-- ==== Proof.Proj.OddOutSame.lean ====
/-
  The attention's output projection: the printed program and the one read at the reals are one text, so a run of the second is a run of the
  first.
-/
module

public import proofs.«01_k».proof.Proof.Gen.OddOut
public import proofs.«01_k».proof.Proof.Gen.OddOutIdeal
public import Idealize.ShloMosaic.Lib.Tactic

@[expose] public section

set_option maxRecDepth 16384
set_option maxHeartbeats 1000000

namespace Cert.OddOutSame

open Idealize.ShloMosaic Idealize.ShloMosaic.Tactic Idealize.SL.Sem

variable {F : FTy → Type} [FloatOps F]

theorem body_eq : Cert.OddOut.cc0_out_proj (F := F) = Cert.OddOutIdeal.cc0_out_proj (F := F) := by sl_kernel_rfl

theorem bodies_eq : (Cert.OddOut.defs₀ (F := F) : Defs Cert.OddOut.nD Cert.OddOut.τ Cert.OddOut.sig (Elt F) Cert.OddOut.Λ₀) = Cert.OddOutIdeal.defs₀ (F := F) := by
  refine congrArg Defs.onTc ?_
  funext ℓ args
  match ℓ, args with
  | ⟨0, _⟩, (t, s) => rfl

theorem defs_eq : (Cert.OddOut.defs (F := F) : Defs Cert.OddOut.nD Cert.OddOut.τ Cert.OddOut.sig (Elt F) _) = Cert.OddOutIdeal.defs (F := F) :=
  congrArg (fun d => Pipeline.defs (Cert.OddOutIdeal.pcfgs (F := F)) d) bodies_eq

theorem main_at (c : Dev Cert.OddOut.nD) : Cert.OddOut.main (F := F) c = Cert.OddOutIdeal.main (F := F) c := by
  sl_kernel_rfl

theorem main_eq : Cert.OddOut.main (F := F) = Cert.OddOutIdeal.main (F := F) := funext fun c => main_at c

theorem run_same (s : MemSt Cert.OddOutIdeal.nD Cert.OddOutIdeal.τ Cert.OddOutIdeal.sig (Elt F)) (Q : PUnit × MemSt Cert.OddOutIdeal.nD Cert.OddOutIdeal.τ Cert.OddOutIdeal.sig (Elt F) → Prop)
    (h : θ_run (Cert.OddOutIdeal.defs (F := F)) (onTc (τ := Cert.OddOutIdeal.τ) (Cert.OddOutIdeal.main (F := F))) s Q) :
    θ_run (Cert.OddOut.defs (F := F)) (onTc (τ := Cert.OddOut.τ) (Cert.OddOut.main (F := F))) s Q :=
  Eq.mpr (congrArg₂ (fun d (p : Dev Cert.OddOutIdeal.nD → Prog (TpuEff Cert.OddOutIdeal.nD Cert.OddOutIdeal.τ Cert.OddOutIdeal.sig (Elt F)
    (Pipeline.Sig Cert.OddOutIdeal.Λ₀ (Fin 1) fun p => (Cert.OddOutIdeal.pcfgs (F := F) p).Adm) .tc) PUnit) => θ_run d (onTc (τ := Cert.OddOutIdeal.τ) p) s Q) defs_eq main_eq) h

end Cert.OddOutSame
-- ==== Proof.Proj.OddOutValue.lean ====
/-
  The attention's output projection at the exact numbers: what a point writes, and the array the launch leaves.
-/
module

public import proofs.«01_k».proof.Proof.Gen.OddOutIdeal.Frame
public import Idealize.ShloMosaic.Lib.Pipeline.ValueKit

@[expose] public section

set_option maxRecDepth 16384

noncomputable section

namespace Cert.OddOutValue

open Cert.OddOutIdeal Cert.OddOutIdeal.Gen
open Idealize.ShloMosaic Idealize.ShloMosaic.TcCoe Idealize.SL.Sem

/-- The result: the row plus the product of the attention's row with the weight. -/
def resultAt (x : S49152x1024.Idx → EReal) (o : S49152x1024.Idx → EReal) (w : S1024x1024.Idx → EReal) (r : Fin 49152) (j : Fin 1024) : EReal :=
  x (ix2 r j) + ∑ k, o (ix2 r k) * w (ix2 k j)

variable (m : (ℓ : Loc nD τ sig) → Buf (Elt Ideal) ℓ)

theorem coords_val : ∀ t : Fin grid0.N, (grid0.coords t 0).val = t.val := by decide +kernel

theorem coord_word (t : Fin grid0.N) : (BitVec.ofNat 32 (grid0.coords t 0).val).toNat = t.val := by
  have : t.val < 96 := t.isLt
  rw [coords_val t, BitVec.toNat_ofNat]; omega

/-- Where an entry of the residual's block lies in its array. -/
theorem rows_place (t : Fin cfg0.N) (b : Fin 96) (hb : t.val = b.val) (r : Fin 512) (k : Fin 1024) :
    (((cfg0.win 0).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- Where an entry of the attention's block lies in its array. -/
theorem acts_place (t : Fin cfg0.N) (b : Fin 96) (hb : t.val = b.val) (r : Fin 512) (k : Fin 1024) :
    (((cfg0.win 1).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- Where an entry of the result's block lies in its array. -/
theorem result_place (t : Fin cfg0.N) (b : Fin 96) (hb : t.val = b.val) (r : Fin 512) (k : Fin 1024) :
    (((cfg0.win 3).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- The weight's block is its array. -/
theorem weight_place (t : Fin cfg0.N) (i : S1024x1024.Idx) :
    (((cfg0.win 2).blk t).view.emb i : S1024x1024.Idx) = i := by
  funext a
  apply Fin.ext
  match a with
  | ⟨0, _⟩ =>
    show (0#32).toNat * 1024 + 1 * (i 0).val = (i 0).val
    simp
  | ⟨1, _⟩ =>
    show (0#32).toNat * 1024 + 1 * (i 1).val = (i 1).val
    simp

/-- The residual rows, the attention's rows and the weight as launched. -/
abbrev rowsIn (c : Dev nD) : S49152x1024.Idx → EReal := m ((c : Thread nD τ).loc main_arg0)
abbrev actsIn (c : Dev nD) : S49152x1024.Idx → EReal := m ((c : Thread nD τ).loc main_arg1)
abbrev weightIn (c : Dev nD) : S1024x1024.Idx → EReal := m ((c : Thread nD τ).loc main_arg2)

theorem V_weight (c : Dev nD) : V m c main_v0 = (truncf .bf16 (m ((c : Thread nD τ).loc main_arg2) : FVec Ideal S1024x1024 .f32) bitsLt_bf16_f32 : FVec Ideal S1024x1024 .bf16) := by
  show StableHlo.after (List.flatten [hostOps0]) (fun b => m (c, b)) _ = _
  simp only [List.flatten_cons, List.flatten_nil, List.append_nil, hostOps0, List.cons_append, List.nil_append]
  after_results_simp

theorem rows_block (c : Dev nD) (t : Fin cfg0.N) (b : Fin 96) (hb : t.val = b.val) (r : Fin 512) (k : Fin 1024) :
    iblk m c 0 t (ix2 r k) = rowsIn m c (ix2 ⟨b.val * 512 + r.val, by omega⟩ k) :=
  (congrArg (V m c main_arg0 : S49152x1024.Idx → EReal) (rows_place t b hb r k)).trans (congrFun (V_main_arg0 m c) _)

theorem acts_block (c : Dev nD) (t : Fin cfg0.N) (b : Fin 96) (hb : t.val = b.val) (r : Fin 512) (k : Fin 1024) :
    iblk m c 1 t (ix2 r k) = actsIn m c (ix2 ⟨b.val * 512 + r.val, by omega⟩ k) :=
  (congrArg (V m c main_arg1 : S49152x1024.Idx → EReal) (acts_place t b hb r k)).trans (congrFun (V_main_arg1 m c) _)

theorem weight_block (c : Dev nD) (t : Fin cfg0.N) (k j : Fin 1024) :
    iblk m c 2 t (ix2 k j) = weightIn m c (ix2 k j) :=
  (congrArg (V m c main_v0 : S1024x1024.Idx → EReal) (weight_place t (ix2 k j))).trans (congrFun (V_weight m c) _)

/-- What a point's body stores, from what its operands read. -/
theorem pay1_of (x : FVec Ideal S512x1024 .f32) (o : FVec Ideal S512x1024 .bf16) (w : FVec Ideal S1024x1024 .bf16) (r : Fin 512) (j : Fin 1024)
    (X : EReal) (O W : Fin 1024 → EReal) (hx : x (ix2 r j) = X) (ho : ∀ k, o (ix2 r k) = O k) (hw : ∀ k, w (ix2 k j) = W k) :
    k0_pay1 (F := Ideal) x o w (ix2 r j) = X + ∑ k, O k * W k := by
  pointwise [k0_pay1]
  simp only [hx, ho, hw]

/-- What a point writes back. -/
theorem point_val (c : Dev nD) (t : Fin cfg0.N) (b : Fin 96) (hb : t.val = b.val) (r : Fin 512) (j : Fin 1024) :
    k0_pay1 (F := Ideal) (iblk m c 0 t) (iblk m c 1 t) (iblk m c 2 t) (ix2 r j) = resultAt (rowsIn m c) (actsIn m c) (weightIn m c) ⟨b.val * 512 + r.val, by omega⟩ j :=
  pay1_of _ _ _ r j _ _ _ (rows_block m c t b hb r j) (acts_block m c t b hb r) (fun k => weight_block m c t k j)

/-! ## The array the launch leaves -/

/-- The whole result. -/
def resultArr (c : Dev nD) : S49152x1024.Idx → EReal := fun i => resultAt (rowsIn m c) (actsIn m c) (weightIn m c) (i 0) (i 1)

/-- Every entry of the result lies in some point's block. -/
theorem covered (i : S49152x1024.Idx) : ∃ t : Fin cfg0.N, (cfg0.win 3).flush t = true ∧ i ∈ ((cfg0.win 3).blk t).view.set := by
  have h0 : (i 0).val < 49152 := (i 0).isLt
  have hlt : (i 0).val / 512 < 96 := by omega
  refine ⟨⟨(i 0).val / 512, hlt⟩, flush0_3 _, ?_⟩
  have hp := result_place ⟨(i 0).val / 512, hlt⟩ ⟨(i 0).val / 512, hlt⟩ rfl ⟨(i 0).val % 512, by omega⟩ (i 1)
  have hi : (ix2 ⟨(i 0).val / 512 * 512 + (i 0).val % 512, by omega⟩ (i 1) : S49152x1024.Idx) = i := by
    funext b
    apply Fin.ext
    match b with
    | ⟨0, _⟩ => show (i 0).val / 512 * 512 + (i 0).val % 512 = (i 0).val; omega
    | ⟨1, _⟩ => rfl
  have hm := ((cfg0.win 3).blk ⟨(i 0).val / 512, hlt⟩).view.emb_mem_set (ix2 ⟨(i 0).val % 512, by omega⟩ (i 1) : S512x1024.Idx)
  exact (congrArg (· ∈ ((cfg0.win 3).blk ⟨(i 0).val / 512, hlt⟩).view.set) (hp.trans hi)).mp hm

/-- The array the launch leaves. -/
theorem final (c : Dev nD) : (dats m 0 c).arrAt 3 cfg0.N = resultArr m c := by
  refine (dats m 0 c).arrAt_eq_of_emb 3 (resultArr m c) (fun t hf y => ?_) covered
  obtain ⟨r, j, rfl⟩ : ∃ (r : Fin 512) (j : Fin 1024), y = (ix2 r j : S512x1024.Idx) :=
    ⟨(show S512x1024.Idx from y) 0, (show S512x1024.Idx from y) 1, by funext a; match a with | ⟨0, _⟩ => rfl | ⟨1, _⟩ => rfl⟩
  have ht : t.val < 96 := t.isLt
  refine Eq.trans ?_ (congrArg (resultArr m c) (result_place t ⟨t.val, ht⟩ rfl r j)).symm
  refine Eq.trans ?_ (point_val m c t ⟨t.val, ht⟩ rfl r j)
  show (dats m 0 c).after 3 t (ix2 r j) = _
  rw [after0_3]
  frame_out

/-- The run with its result: every execution leaves the result and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2.1 c⟩)
    (θ_run_and (run_main m ρ) (frame m ρ))

end Cert.OddOutValue

end
-- ==== Proof.Proj.OddOutRef.lean ====
/-
  The attention's output projection: the reference's result is the kernel's, entry by entry.
-/
module

public import proofs.«01_k».proof.Proof.Proj.OddOutValue
public import proofs.«01_k».proof.Proof.Gen.OddOutRefIdeal.Run

@[expose] public section

set_option maxRecDepth 16384

noncomputable section

namespace Cert.OddOutRefValue

open Cert.OddOutRefIdeal Cert.OddOutRefIdeal.Gen
open Idealize.ShloMosaic Idealize.ShloMosaic.TcCoe Idealize.SL.Sem

/-- The reference's result. -/
def result (x : FVec Ideal S49152x1024 .f32) (o : FVec Ideal S49152x1024 .bf16) (w : FVec Ideal S1024x1024 .f32) : FVec Ideal S49152x1024 .f32 :=
  addf x (Host.dotGeneral dot_S49152x1024_S1024x1024_S49152x1024_1_0_0_1_n_n none (extf .f32 o bitsLt_bf16_f32) w)

theorem result_apply (x : FVec Ideal S49152x1024 .f32) (o : FVec Ideal S49152x1024 .bf16) (w : FVec Ideal S1024x1024 .f32) (r : Fin 49152) (j : Fin 1024) :
    result x o w (ix2 r j) = OddOutValue.resultAt x o w r j := by
  unfold result OddOutValue.resultAt
  pointwise

/-- The same as an array. -/
theorem result_array (x : FVec Ideal S49152x1024 .f32) (o : FVec Ideal S49152x1024 .bf16) (w : FVec Ideal S1024x1024 .f32) : result x o w = fun i => OddOutValue.resultAt x o w (i 0) (i 1) := by
  funext i
  have hi : i = ix2 (i 0) (i 1) := by
    funext a
    match a with
    | ⟨0, _⟩ => rfl
    | ⟨1, _⟩ => rfl
  exact (congrArg _ hi).trans (result_apply x o w (i 0) (i 1))

end Cert.OddOutRefValue

end
-- ==== Proof.Proj.EvenOutSame.lean ====
/-
  The even layer's output projection: the printed program and the one read at the reals are one text, so a run of the second is a run of the
  first.
-/
module

public import proofs.«01_k».proof.Proof.Gen.EvenOut
public import proofs.«01_k».proof.Proof.Gen.EvenOutIdeal
public import Idealize.ShloMosaic.Lib.Tactic

@[expose] public section

set_option maxRecDepth 16384
set_option maxHeartbeats 1000000

namespace Cert.EvenOutSame

open Idealize.ShloMosaic Idealize.ShloMosaic.Tactic Idealize.SL.Sem

variable {F : FTy → Type} [FloatOps F]

theorem body_eq : Cert.EvenOut.cc0_out_proj (F := F) = Cert.EvenOutIdeal.cc0_out_proj (F := F) := by sl_kernel_rfl

theorem bodies_eq : (Cert.EvenOut.defs₀ (F := F) : Defs Cert.EvenOut.nD Cert.EvenOut.τ Cert.EvenOut.sig (Elt F) Cert.EvenOut.Λ₀) = Cert.EvenOutIdeal.defs₀ (F := F) := by
  refine congrArg Defs.onTc ?_
  funext ℓ args
  match ℓ, args with
  | ⟨0, _⟩, (t, s) => rfl

theorem defs_eq : (Cert.EvenOut.defs (F := F) : Defs Cert.EvenOut.nD Cert.EvenOut.τ Cert.EvenOut.sig (Elt F) _) = Cert.EvenOutIdeal.defs (F := F) :=
  congrArg (fun d => Pipeline.defs (Cert.EvenOutIdeal.pcfgs (F := F)) d) bodies_eq

theorem main_at (c : Dev Cert.EvenOut.nD) : Cert.EvenOut.main (F := F) c = Cert.EvenOutIdeal.main (F := F) c := by
  sl_kernel_rfl

theorem main_eq : Cert.EvenOut.main (F := F) = Cert.EvenOutIdeal.main (F := F) := funext fun c => main_at c

theorem run_same (s : MemSt Cert.EvenOutIdeal.nD Cert.EvenOutIdeal.τ Cert.EvenOutIdeal.sig (Elt F)) (Q : PUnit × MemSt Cert.EvenOutIdeal.nD Cert.EvenOutIdeal.τ Cert.EvenOutIdeal.sig (Elt F) → Prop)
    (h : θ_run (Cert.EvenOutIdeal.defs (F := F)) (onTc (τ := Cert.EvenOutIdeal.τ) (Cert.EvenOutIdeal.main (F := F))) s Q) :
    θ_run (Cert.EvenOut.defs (F := F)) (onTc (τ := Cert.EvenOut.τ) (Cert.EvenOut.main (F := F))) s Q :=
  Eq.mpr (congrArg₂ (fun d (p : Dev Cert.EvenOutIdeal.nD → Prog (TpuEff Cert.EvenOutIdeal.nD Cert.EvenOutIdeal.τ Cert.EvenOutIdeal.sig (Elt F)
    (Pipeline.Sig Cert.EvenOutIdeal.Λ₀ (Fin 1) fun p => (Cert.EvenOutIdeal.pcfgs (F := F) p).Adm) .tc) PUnit) => θ_run d (onTc (τ := Cert.EvenOutIdeal.τ) p) s Q) defs_eq main_eq) h

end Cert.EvenOutSame
-- ==== Proof.Proj.EvenOutValue.lean ====
/-
  The even layer's output projection at the exact numbers: what a point writes, and the array the launch leaves.
-/
module

public import proofs.«01_k».proof.Proof.Gen.EvenOutIdeal.Frame
public import Idealize.ShloMosaic.Lib.Pipeline.ValueKit

@[expose] public section

set_option maxRecDepth 16384

noncomputable section

namespace Cert.EvenOutValue

open Cert.EvenOutIdeal Cert.EvenOutIdeal.Gen
open Idealize.ShloMosaic Idealize.ShloMosaic.TcCoe Idealize.SL.Sem

/-- The result: the row plus the products of the two mixers' rows with the two halves of the weight. -/
def resultAt (x : S49152x1024.Idx → EReal) (ya yb : S49152x512.Idx → EReal) (w : S1024x1024.Idx → EReal) (r : Fin 49152) (j : Fin 1024) : EReal :=
  x (ix2 r j) + ((∑ k : Fin 512, ya (ix2 r k) * w (ix2 ⟨k.val, by omega⟩ j)) + ∑ k : Fin 512, yb (ix2 r k) * w (ix2 ⟨512 + k.val, by omega⟩ j))

variable (m : (ℓ : Loc nD τ sig) → Buf (Elt Ideal) ℓ)

theorem coords_val : ∀ t : Fin grid0.N, (grid0.coords t 0).val = t.val := by decide +kernel

theorem coord_word (t : Fin grid0.N) : (BitVec.ofNat 32 (grid0.coords t 0).val).toNat = t.val := by
  have : t.val < 96 := t.isLt
  rw [coords_val t, BitVec.toNat_ofNat]; omega

/-- Where an entry of the residual's block lies in its array. -/
theorem rows_place (t : Fin cfg0.N) (b : Fin 96) (hb : t.val = b.val) (r : Fin 512) (k : Fin 1024) :
    (((cfg0.win 0).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- Where an entry of the first mixer's block lies in its array. -/
theorem first_place (t : Fin cfg0.N) (b : Fin 96) (hb : t.val = b.val) (r : Fin 512) (k : Fin 512) :
    (((cfg0.win 1).blk t).view.emb (ix2 r k) : S49152x512.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 512 + 1 * k.val = k.val
    simp

/-- Where an entry of the second mixer's block lies in its array. -/
theorem second_place (t : Fin cfg0.N) (b : Fin 96) (hb : t.val = b.val) (r : Fin 512) (k : Fin 512) :
    (((cfg0.win 2).blk t).view.emb (ix2 r k) : S49152x512.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 512 + 1 * k.val = k.val
    simp

/-- Where an entry of the result's block lies in its array. -/
theorem result_place (t : Fin cfg0.N) (b : Fin 96) (hb : t.val = b.val) (r : Fin 512) (k : Fin 1024) :
    (((cfg0.win 5).blk t).view.emb (ix2 r k) : S49152x1024.Idx) = ix2 ⟨b.val * 512 + r.val, by omega⟩ k := by
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

/-- The weight's upper block is its array. -/
theorem upper_place (t : Fin cfg0.N) (i : S512x1024.Idx) :
    (((cfg0.win 3).blk t).view.emb i : S512x1024.Idx) = i := by
  funext a
  apply Fin.ext
  match a with
  | ⟨0, _⟩ =>
    show (0#32).toNat * 512 + 1 * (i 0).val = (i 0).val
    simp
  | ⟨1, _⟩ =>
    show (0#32).toNat * 1024 + 1 * (i 1).val = (i 1).val
    simp

/-- The weight's lower block is its array. -/
theorem lower_place (t : Fin cfg0.N) (i : S512x1024.Idx) :
    (((cfg0.win 4).blk t).view.emb i : S512x1024.Idx) = i := by
  funext a
  apply Fin.ext
  match a with
  | ⟨0, _⟩ =>
    show (0#32).toNat * 512 + 1 * (i 0).val = (i 0).val
    simp
  | ⟨1, _⟩ =>
    show (0#32).toNat * 1024 + 1 * (i 1).val = (i 1).val
    simp

/-- The residual rows, the two mixers' rows and the weight as launched. -/
abbrev rowsIn (c : Dev nD) : S49152x1024.Idx → EReal := m ((c : Thread nD τ).loc main_arg0)
abbrev firstIn (c : Dev nD) : S49152x512.Idx → EReal := m ((c : Thread nD τ).loc main_arg1)
abbrev secondIn (c : Dev nD) : S49152x512.Idx → EReal := m ((c : Thread nD τ).loc main_arg2)
abbrev weightIn (c : Dev nD) : S1024x1024.Idx → EReal := m ((c : Thread nD τ).loc main_arg3)

theorem V_upper (c : Dev nD) : V m c main_v1 = (extractStridedSlice S512x1024 ![0, 0] (truncf .bf16 (m ((c : Thread nD τ).loc main_arg3) : FVec Ideal S1024x1024 .f32) bitsLt_bf16_f32 : FVec Ideal S1024x1024 .bf16) slices_S1024x1024_S512x1024_0_0 : FVec Ideal S512x1024 .bf16) := by
  show StableHlo.after (List.flatten [hostOps0]) (fun b => m (c, b)) _ = _
  simp only [List.flatten_cons, List.flatten_nil, List.append_nil, hostOps0, List.cons_append, List.nil_append]
  after_results_simp
theorem V_lower (c : Dev nD) : V m c main_v2 = (extractStridedSlice S512x1024 ![512, 0] (truncf .bf16 (m ((c : Thread nD τ).loc main_arg3) : FVec Ideal S1024x1024 .f32) bitsLt_bf16_f32 : FVec Ideal S1024x1024 .bf16) slices_S1024x1024_S512x1024_512_0 : FVec Ideal S512x1024 .bf16) := by
  show StableHlo.after (List.flatten [hostOps0]) (fun b => m (c, b)) _ = _
  simp only [List.flatten_cons, List.flatten_nil, List.append_nil, hostOps0, List.cons_append, List.nil_append]
  after_results_simp

theorem rows_block (c : Dev nD) (t : Fin cfg0.N) (b : Fin 96) (hb : t.val = b.val) (r : Fin 512) (k : Fin 1024) :
    iblk m c 0 t (ix2 r k) = rowsIn m c (ix2 ⟨b.val * 512 + r.val, by omega⟩ k) :=
  (congrArg (V m c main_arg0 : S49152x1024.Idx → EReal) (rows_place t b hb r k)).trans (congrFun (V_main_arg0 m c) _)

theorem first_block (c : Dev nD) (t : Fin cfg0.N) (b : Fin 96) (hb : t.val = b.val) (r k : Fin 512) :
    iblk m c 1 t (ix2 r k) = firstIn m c (ix2 ⟨b.val * 512 + r.val, by omega⟩ k) :=
  (congrArg (V m c main_arg1 : S49152x512.Idx → EReal) (first_place t b hb r k)).trans (congrFun (V_main_arg1 m c) _)

theorem second_block (c : Dev nD) (t : Fin cfg0.N) (b : Fin 96) (hb : t.val = b.val) (r k : Fin 512) :
    iblk m c 2 t (ix2 r k) = secondIn m c (ix2 ⟨b.val * 512 + r.val, by omega⟩ k) :=
  (congrArg (V m c main_arg2 : S49152x512.Idx → EReal) (second_place t b hb r k)).trans (congrFun (V_main_arg2 m c) _)

theorem upper_block (c : Dev nD) (t : Fin cfg0.N) (k : Fin 512) (j : Fin 1024) :
    iblk m c 3 t (ix2 k j) = weightIn m c (ix2 ⟨k.val, by omega⟩ j) := by
  refine ((congrArg (V m c main_v1 : S512x1024.Idx → EReal) (upper_place t (ix2 k j))).trans (congrFun (V_upper m c) _)).trans ?_
  pointwise

theorem lower_block (c : Dev nD) (t : Fin cfg0.N) (k : Fin 512) (j : Fin 1024) :
    iblk m c 4 t (ix2 k j) = weightIn m c (ix2 ⟨512 + k.val, by omega⟩ j) := by
  refine ((congrArg (V m c main_v2 : S512x1024.Idx → EReal) (lower_place t (ix2 k j))).trans (congrFun (V_lower m c) _)).trans ?_
  pointwise

/-- What a point's body stores, from what its operands read. -/
theorem pay1_of (x : FVec Ideal S512x1024 .f32) (p : FVec Ideal S512x512 .bf16) (wp : FVec Ideal S512x1024 .bf16) (q : FVec Ideal S512x512 .f32) (wq : FVec Ideal S512x1024 .bf16)
    (r : Fin 512) (j : Fin 1024) (X : EReal) (P WP Q WQ : Fin 512 → EReal) (hx : x (ix2 r j) = X) (hp : ∀ k, p (ix2 r k) = P k) (hwp : ∀ k, wp (ix2 k j) = WP k)
    (hq : ∀ k, q (ix2 r k) = Q k) (hwq : ∀ k, wq (ix2 k j) = WQ k) :
    k0_pay1 (F := Ideal) x p wp q wq (ix2 r j) = X + ((∑ k, P k * WP k) + ∑ k, Q k * WQ k) := by
  pointwise [k0_pay1]
  simp only [hx, hp, hwp, hq, hwq, add_assoc]

/-- What a point writes back. -/
theorem point_val (c : Dev nD) (t : Fin cfg0.N) (b : Fin 96) (hb : t.val = b.val) (r : Fin 512) (j : Fin 1024) :
    k0_pay1 (F := Ideal) (iblk m c 0 t) (iblk m c 1 t) (iblk m c 3 t) (iblk m c 2 t) (iblk m c 4 t) (ix2 r j)
      = resultAt (rowsIn m c) (firstIn m c) (secondIn m c) (weightIn m c) ⟨b.val * 512 + r.val, by omega⟩ j :=
  pay1_of _ _ _ _ _ r j _ _ _ _ _ (rows_block m c t b hb r j) (first_block m c t b hb r) (fun k => upper_block m c t k j) (second_block m c t b hb r) (fun k => lower_block m c t k j)

/-! ## The array the launch leaves -/

/-- The whole result. -/
def resultArr (c : Dev nD) : S49152x1024.Idx → EReal := fun i => resultAt (rowsIn m c) (firstIn m c) (secondIn m c) (weightIn m c) (i 0) (i 1)

/-- Every entry of the result lies in some point's block. -/
theorem covered (i : S49152x1024.Idx) : ∃ t : Fin cfg0.N, (cfg0.win 5).flush t = true ∧ i ∈ ((cfg0.win 5).blk t).view.set := by
  have h0 : (i 0).val < 49152 := (i 0).isLt
  have hlt : (i 0).val / 512 < 96 := by omega
  refine ⟨⟨(i 0).val / 512, hlt⟩, flush0_5 _, ?_⟩
  have hp := result_place ⟨(i 0).val / 512, hlt⟩ ⟨(i 0).val / 512, hlt⟩ rfl ⟨(i 0).val % 512, by omega⟩ (i 1)
  have hi : (ix2 ⟨(i 0).val / 512 * 512 + (i 0).val % 512, by omega⟩ (i 1) : S49152x1024.Idx) = i := by
    funext b
    apply Fin.ext
    match b with
    | ⟨0, _⟩ => show (i 0).val / 512 * 512 + (i 0).val % 512 = (i 0).val; omega
    | ⟨1, _⟩ => rfl
  have hm := ((cfg0.win 5).blk ⟨(i 0).val / 512, hlt⟩).view.emb_mem_set (ix2 ⟨(i 0).val % 512, by omega⟩ (i 1) : S512x1024.Idx)
  exact (congrArg (· ∈ ((cfg0.win 5).blk ⟨(i 0).val / 512, hlt⟩).view.set) (hp.trans hi)).mp hm

/-- The array the launch leaves. -/
theorem final (c : Dev nD) : (dats m 0 c).arrAt 5 cfg0.N = resultArr m c := by
  refine (dats m 0 c).arrAt_eq_of_emb 5 (resultArr m c) (fun t hf y => ?_) covered
  obtain ⟨r, j, rfl⟩ : ∃ (r : Fin 512) (j : Fin 1024), y = (ix2 r j : S512x1024.Idx) :=
    ⟨(show S512x1024.Idx from y) 0, (show S512x1024.Idx from y) 1, by funext a; match a with | ⟨0, _⟩ => rfl | ⟨1, _⟩ => rfl⟩
  have ht : t.val < 96 := t.isLt
  refine Eq.trans ?_ (congrArg (resultArr m c) (result_place t ⟨t.val, ht⟩ rfl r j)).symm
  refine Eq.trans ?_ (point_val m c t ⟨t.val, ht⟩ rfl r j)
  show (dats m 0 c).after 5 t (ix2 r j) = _
  rw [after0_5]
  frame_out

/-- The run with its result: every execution leaves the result and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v3) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final m c), h.2.1 c⟩)
    (θ_run_and (run_main m ρ) (frame m ρ))

end Cert.EvenOutValue

end
-- ==== Proof.Proj.EvenOutRef.lean ====
/-
  The even layer's output projection: the reference's result is the kernel's, entry by entry.
-/
module

public import proofs.«01_k».proof.Proof.Proj.EvenOutValue
public import proofs.«01_k».proof.Proof.Gen.EvenOutRefIdeal.Run

@[expose] public section

set_option maxRecDepth 16384

noncomputable section

namespace Cert.EvenOutRefValue

open Cert.EvenOutRefIdeal Cert.EvenOutRefIdeal.Gen
open Idealize.ShloMosaic Idealize.ShloMosaic.TcCoe Idealize.SL.Sem

/-- The two mixers' rows side by side. -/
def joined (ya : FVec Ideal S49152x512 .bf16) (yb : FVec Ideal S49152x512 .f32) : FVec Ideal S49152x1024 .f32 :=
  concatenate S49152x1024 1 [⟨S49152x512, (extf .f32 ya bitsLt_bf16_f32)⟩, ⟨S49152x512, yb⟩] concatenates_S49152x512_S49152x512_S49152x1024_d1

/-- The reference's result. -/
def result (x : FVec Ideal S49152x1024 .f32) (ya : FVec Ideal S49152x512 .bf16) (yb : FVec Ideal S49152x512 .f32) (w : FVec Ideal S1024x1024 .f32) : FVec Ideal S49152x1024 .f32 :=
  addf x (Host.dotGeneral dot_S49152x1024_S1024x1024_S49152x1024_1_0_0_1_n_n none (joined ya yb) w)

theorem joined_apply (ya : FVec Ideal S49152x512 .bf16) (yb : FVec Ideal S49152x512 .f32) (r : Fin 49152) (k : Fin 1024) :
    joined ya yb (ix2 r k) = if h : k.val < 512 then ya (ix2 r ⟨k.val, h⟩) else yb (ix2 r ⟨k.val - 512, by omega⟩) := by
  unfold joined
  pointwise

theorem result_apply (x : FVec Ideal S49152x1024 .f32) (ya : FVec Ideal S49152x512 .bf16) (yb : FVec Ideal S49152x512 .f32) (w : FVec Ideal S1024x1024 .f32) (r : Fin 49152) (j : Fin 1024) :
    result x ya yb w (ix2 r j) = EvenOutValue.resultAt x ya yb w r j := by
  unfold result EvenOutValue.resultAt
  pointwise
  simp only [← ix2_eq_valueIdx, joined_apply]
  refine congrArg _ ((Fin.sum_univ_two_halves 512 512 rfl _).trans (congrArg₂ _ (Finset.sum_congr rfl fun k _ => ?_) (Finset.sum_congr rfl fun k _ => ?_)))
  · rw [dif_pos k.isLt]
  · rw [dif_neg (show ¬(512 + k.val < 512) by omega)]
    refine congrArg (· * _) (congrArg yb (congrArg (ix2 r) (Fin.ext ?_)))
    show 512 + k.val - 512 = k.val
    omega

/-- The same as an array. -/
theorem result_array (x : FVec Ideal S49152x1024 .f32) (ya : FVec Ideal S49152x512 .bf16) (yb : FVec Ideal S49152x512 .f32) (w : FVec Ideal S1024x1024 .f32) : result x ya yb w = fun i => EvenOutValue.resultAt x ya yb w (i 0) (i 1) := by
  funext i
  have hi : i = ix2 (i 0) (i 1) := by
    funext a
    match a with
    | ⟨0, _⟩ => rfl
    | ⟨1, _⟩ => rfl
  exact (congrArg _ hi).trans (result_apply x ya yb w (i 0) (i 1))

end Cert.EvenOutRefValue

end
-- ==== Proof.Ffn.Same.lean ====
/-
  The feed-forward program and the one read at the reals are one text: a run of the second is a run of the first.
-/
module

public import proofs.«01_k».proof.Proof.Gen.Ffn
public import proofs.«01_k».proof.Proof.Gen.FfnIdeal
public import Idealize.ShloMosaic.Lib.Tactic

@[expose] public section

set_option maxRecDepth 16384
set_option maxHeartbeats 1000000

namespace Cert.FfnSame

open Idealize.ShloMosaic Idealize.ShloMosaic.Tactic Idealize.SL.Sem

variable {F : FTy → Type} [FloatOps F]

theorem body_eq : Cert.Ffn.cc0_ffn_swiglu (F := F) = Cert.FfnIdeal.cc0_ffn_swiglu (F := F) := by sl_kernel_rfl

theorem bodies_eq : (Cert.Ffn.defs₀ (F := F) : Defs Cert.Ffn.nD Cert.Ffn.τ Cert.Ffn.sig (Elt F) Cert.Ffn.Λ₀) = Cert.FfnIdeal.defs₀ (F := F) := by
  refine congrArg Defs.onTc ?_
  funext ℓ args
  match ℓ, args with
  | ⟨0, _⟩, (t, s) => rfl

theorem defs_eq : (Cert.Ffn.defs (F := F) : Defs Cert.Ffn.nD Cert.Ffn.τ Cert.Ffn.sig (Elt F) _) = Cert.FfnIdeal.defs (F := F) :=
  congrArg (fun d => Pipeline.defs (Cert.FfnIdeal.pcfgs (F := F)) d) bodies_eq

theorem main_at (c : Dev Cert.Ffn.nD) : Cert.Ffn.main (F := F) c = Cert.FfnIdeal.main (F := F) c := by
  sl_kernel_rfl

theorem main_eq : Cert.Ffn.main (F := F) = Cert.FfnIdeal.main (F := F) := funext fun c => main_at c

theorem run_same (s : MemSt Cert.FfnIdeal.nD Cert.FfnIdeal.τ Cert.FfnIdeal.sig (Elt F)) (Q : PUnit × MemSt Cert.FfnIdeal.nD Cert.FfnIdeal.τ Cert.FfnIdeal.sig (Elt F) → Prop)
    (h : θ_run (Cert.FfnIdeal.defs (F := F)) (onTc (τ := Cert.FfnIdeal.τ) (Cert.FfnIdeal.main (F := F))) s Q) :
    θ_run (Cert.Ffn.defs (F := F)) (onTc (τ := Cert.Ffn.τ) (Cert.Ffn.main (F := F))) s Q :=
  Eq.mpr (congrArg₂ (fun d (p : Dev Cert.FfnIdeal.nD → Prog (TpuEff Cert.FfnIdeal.nD Cert.FfnIdeal.τ Cert.FfnIdeal.sig (Elt F)
    (Pipeline.Sig Cert.FfnIdeal.Λ₀ (Fin 1) fun p => (Cert.FfnIdeal.pcfgs (F := F) p).Adm) .tc) PUnit) => θ_run d (onTc (τ := Cert.FfnIdeal.τ) p) s Q) defs_eq main_eq) h

end Cert.FfnSame
-- ==== Proof.Ffn.Spec.lean ====
/-
  The feed-forward block at the exact numbers, entry by entry: each row divided by the root of its mean square and scaled, two
  products with the first-layer weights, one of them gated, and the product with the second-layer weight added to the row.
-/
module

public import proofs.«01_k».proof.Proof.Gen.FfnIdeal
public import Idealize.ShloMosaic.Lib.Pointwise

@[expose] public section

noncomputable section

namespace Cert.FfnValue

open Cert.FfnIdeal
open Idealize.ShloMosaic

/-- A row over the root of its mean square, scaled. -/
def normAt (x : S49152x1024.Idx → EReal) (g : S1024.Idx → EReal) (r : Fin 49152) (k : Fin 1024) : EReal :=
  x (ix2 r k) * Ideal.rsqrt (Ideal.div (∑ i, x (ix2 r i) * x (ix2 r i)) (Ideal.ofBits .f32 0x44800000#32) + Ideal.ofBits .f32 0x358637BD#32) * g (ix1 k)

/-- A hidden number. -/
def hiddenAt (x : S49152x1024.Idx → EReal) (g : S1024.Idx → EReal) (wg wu : S1024x2816.Idx → EReal) (r : Fin 49152) (f : Fin 2816) : EReal :=
  (∑ k, normAt x g r k * wg (ix2 k f)) * Ideal.logistic (∑ k, normAt x g r k * wg (ix2 k f)) * ∑ k, normAt x g r k * wu (ix2 k f)

/-- The result. -/
def resultAt (x : S49152x1024.Idx → EReal) (g : S1024.Idx → EReal) (wg wu : S1024x2816.Idx → EReal) (wd : S2816x1024.Idx → EReal) (r : Fin 49152) (j : Fin 1024) : EReal :=
  x (ix2 r j) + ∑ f, hiddenAt x g wg wu r f * wd (ix2 f j)

end Cert.FfnValue

end
-- ==== Proof.Ffn.Value.lean ====
/-
  The feed-forward kernel at the exact numbers: what the two points of a block leave, and the array the launch leaves.
-/
module

public import proofs.«01_k».proof.Proof.Ffn.Spec
public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnValue

open Cert.FfnIdeal Cert.FfnIdeal.Gen
open Idealize.ShloMosaic Idealize.ShloMosaic.TcCoe Idealize.SL.Sem

variable (m : (ℓ : Loc nD τ sig) → Buf (Elt Ideal) ℓ)

/-! ## The body's stores -/

/-- What a block's first point keeps of its rows, from what its operands read. -/
theorem pay1_of (x : FVec Ideal S512x1024 .f32) (g : FVec Ideal S1x1024 .f32) (r : Fin 512) (X G : Fin 1024 → EReal)
    (hx : ∀ k, x (ix2 r k) = X k) (hg : ∀ k, g (ix2 0 k) = G k) (k : Fin 1024) :
    k0_pay1 (F := Ideal) x g (ix2 r k) = X k * Ideal.rsqrt (Ideal.div (∑ i, X i * X i) (Ideal.ofBits .f32 0x44800000#32) + Ideal.ofBits .f32 0x358637BD#32) * G k := by
  pointwise [k0_pay1]
  simp only [hx, hg]

theorem pay2_apply (x : FVec Ideal S512x1024 .f32) (r : Fin 512) (k : Fin 1024) :
    k0_pay2 (F := Ideal) x (ix2 r k) = x (ix2 r k) := by
  pointwise [k0_pay2]

/-- What a point adds to the block's sum, from what its operands read. -/
theorem pay3_of (h : FVec Ideal S512x1024 .bf16) (wg wu : FVec Ideal S1024x1408 .bf16) (acc : FVec Ideal S512x1024 .f32) (wd : FVec Ideal S1408x1024 .bf16)
    (r : Fin 512) (j : Fin 1024) (A : EReal) (H : Fin 1024 → EReal) (G U : Fin 1024 → Fin 1408 → EReal) (D : Fin 1408 → EReal) (ha : acc (ix2 r j) = A)
    (hh : ∀ k, h (ix2 r k) = H k) (hg : ∀ k f, wg (ix2 k f) = G k f) (hu : ∀ k f, wu (ix2 k f) = U k f) (hd : ∀ f, wd (ix2 f j) = D f) :
    k0_pay3 (F := Ideal) h wg wu acc wd (ix2 r j) = A + ∑ f, ((∑ k, H k * G k f) * Ideal.logistic (∑ k, H k * G k f) * ∑ k, H k * U k f) * D f := by
  have e : k0_pay3 (F := Ideal) h wg wu acc wd (ix2 r j) = acc (ix2 r j) + ∑ f, ((∑ k, h (ix2 r k) * wg (ix2 k f)) * Ideal.logistic (∑ k, h (ix2 r k) * wg (ix2 k f))
      * ∑ k, h (ix2 r k) * wu (ix2 k f)) * wd (ix2 f j) := by
    pointwise [k0_pay3]
  rw [e]
  simp only [ha, hh, hg, hu, hd]

/-! ## What the points leave -/

theorem even_norm (c : Dev nD) (t : Fin cfg0.N) (h0 : t.val % 2 = 0) (h1 : ¬t.val % 2 = 1) :
    (outsAt0 m c t.val t.isLt).2.1 = k0_pay1 (iblk m c 0 t) (iblk m c 1 t) := by
  rw [outsAt0_A m c t h0 h1]
  frame_out

theorem even_acc (c : Dev nD) (t : Fin cfg0.N) (h0 : t.val % 2 = 0) (h1 : ¬t.val % 2 = 1) :
    (outsAt0 m c t.val t.isLt).2.2 = k0_pay3 (k0_pay1 (iblk m c 0 t) (iblk m c 1 t)) (iblk m c 2 t) (iblk m c 3 t) (k0_pay2 (iblk m c 0 t)) (iblk m c 4 t) := by
  rw [outsAt0_A m c t h0 h1]
  frame_out

theorem odd_out (c : Dev nD) (t : Fin cfg0.N) (h0 : ¬t.val % 2 = 0) (h1 : t.val % 2 = 1) :
    (outsAt0 m c t.val t.isLt).1 = k0_pay3 (outsAt0 m c (t.val - 1) (by omega)).2.1 (iblk m c 2 t) (iblk m c 3 t) (outsAt0 m c (t.val - 1) (by omega)).2.2 (iblk m c 4 t) := by
  rw [outsAt0_B m c t h0 h1]
  frame_out
  simp only [read_unread_whole]

/-! ## The blocks read -/

theorem coords_val : ∀ t : Fin grid0.N, (grid0.coords t 0).val = t.val / 2 ∧ (grid0.coords t 1).val = t.val % 2 := by decide +kernel

theorem block_lt (t : Fin grid0.N) : t.val / 2 < 96 := by have : t.val < 192 := t.isLt; omega

theorem coord_word (t : Fin grid0.N) : (BitVec.ofNat 32 (grid0.coords t 0).val).toNat = t.val / 2 := by
  rw [(coords_val t).1, BitVec.toNat_ofNat]; have := block_lt t; omega

theorem half_word (t : Fin grid0.N) : (BitVec.ofNat 32 (grid0.coords t 1).val).toNat = t.val % 2 := by
  rw [(coords_val t).2, BitVec.toNat_ofNat]; omega

/-- The rows, the scale and the three weights as launched. -/
abbrev rowsIn (c : Dev nD) : S49152x1024.Idx → EReal := m ((c : Thread nD τ).loc main_arg0)
abbrev scaleIn (c : Dev nD) : S1024.Idx → EReal := m ((c : Thread nD τ).loc main_arg1)
abbrev gateIn (c : Dev nD) : S1024x2816.Idx → EReal := m ((c : Thread nD τ).loc main_arg2)
abbrev upIn (c : Dev nD) : S1024x2816.Idx → EReal := m ((c : Thread nD τ).loc main_arg3)
abbrev downIn (c : Dev nD) : S2816x1024.Idx → EReal := m ((c : Thread nD τ).loc main_arg4)

theorem V_scale (c : Dev nD) : V m c main_v0 = (broadcastInDim S1x1024 ![1] bcast_S1024_S1x1024_1 (m ((c : Thread nD τ).loc main_arg1) : FVec Ideal S1024 .f32) : FVec Ideal S1x1024 .f32) := by
  show StableHlo.after (List.flatten [hostOps0]) (fun b => m (c, b)) _ = _
  simp only [List.flatten_cons, List.flatten_nil, List.append_nil, hostOps0, List.cons_append, List.nil_append]
  after_results_simp
theorem V_gate (c : Dev nD) : V m c main_v1 = (truncf .bf16 (m ((c : Thread nD τ).loc main_arg2) : FVec Ideal S1024x2816 .f32) bitsLt_bf16_f32 : FVec Ideal S1024x2816 .bf16) := by
  show StableHlo.after (List.flatten [hostOps0]) (fun b => m (c, b)) _ = _
  simp only [List.flatten_cons, List.flatten_nil, List.append_nil, hostOps0, List.cons_append, List.nil_append]
  after_results_simp
theorem V_up (c : Dev nD) : V m c main_v2 = (truncf .bf16 (m ((c : Thread nD τ).loc main_arg3) : FVec Ideal S1024x2816 .f32) bitsLt_bf16_f32 : FVec Ideal S1024x2816 .bf16) := by
  show StableHlo.after (List.flatten [hostOps0]) (fun b => m (c, b)) _ = _
  simp only [List.flatten_cons, List.flatten_nil, List.append_nil, hostOps0, List.cons_append, List.nil_append]
  after_results_simp
theorem V_down (c : Dev nD) : V m c main_v3 = (truncf .bf16 (m ((c : Thread nD τ).loc main_arg4) : FVec Ideal S2816x1024 .f32) bitsLt_bf16_f32 : FVec Ideal S2816x1024 .bf16) := by
  show StableHlo.after (List.flatten [hostOps0]) (fun b => m (c, b)) _ = _
  simp only [List.flatten_cons, List.flatten_nil, List.append_nil, hostOps0, List.cons_append, List.nil_append]
  after_results_simp

theorem rows_block (c : Dev nD) (t : Fin cfg0.N) (b : Fin 96) (hb : t.val / 2 = b.val) (r : Fin 512) (k : Fin 1024) :
    iblk m c 0 t (ix2 r k) = rowsIn m c (ix2 ⟨b.val * 512 + r.val, by omega⟩ k) := by
  refine Eq.trans ?_ (congrFun (V_main_arg0 m c) _)
  show (V m c main_arg0 : S49152x1024.Idx → EReal) _ = _
  refine congrArg _ ?_
  funext a
  apply Fin.ext
  match a with
  | ⟨0, _⟩ =>
    show (BitVec.ofNat 32 (grid0.coords t 0).val).toNat * 512 + 1 * r.val = b.val * 512 + r.val
    rw [coord_word]; omega
  | ⟨1, _⟩ =>
    show (0#32).toNat * 1024 + 1 * k.val = k.val
    simp

theorem scale_block (c : Dev nD) (t : Fin cfg0.N) (k : Fin 1024) :
    iblk m c 1 t (ix2 (0 : Fin 1) k) = scaleIn m c (ix1 k) := by
  have e : iblk m c 1 t (ix2 (0 : Fin 1) k) = (V m c main_v0 : S1x1024.Idx → EReal) (ix2 (0 : Fin 1) k) := by
    show (V m c main_v0 : S1x1024.Idx → EReal) _ = _
    refine congrArg _ ?_
    funext a
    apply Fin.ext
    match a with
    | ⟨0, _⟩ => rfl
    | ⟨1, _⟩ =>
      show (0#32).toNat * 1024 + 1 * k.val = k.val
      simp
  refine e.trans ((congrFun (V_scale m c) _).trans ?_)
  pointwise

theorem gate_block (c : Dev nD) (t : Fin cfg0.N) (k : Fin 1024) (f : Fin 1408) :
    iblk m c 2 t (ix2 k f) = gateIn m c (ix2 k ⟨t.val % 2 * 1408 + f.val, by omega⟩) := by
  refine Eq.trans ?_ (congrFun (V_gate m c) _)
  show (V m c main_v1 : S1024x2816.Idx → EReal) _ = _
  refine congrArg _ ?_
  funext a
  apply Fin.ext
  match a with
  | ⟨0, _⟩ =>
    show (0#32).toNat * 1024 + 1 * k.val = k.val
    simp
  | ⟨1, _⟩ =>
    show (BitVec.ofNat 32 (grid0.coords t 1).val).toNat * 1408 + 1 * f.val = t.val % 2 * 1408 + f.val
    rw [half_word]; omega

theorem up_block (c : Dev nD) (t : Fin cfg0.N) (k : Fin 1024) (f : Fin 1408) :
    iblk m c 3 t (ix2 k f) = upIn m c (ix2 k ⟨t.val % 2 * 1408 + f.val, by omega⟩) := by
  refine Eq.trans ?_ (congrFun (V_up m c) _)
  show (V m c main_v2 : S1024x2816.Idx → EReal) _ = _
  refine congrArg _ ?_
  funext a
  apply Fin.ext
  match a with
  | ⟨0, _⟩ =>
    show (0#32).toNat * 1024 + 1 * k.val = k.val
    simp
  | ⟨1, _⟩ =>
    show (BitVec.ofNat 32 (grid0.coords t 1).val).toNat * 1408 + 1 * f.val = t.val % 2 * 1408 + f.val
    rw [half_word]; omega

theorem down_block (c : Dev nD) (t : Fin cfg0.N) (f : Fin 1408) (j : Fin 1024) :
    iblk m c 4 t (ix2 f j) = downIn m c (ix2 ⟨t.val % 2 * 1408 + f.val, by omega⟩ j) := by
  refine Eq.trans ?_ (congrFun (V_down m c) _)
  show (V m c main_v3 : S2816x1024.Idx → EReal) _ = _
  refine congrArg _ ?_
  funext a
  apply Fin.ext
  match a with
  | ⟨0, _⟩ =>
    show (BitVec.ofNat 32 (grid0.coords t 1).val).toNat * 1408 + 1 * f.val = t.val % 2 * 1408 + f.val
    rw [half_word]; omega
  | ⟨1, _⟩ =>
    show (0#32).toNat * 1024 + 1 * j.val = j.val
    simp

/-! ## A block's two points -/

/-- One half of a row's second product. -/
def halfSum (c : Dev nD) (r : Fin 49152) (j : Fin 1024) (h : ℕ) (hh : h < 2) : EReal :=
  ∑ f : Fin 1408, hiddenAt (rowsIn m c) (scaleIn m c) (gateIn m c) (upIn m c) r ⟨h * 1408 + f.val, by omega⟩ * downIn m c (ix2 ⟨h * 1408 + f.val, by omega⟩ j)

theorem halves (c : Dev nD) (r : Fin 49152) (j : Fin 1024) :
    rowsIn m c (ix2 r j) + halfSum m c r j 0 (by omega) + halfSum m c r j 1 (by omega) = resultAt (rowsIn m c) (scaleIn m c) (gateIn m c) (upIn m c) (downIn m c) r j := by
  unfold resultAt
  rw [Fin.sum_univ_two_halves 1408 1408 rfl, add_assoc]
  unfold halfSum
  simp only [Nat.zero_mul, Nat.zero_add, Nat.one_mul]

theorem norm_val (c : Dev nD) (t : Fin cfg0.N) (b : Fin 96) (hb : t.val / 2 = b.val) (r : Fin 512) (k : Fin 1024) :
    k0_pay1 (F := Ideal) (iblk m c 0 t) (iblk m c 1 t) (ix2 r k) = normAt (rowsIn m c) (scaleIn m c) ⟨b.val * 512 + r.val, by omega⟩ k :=
  pay1_of _ _ r (fun k => rowsIn m c (ix2 ⟨b.val * 512 + r.val, by omega⟩ k)) (fun k => scaleIn m c (ix1 k)) (rows_block m c t b hb r) (scale_block m c t) k

theorem point_adds (c : Dev nD) (s t : Fin cfg0.N) (b : Fin 96) (h : ℕ) (hh : h < 2) (hs : s.val / 2 = b.val) (hm : t.val % 2 = h)
    (acc : FVec Ideal S512x1024 .f32) (r : Fin 512) (j : Fin 1024) (A : EReal) (ha : acc (ix2 r j) = A) :
    k0_pay3 (F := Ideal) (k0_pay1 (iblk m c 0 s) (iblk m c 1 s)) (iblk m c 2 t) (iblk m c 3 t) acc (iblk m c 4 t) (ix2 r j)
      = A + halfSum m c ⟨b.val * 512 + r.val, by omega⟩ j h hh := by
  subst hm
  exact pay3_of _ _ _ acc _ r j A _ _ _ _ ha (norm_val m c s b hs r) (gate_block m c t) (up_block m c t) (fun f => down_block m c t f j)

/-- What a block's second point writes back. -/
theorem odd_val (c : Dev nD) (t : Fin cfg0.N) (ho : t.val % 2 = 1) (b : Fin 96) (hb : t.val / 2 = b.val) (r : Fin 512) (j : Fin 1024) :
    (outsAt0 m c t.val t.isLt).1 (ix2 r j) = resultAt (rowsIn m c) (scaleIn m c) (gateIn m c) (upIn m c) (downIn m c) ⟨b.val * 512 + r.val, by omega⟩ j := by
  have hlt : t.val - 1 < cfg0.N := lt_of_le_of_lt (Nat.sub_le _ _) t.isLt
  have e1 := even_norm m c ⟨t.val - 1, hlt⟩ (by show (t.val - 1) % 2 = 0; omega) (by show ¬(t.val - 1) % 2 = 1; omega)
  have e2 := even_acc m c ⟨t.val - 1, hlt⟩ (by show (t.val - 1) % 2 = 0; omega) (by show ¬(t.val - 1) % 2 = 1; omega)
  have hs : (⟨t.val - 1, hlt⟩ : Fin cfg0.N).val / 2 = b.val := by show (t.val - 1) / 2 = b.val; omega
  have hs' : (⟨t.val - 1, hlt⟩ : Fin cfg0.N).val % 2 = 0 := by show (t.val - 1) % 2 = 0; omega
  rw [odd_out m c t (by omega) ho, e1, e2, ← halves]
  refine point_adds m c ⟨t.val - 1, hlt⟩ t b 1 (by omega) hs ho _ r j _ ?_
  refine point_adds m c ⟨t.val - 1, hlt⟩ ⟨t.val - 1, hlt⟩ b 0 (by omega) hs hs' _ r j _ ?_
  exact (pay2_apply _ r j).trans (rows_block m c ⟨t.val - 1, hlt⟩ b hs r j)

/-! ## The array the launch leaves -/

/-- The whole result. -/
def resultArr (c : Dev nD) : S49152x1024.Idx → EReal := fun i => resultAt (rowsIn m c) (scaleIn m c) (gateIn m c) (upIn m c) (downIn m c) (i 0) (i 1)

/-- Where an entry of the result's block lies in the array. -/
theorem result_place (t : Fin cfg0.N) (r : Fin 512) (j : Fin 1024) :
    (((cfg0.win 5).blk t).view.emb (ix2 r j) : S49152x1024.Idx) = ix2 ⟨t.val / 2 * 512 + r.val, by have := block_lt t; omega⟩ j := by
  funext b
  apply Fin.ext
  match b with
  | ⟨0, _⟩ =>
    show (BitVec.ofNat 32 (grid0.coords t 0).val).toNat * 512 + 1 * r.val = t.val / 2 * 512 + r.val
    rw [coord_word]; omega
  | ⟨1, _⟩ =>
    show (0#32).toNat * 1024 + 1 * j.val = j.val
    simp

/-- Every entry of the result lies in the block of its second point. -/
theorem covered (i : S49152x1024.Idx) : ∃ t : Fin cfg0.N, (cfg0.win 5).flush t = true ∧ i ∈ ((cfg0.win 5).blk t).view.set := by
  have h0 : (i 0).val < 49152 := (i 0).isLt
  have hlt : 2 * ((i 0).val / 512) + 1 < 192 := by omega
  refine ⟨⟨2 * ((i 0).val / 512) + 1, hlt⟩, ?_, ?_⟩
  · exact (flush0_5 _).mpr (by show (2 * ((i 0).val / 512) + 1) % 2 = 1; omega)
  · have hp := result_place ⟨2 * ((i 0).val / 512) + 1, hlt⟩ ⟨(i 0).val % 512, by omega⟩ (i 1)
    have hi : (ix2 ⟨(2 * ((i 0).val / 512) + 1) / 2 * 512 + (i 0).val % 512, by omega⟩ (i 1) : S49152x1024.Idx) = i := by
      funext b
      apply Fin.ext
      match b with
      | ⟨0, _⟩ => show (2 * ((i 0).val / 512) + 1) / 2 * 512 + (i 0).val % 512 = (i 0).val; omega
      | ⟨1, _⟩ => rfl
    have hm := ((cfg0.win 5).blk ⟨2 * ((i 0).val / 512) + 1, hlt⟩).view.emb_mem_set (ix2 ⟨(i 0).val % 512, by omega⟩ (i 1) : S512x1024.Idx)
    exact (congrArg (· ∈ ((cfg0.win 5).blk ⟨2 * ((i 0).val / 512) + 1, hlt⟩).view.set) (hp.trans hi)).mp hm

/-- The array the launch leaves. -/
theorem final (c : Dev nD) : (dats m 0 c).arrAt 5 cfg0.N = resultArr m c := by
  refine (dats m 0 c).arrAt_eq_of_emb 5 (resultArr m c) (fun t hf y => ?_) covered
  obtain ⟨r, j, rfl⟩ : ∃ (r : Fin 512) (j : Fin 1024), y = (ix2 r j : S512x1024.Idx) :=
    ⟨(show S512x1024.Idx from y) 0, (show S512x1024.Idx from y) 1, by funext a; match a with | ⟨0, _⟩ => rfl | ⟨1, _⟩ => rfl⟩
  have ho : t.val % 2 = 1 := (flush0_5 t).mp hf
  refine Eq.trans ?_ (congrArg (resultArr m c) (result_place t r j)).symm
  refine Eq.trans ?_ (odd_val m c t ho ⟨t.val / 2, block_lt t⟩ rfl r j)
  show (dats m 0 c).after 5 t (ix2 r j) = _
  rw [after0_5]

/-- The run with its result: every execution leaves the block's result and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v4) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final m c), h.2.1 c⟩)
    (θ_run_and (run_main m ρ) (frame m ρ))

end Cert.FfnValue

end
-- ==== Proof.Ffn.Ref.lean ====
/-
  The reference of the feed-forward block, entry by entry.
-/
module

public import proofs.«01_k».proof.Proof.Ffn.Spec
public import proofs.«01_k».proof.Proof.Gen.FfnRefIdeal.Run
public import Idealize.ShloMosaic.Lib.Tactic
public import Idealize.ShloMosaic.Lib.Pointwise

@[expose] public section

set_option maxRecDepth 16384

noncomputable section

namespace Cert.FfnRefValue

open Cert.FfnRefIdeal Cert.FfnRefIdeal.Gen Cert.FfnRefIdeal.Value
open Idealize.ShloMosaic Idealize.ShloMosaic.TcCoe Idealize.ShloMosaic.Tactic Idealize.SL.Sem

/-- The normalised rows. -/
def normed (x : FVec Ideal S49152x1024 .f32) (g : FVec Ideal S1024 .f32) : FVec Ideal S49152x1024 .f32 :=
  mulf (mulf x (broadcastInDim S49152x1024 ![0, 1] bcast_S49152x1_S49152x1024_0_1 (Host.rsqrt (addf (Host.divf (broadcastInDim S49152x1 ![0] bcast_S49152_S49152x1_0 (Host.reduceAdd (mulf x x) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 g))

/-- Their products with a first-layer weight. -/
def product (h : FVec Ideal S49152x1024 .f32) (w : FVec Ideal S1024x2816 .f32) : FVec Ideal S49152x2816 .f32 :=
  Host.dotGeneral dot_S49152x1024_S1024x2816_S49152x2816_1_0_0_1_n_n none h w

/-- The reference's result. -/
def result (x : FVec Ideal S49152x1024 .f32) (g : FVec Ideal S1024 .f32) (wg wu : FVec Ideal S1024x2816 .f32) (wd : FVec Ideal S2816x1024 .f32) : FVec Ideal S49152x1024 .f32 :=
  addf x (Host.dotGeneral dot_S49152x2816_S2816x1024_S49152x1024_1_0_0_1_n_n none (mulf (mulf (product (normed x g) wg) (Host.divf (broadcastInDim S49152x2816 ![] bcast_S_S49152x2816 (constant S_ .f32 0x3F800000#32)) (addf (broadcastInDim S49152x2816 ![] bcast_S_S49152x2816 (constant S_ .f32 0x3F800000#32)) (Host.exp (Host.negf (product (normed x g) wg)))))) (product (normed x g) wu)) wd)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.FfnRefIdeal.Value.run (F := Ideal) m ρ

theorem normed_apply (x : FVec Ideal S49152x1024 .f32) (g : FVec Ideal S1024 .f32) (r : Fin 49152) (k : Fin 1024) : normed x g (ix2 r k) = FfnValue.normAt x g r k := by
  unfold normed FfnValue.normAt
  pointwise

theorem product_apply (h : FVec Ideal S49152x1024 .f32) (w : FVec Ideal S1024x2816 .f32) (r : Fin 49152) (f : Fin 2816) : product h w (ix2 r f) = ∑ k, h (ix2 r k) * w (ix2 k f) := by
  unfold product
  pointwise

theorem result_apply (x : FVec Ideal S49152x1024 .f32) (g : FVec Ideal S1024 .f32) (wg wu : FVec Ideal S1024x2816 .f32) (wd : FVec Ideal S2816x1024 .f32) (r : Fin 49152) (j : Fin 1024) :
    result x g wg wu wd (ix2 r j) = FfnValue.resultAt x g wg wu wd r j := by
  unfold result
  pointwise
  simp only [← ix2_eq_valueIdx, product_apply, normed_apply]
  rfl

end Cert.FfnRefValue

end
-- ==== Proof.Ffn.Equal.lean ====
/-
  The two sides of the feed-forward block's value: the reference's result, from arguments equal to the kernel's, is the array the
  kernel leaves.
-/
module

public import proofs.«01_k».proof.Proof.Ffn.Value
public import proofs.«01_k».proof.Proof.Ffn.Ref

@[expose] public section

set_option maxRecDepth 16384

noncomputable section

namespace Cert.FfnValue

open Idealize.ShloMosaic Idealize.ShloMosaic.TcCoe

/-- The reference's result as an array. -/
theorem ref_array (x : Cert.FfnIdeal.S49152x1024.Idx → EReal) (g : Cert.FfnIdeal.S1024.Idx → EReal) (wg wu : Cert.FfnIdeal.S1024x2816.Idx → EReal)
    (wd : Cert.FfnIdeal.S2816x1024.Idx → EReal) : Cert.FfnRefValue.result x g wg wu wd = fun i => resultAt x g wg wu wd (i 0) (i 1) := by
  funext i
  have hi : i = ix2 (i 0) (i 1) := by
    funext a
    match a with
    | ⟨0, _⟩ => rfl
    | ⟨1, _⟩ => rfl
  exact (congrArg _ hi).trans (Cert.FfnRefValue.result_apply x g wg wu wd (i 0) (i 1))

end Cert.FfnValue

end
-- ==== Proof.Gather.Body.lean ====
/-
  The token gather's body at one grid point. The first counted loop reads 512 words of the routing table, one per trip,
  and starts for each a copy of the row of the token array the word names into the next row of the result, all on one DMA
  semaphore; the second loop waits 512 times for one row's amount. The 512 copies are one batch on the semaphore's cell:
  nothing is known of any row before the last wait, which hands back every row with the counter at zero.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.Routed
public import Idealize.ShloMosaic.Lib.Batch
public import Idealize.ShloMosaic.Lib.Ring
public import Idealize.ShloMosaic.Lib.Tactic

@[expose] public section

set_option maxRecDepth 16384

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- A memref's contents on core `c`, and its buffer held whole at `f`. -/
abbrev Cont (c : Dev nD) {sp : Space} {S : Shape} {e : EltTy} (M : Memref sig .tc sp S e) : Type := Buf (Elt F) (M.view.loc (c : Thread nD τ))
abbrev heldW (c : Dev nD) {sp : Space} {S : Shape} {e : EltTy} (M : Memref sig .tc sp S e) (f : Cont (F := F) c M) : sProp 𝕄 :=
  M.view.loc (c : Thread nD τ) ↦{fullShare} f

theorem trips_eq : k0_t1_loop.trips = 512 := by decide
theorem trips2_eq : k0_t2_loop.trips = 512 := by decide

/-- The one index of a one-element load. -/
abbrev i0 : S1x1x1.Idx := Shape.Idx.first (s := S1x1x1) (numel1_S1x1x1.symm ▸ Nat.one_pos)

/-- Table word `t` of the point, as trip `t`'s load reads it off the contents `f0` of the staging memref. -/
abbrev wd (M0 : Memref sig .tc .smem S1x1x512 .i32) {c : Dev nD} (f0 : Cont (F := F) c M0) (t : Fin k0_t1_loop.trips) : BitVec 32 :=
  M0.view.readAt (Elt F) (Rect.unit (s := S1x1x512) (k0_off1 t) S1x1x1.size (k0_off1_inb t)).toLoadRect f0 i0

/-- A word below the number of tokens names a row of the token array: what the body assumes of each word. -/
theorem chk_of {w : BitVec 32} (h : w.toNat < 49152) : k0_chk1 w := by
  intro a; fin_cases a
  · show w.toNat + 1 ≤ 49152; omega
  · show 0 + 512 ≤ 512; omega

/-- The row of the token array the word `w` names, and row `512 · i + t` of the result, as trip `t` spells them. -/
def srcM (w : BitVec 32) (h : k0_chk1 w) : Memref sig .tc .hbm S1x512 .i32 :=
  (Memref.whole main_arg0).slice (Rect.unit (s := S49152x512) (k0_off3 w) S1x512.size (k0_off3_inb w h)) (fun _ => rfl)
def dstM (i : grid0.Coords) (t : Fin k0_t1_loop.trips) : Memref sig .tc .hbm S1x512 .i32 :=
  (Memref.whole main_v14).slice (Rect.unit (s := S102400x512) (k0_off2 i t) S1x512.size (k0_off2_inb i t)) (fun _ => rfl)

/-- One row's amount on the semaphore: 2048 bytes in units of 32. -/
abbrev NN : ℕ := 64

section Deliveries

variable (c : Dev nD) (i : grid0.Coords) {w : Fin k0_t1_loop.trips → BitVec 32} (hok : ∀ t, (w t).toNat < 49152)
  (fv : Cont (F := F) c (Memref.whole main_v14)) (fs : Cont (F := F) c (Memref.whole main_arg0))

abbrev fvAt (t : Fin k0_t1_loop.trips) : Buf (Elt F) ((dstM i t).view.loc (c : Thread nD τ)) := fv
abbrev fsAt (t : Fin k0_t1_loop.trips) : Buf (Elt F) ((srcM (w t) (chk_of (hok t))).view.loc (c : Thread nD τ)) := fs

/-- Result row `t` of the point after its copy. -/
abbrev landed (t : Fin k0_t1_loop.trips) : Buf (Elt F) ((dstM i t).view.loc (c : Thread nD τ)) :=
  (dstM i t).view.writes (Elt F) (fvAt c i fv t)
    [⟨Rect.whole S1x512, ReadAs.same.apply ((srcM (w t) (chk_of (hok t))).view.read (Elt F) (fsAt c hok fs t))⟩]

/-- Result row `t` before its copy, and the source row of trip `t` under read token `t` (the words may repeat, so
    each copy reads under a share of its own). -/
abbrev dstRow (t : Fin k0_t1_loop.trips) : sProp 𝕄 :=
  (dstM i t).view.loc (c : Thread nD τ) ↦[(dstM i t).view.set]{fullShare} fvAt c i fv t
abbrev dstDone (t : Fin k0_t1_loop.trips) : sProp 𝕄 :=
  (dstM i t).view.loc (c : Thread nD τ) ↦[(dstM i t).view.set]{fullShare} landed c i hok fv fs t
abbrev srcRow (t : Fin k0_t1_loop.trips) : sProp 𝕄 :=
  (srcM (w t) (chk_of (hok t))).view.loc (c : Thread nD τ)
    ↦[(srcM (w t) (chk_of (hok t))).view.set]{Transfers.shareTokN fullShare t.val} fsAt c hok fs t

/-- What copy `t` hands back: the result row written, and the source row's share. -/
abbrev D (t : Fin k0_t1_loop.trips) : sProp 𝕄 := iprop(dstDone c i hok fv fs t ∗ srcRow c hok fs t)

instance D_storable (t : Fin k0_t1_loop.trips) : BI.Storable (upEmb : UEmb _ 𝕄) (D c i hok fv fs t) := by
  unfold D; infer_instance

/-- The point's batch, `j` copies started and `u` units waited for. -/
abbrev batch (j u : ℕ) : sProp 𝕄 :=
  Transfers.Batch countersEmb (c : Thread nD τ) (.dma cc0_scratch0.sem) () NN (D c i hok fv fs) j u

end Deliveries

/-! ## The loop that starts the copies -/

section Issue

variable (c : Dev nD) (i : grid0.Coords) (M0 : Memref sig .tc .smem S1x1x512 .i32) (f0 : Cont (F := F) c M0)
  (hok : ∀ t, (wd M0 f0 t).toNat < 49152)
  (fv : Cont (F := F) c (Memref.whole main_v14)) (fs : Cont (F := F) c (Memref.whole main_arg0))

/-- Before trip `k`: `k` copies started; the rows of the later trips in hand; the table words. -/
def issueAt (k : ℕ) (_ : Unit) : sProp 𝕄 :=
  iprop(batch c i hok fv fs k 0
    ∗ bigSep (Ring.rangeSet k0_t1_loop.trips k k0_t1_loop.trips) (dstRow c i fv)
    ∗ bigSep (Ring.rangeSet k0_t1_loop.trips k k0_t1_loop.trips) (srcRow c hok fs)
    ∗ heldW c M0 f0)

theorem issue_step [∀ e, Nonempty (Elt F e)] (h0 : M0.IsWhole) (k : Fin k0_t1_loop.trips) (acc : Unit) :
    issueAt c i M0 f0 hok fv fs k acc
      ⊢ wp frame (wpE (defs₀ (F := F)) Variants.none c none) Set.univ
          (k0_t1_body i M0 h0 (Memref.whole main_arg0) (Memref.isWhole_whole _) (Memref.whole main_v14) (Memref.isWhole_whole _) cc0_scratch0 k acc)
          (issueAt c i M0 f0 hok fv fs (k.val + 1)) := by
  have hkT : k.val < 512 := trips_eq ▸ k.isLt
  have hT := trips_eq
  have hchk : k0_chk1 (wd M0 f0 k) := chk_of (hok k)
  unfold issueAt
  rw [Ring.bigSep_rangeSet_head (Φ := dstRow c i fv) k.isLt k.isLt,
    Ring.bigSep_rangeSet_head (Φ := srcRow c hok fs) k.isLt k.isLt]
  iintro ⟨HB, ⟨HP, HPs⟩, ⟨HS, HSs⟩, H0⟩
  dsimp only [k0_t1_body]
  sl_exec (disch := exact hchk)
  sl_step
  isplitl [HB]; · iexact HB
  isplitl [HPs]; · iexact HPs
  isplitl [HSs]; · iexact HSs
  iexact H0

end Issue

/-! ## The loop that waits -/

section Drain

variable (c : Dev nD) (i : grid0.Coords) {w : Fin k0_t1_loop.trips → BitVec 32} (hok : ∀ t, (w t).toNat < 49152)
  (fv : Cont (F := F) c (Memref.whole main_v14)) (fs : Cont (F := F) c (Memref.whole main_arg0))

/-- Before trip `k`: while waits remain, the batch with `k` rows' amount consumed; after the last, every row. -/
def drainAt (k : ℕ) (_ : Unit) : sProp 𝕄 :=
  iprop((∃ W, owes (c : Thread nD τ) 0 W)
    ∗ (if k < 512 then batch c i hok fv fs k0_t1_loop.trips (k * NN)
       else iprop(semVal ((c : Thread nD τ), SemLoc.dma cc0_scratch0.sem) 0 ∗ bigSep Finset.univ (D c i hok fv fs))))

theorem drain_step [∀ e, Nonempty (Elt F e)] (M0 : Memref sig .tc .smem S1x1x512 .i32) (h0 : M0.IsWhole)
    (k : Fin k0_t2_loop.trips) (acc : Unit) :
    drainAt c i hok fv fs k acc
      ⊢ wp frame (wpE (defs₀ (F := F)) Variants.none c none) Set.univ
          (k0_t2_body i M0 h0 (Memref.whole main_arg0) (Memref.isWhole_whole _) (Memref.whole main_v14) (Memref.isWhole_whole _) cc0_scratch0 k acc)
          (drainAt c i hok fv fs (k.val + 1)) := by
  have hkT : k.val < 512 := trips2_eq ▸ k.isLt
  have hT := trips_eq
  unfold drainAt
  simp only [if_pos hkT]
  rcases Nat.lt_or_ge (k.val + 1) 512 with hk1 | hk1
  · simp only [if_pos hk1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · simp only [if_neg (Nat.not_lt.mpr hk1)]
    iintro ⟨⟨%W, HO⟩, HB⟩
    dsimp only [k0_t2_body]
    sl_exec
    sl_step
    isplitl [HO]; · iexists _; iexact HO
    isplitl [HB]; · iexact HB
    iexact HB_all

end Drain

end Cert.Gather

end
-- ==== Proof.Gather.Run.lean ====
/-
  The gather's body run whole: the two arrays split into the rows of the point's 512 copies and the rest, the two loops
  (Body.lean), and the arrays put together again, with the result's 512 rows at the token rows the table names.
-/
module

public import proofs.«01_k».proof.Proof.Gather.Body
public import Idealize.ShloMosaic.Lib.Pointwise.Index
public import Idealize.ShloMosaic.Lib.Pipeline.ValueKit

@[expose] public section

set_option maxRecDepth 16384

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The result's and the token array's contents. -/
abbrev ResC (F : FTy → Type) : Type := S102400x512.Idx → Elt F .i32
abbrev TokC (F : FTy → Type) : Type := S49152x512.Idx → Elt F .i32

/-- The result after the body at point `i`: rows `512 · i … 512 · i + 511` the token rows the words name. -/
def written (i : grid0.Coords) (w : Fin k0_t1_loop.trips → BitVec 32) (hok : ∀ t, (w t).toNat < 49152)
    (fv : ResC F) (fs : TokC F) : ResC F := fun y =>
  if h : 512 * (i 0).val ≤ (y 0).val ∧ (y 0).val < 512 * (i 0).val + 512 then
    fs (ix2 (n0 := 49152) (n1 := 512) ⟨(w ⟨(y 0).val - 512 * (i 0).val, by rw [trips_eq]; omega⟩).toNat, hok _⟩ (y 1))
  else fv y

/-- Row `512 · i + t` of it is the token row word `t` names. -/
theorem written_on (i : grid0.Coords) (w : Fin k0_t1_loop.trips → BitVec 32) (hok : ∀ t, (w t).toNat < 49152)
    (fv : ResC F) (fs : TokC F) (t : Fin k0_t1_loop.trips) (y : S102400x512.Idx) (hy : (y 0).val = 512 * (i 0).val + t.val) :
    written i w hok fv fs y = fs (ix2 (n0 := 49152) (n1 := 512) ⟨(w t).toNat, hok t⟩ (y 1)) := by
  have htl : t.val < 512 := trips_eq ▸ t.isLt
  have hin : 512 * (i 0).val ≤ (y 0).val ∧ (y 0).val < 512 * (i 0).val + 512 := by omega
  have et : ∀ h, (⟨(y 0).val - 512 * (i 0).val, h⟩ : Fin k0_t1_loop.trips) = t := fun h =>
    Fin.ext (show (y 0).val - 512 * (i 0).val = t.val by omega)
  unfold written
  rw [dif_pos hin]
  simp only [et]

/-! ## The rows -/

section Rows

variable (c : Dev nD) (i : grid0.Coords)

abbrev dstSet (t : Fin k0_t1_loop.trips) : Finset (Idx ((Memref.whole main_v14 : Memref sig .tc .hbm S102400x512 .i32).view.loc (c : Thread nD τ))) :=
  (dstM i t).view.set
abbrev srcSet (w : BitVec 32) (h : k0_chk1 w) : Finset (Idx ((Memref.whole main_arg0 : Memref sig .tc .hbm S49152x512 .i32).view.loc (c : Thread nD τ))) :=
  (srcM w h).view.set

theorem mem_dstSet (t : Fin k0_t1_loop.trips) (y : S102400x512.Idx) :
    y ∈ dstSet c i t ↔ (y 0).val = 512 * (i 0).val + t.val := by
  have e : dstSet c i t = (Rect.unit (s := S102400x512) (k0_off2 i t) S1x512.size (k0_off2_inb i t)).set := by
    unfold dstSet dstM; exact View.set_slice_whole _ _
  have o := k0_off2_eq i t
  have o0 : k0_off2 i t 0 = 512 * (i 0).val + t.val := by rw [o]; rfl
  have o1 : k0_off2 i t 1 = 0 := by rw [o]; rfl
  have h1 : (y 1).val < 512 := (y 1).isLt
  rw [e, Rect.mem_set_unit]
  constructor
  · intro H
    have a0 : k0_off2 i t 0 ≤ (y 0).val ∧ (y 0).val < k0_off2 i t 0 + 1 := H 0
    omega
  · intro H a; fin_cases a
    · show k0_off2 i t 0 ≤ (y 0).val ∧ (y 0).val < k0_off2 i t 0 + 1; omega
    · show k0_off2 i t 1 ≤ (y 1).val ∧ (y 1).val < k0_off2 i t 1 + 512; omega

theorem dstSet_disjoint (t t' : Fin k0_t1_loop.trips) (hne : t ≠ t') : Disjoint (dstSet c i t) (dstSet c i t') := by
  rw [Finset.disjoint_left]; intro y hy hy'
  rw [mem_dstSet] at hy hy'
  exact hne (Fin.ext (by omega))

variable {w : Fin k0_t1_loop.trips → BitVec 32} (hok : ∀ t, (w t).toNat < 49152) (fv : ResC F) (fs : TokC F)

/-- On its row, what copy `t` leaves is the body's result. -/
theorem landed_eq (t : Fin k0_t1_loop.trips) (y : S102400x512.Idx) (hy : y ∈ dstSet c i t) :
    landed c i hok fv fs t y = written i w hok fv fs y := by
  have hT := trips_eq
  have htl : t.val < 512 := trips_eq ▸ t.isLt
  have hy0 := (mem_dstSet c i t y).mp hy
  obtain ⟨x, -, hx⟩ := Finset.mem_map.mp hy
  have e : landed c i hok fv fs t y = fs ((srcM (w t) (chk_of (hok t))).view.emb x) := by
    unfold landed
    rw [← View.write_univ_eq_writes_whole, View.writes_nil, ← hx]
    exact View.write_emb_of_mem _ _ (Finset.mem_univ x)
  rw [e, written_on i w hok fv fs t y hy0]
  have o1 : k0_off2 i t 1 = 0 := by rw [k0_off2_eq i t]; rfl
  have ed : (y 1).val = k0_off2 i t 1 + (x 1).val := by
    rw [← hx]
    exact ValueKit.view_emb_slice_whole_unit_val main_v14 (k0_off2 i t) S1x512.size (k0_off2_inb i t) x 1
  have es : ∀ a : Fin 2, ((srcM (w t) (chk_of (hok t))).view.emb x a).val = k0_off3 (w t) a + (x a).val := fun a =>
    ValueKit.view_emb_slice_whole_unit_val main_arg0 (k0_off3 (w t)) S1x512.size (k0_off3_inb (w t) (chk_of (hok t))) x a
  have hx0 : (x 0).val < 1 := (x 0).isLt
  have e0 : k0_off3 (w t) 0 = (w t).toNat := rfl
  have e1 : k0_off3 (w t) 1 = 0 := rfl
  have q : (srcM (w t) (chk_of (hok t))).view.emb x = ix2 (n0 := 49152) (n1 := 512) ⟨(w t).toNat, hok t⟩ (y 1) := by
    funext a
    fin_cases a
    · exact Fin.ext ((es 0).trans (show k0_off3 (w t) 0 + (x 0).val = (w t).toNat by omega))
    · exact Fin.ext ((es 1).trans (show k0_off3 (w t) 1 + (x 1).val = (y 1).val by omega))
  exact congrArg fs q

theorem off_rows (y : S102400x512.Idx) (hy : y ∉ Finset.univ.biUnion (dstSet c i)) : written i w hok fv fs y = fv y := by
  refine dif_neg fun h => hy ?_
  rw [Finset.mem_biUnion]
  refine ⟨⟨(y 0).val - 512 * (i 0).val, by rw [trips_eq]; omega⟩, Finset.mem_univ _, (mem_dstSet c i _ y).mpr ?_⟩
  show (y 0).val = 512 * (i 0).val + ((y 0).val - 512 * (i 0).val)
  omega

/-- The result held whole is the point's rows beside the rest. -/
abbrev dstRest (g : ResC F) : sProp 𝕄 :=
  (Memref.whole main_v14 : Memref sig .tc .hbm S102400x512 .i32).view.loc (c : Thread nD τ)
    ↦[Finset.univ \ Finset.univ.biUnion (dstSet c i)]{fullShare} g

theorem split_whole (g : ResC F) :
    (heldW c (Memref.whole main_v14) g : sProp 𝕄)
      = iprop((bigSep Finset.univ fun t => (Memref.whole main_v14 : Memref sig .tc .hbm S102400x512 .i32).view.loc (c : Thread nD τ)
            ↦[dstSet c i t]{fullShare} g) ∗ dstRest c i g) := by
  have hs : ((Memref.whole main_v14 : Memref sig .tc .hbm S102400x512 .i32).view.loc (c : Thread nD τ) ↦[Finset.univ]{fullShare} g : sProp 𝕄)
      ⊣⊢ iprop(((Memref.whole main_v14 : Memref sig .tc .hbm S102400x512 .i32).view.loc (c : Thread nD τ) ↦[Finset.univ.biUnion (dstSet c i)]{fullShare} g)
        ∗ dstRest c i g) :=
    pointsTo_split_subset (Finset.subset_univ _)
  have hb := pointsTo_biUnion (Ix := Unit) (Val := Elt F) (Name := ℕ) (U := UC sig nD τ) (Lvl := ℕ) (q := fullShare) (f := g)
    (ℓ := (Memref.whole main_v14 : Memref sig .tc .hbm S102400x512 .i32).view.loc (c : Thread nD τ))
    Finset.univ (dstSet c i) fun t _ t' _ hne => dstSet_disjoint c i t t' hne
  rw [← hb]
  exact BI.equiv_iff.mp ⟨hs.1, hs.2⟩

theorem entry_split : (heldW c (Memref.whole main_v14) fv : sProp 𝕄)
    = iprop(bigSep Finset.univ (dstRow c i fv) ∗ dstRest c i fv) := split_whole c i fv

theorem exit_split : (heldW c (Memref.whole main_v14) (written i w hok fv fs) : sProp 𝕄)
    = iprop(bigSep Finset.univ (dstDone c i hok fv fs) ∗ dstRest c i fv) := by
  rw [split_whole c i]
  have h1 : ∀ t ∈ (Finset.univ : Finset (Fin k0_t1_loop.trips)),
      ((Memref.whole main_v14 : Memref sig .tc .hbm S102400x512 .i32).view.loc (c : Thread nD τ) ↦[dstSet c i t]{fullShare} written i w hok fv fs : sProp 𝕄)
        = dstDone c i hok fv fs t :=
    fun t _ => (pointsTo_congr fun y hy => (landed_eq c i hok fv fs t y hy).symm)
  have h2 : (dstRest c i (written i w hok fv fs) : sProp 𝕄) = dstRest c i fv :=
    pointsTo_congr fun y hy => off_rows c i hok fv fs y (Finset.mem_sdiff.mp hy).2
  rw [BI.bigSep_congr h1, h2]

/-- What a copy leaves of its read token of the token array: every row but the one it reads. -/
abbrev srcBut (t : Fin k0_t1_loop.trips) : sProp 𝕄 :=
  (Memref.whole main_arg0 : Memref sig .tc .hbm S49152x512 .i32).view.loc (c : Thread nD τ)
    ↦[Finset.univ \ srcSet c (w t) (chk_of (hok t))]{Transfers.shareTokN fullShare t.val} fs
abbrev srcRest : sProp 𝕄 :=
  (Memref.whole main_arg0 : Memref sig .tc .hbm S49152x512 .i32).view.loc (c : Thread nD τ)
    ↦[Finset.univ]{Transfers.shareDrop fullShare k0_t1_loop.trips} fs

theorem src_split : (heldW c (Memref.whole main_arg0) fs : sProp 𝕄)
    = iprop(srcRest c fs ∗ bigSep Finset.univ (srcRow c hok fs) ∗ bigSep Finset.univ (srcBut c hok fs)) := by
  have h := Transfers.pointsTo_toks_range (Ix := Unit) (Val := Elt F) (Name := ℕ) (U := UC sig nD τ) (Lvl := ℕ)
    (ℓ := (Memref.whole main_arg0 : Memref sig .tc .hbm S49152x512 .i32).view.loc (c : Thread nD τ)) (S := Finset.univ) (f := fs)
    fullShare k0_t1_loop.trips
  refine (BI.equiv_iff.mp ⟨h.1, h.2⟩).trans ?_
  rw [← Ring.bigSep_fin_eq_range k0_t1_loop.trips
    (fun t => (Memref.whole main_arg0 : Memref sig .tc .hbm S49152x512 .i32).view.loc (c : Thread nD τ)
      ↦[Finset.univ]{Transfers.shareTokN fullShare t.val} fs) _ (fun t ht => rfl)]
  have hs : (bigSep Finset.univ fun t : Fin k0_t1_loop.trips => (Memref.whole main_arg0 : Memref sig .tc .hbm S49152x512 .i32).view.loc (c : Thread nD τ)
      ↦[Finset.univ]{Transfers.shareTokN fullShare t.val} fs : sProp 𝕄)
      = bigSep Finset.univ fun t => iprop(srcRow c hok fs t ∗ srcBut c hok fs t) := by
    refine BI.bigSep_congr fun t _ => ?_
    have h' := pointsTo_split_subset (Ix := Unit) (Val := Elt F) (Name := ℕ) (U := UC sig nD τ) (Lvl := ℕ)
      (ℓ := (Memref.whole main_arg0 : Memref sig .tc .hbm S49152x512 .i32).view.loc (c : Thread nD τ)) (f := fs)
      (q := Transfers.shareTokN fullShare t.val) (Finset.subset_univ (srcSet c (w t) (chk_of (hok t))))
    exact BI.equiv_iff.mp ⟨h'.1, h'.2⟩
  rw [hs]
  exact congrArg (fun P => iprop(srcRest c fs ∗ P)) (BI.bigSep_sep _ _ _)

end Rows

/-! ## The body -/

set_option maxHeartbeats 4000000 in
/-- The body at point `i`: from the staged words, the two arrays and the semaphore at zero, to the same with the point's
    512 rows of the result written. -/
theorem kernelRun [∀ e, Nonempty (Elt F e)] (c : Dev nD) (i : grid0.Coords) (M0 : Memref sig .tc .smem S1x1x512 .i32) (h0 : M0.IsWhole)
    (f0 : Cont (F := F) c M0) (hok : ∀ t, (wd M0 f0 t).toNat < 49152) (fv : ResC F) (fs : TokC F) (W : Waits sig Unit) (Q : PUnit → sProp 𝕄) :
    iprop(heldW c M0 f0 ∗ heldW c (Memref.whole main_arg0) fs ∗ heldW c (Memref.whole main_v14) fv
      ∗ semVal ((c : Thread nD τ), SemLoc.dma cc0_scratch0.sem) 0 ∗ owes (c : Thread nD τ) 0 W
      ∗ (iprop(heldW c M0 f0 ∗ heldW c (Memref.whole main_arg0) fs ∗ heldW c (Memref.whole main_v14) (written i (wd M0 f0) hok fv fs)
            ∗ semVal ((c : Thread nD τ), SemLoc.dma cc0_scratch0.sem) 0 ∗ ∃ W, owes (c : Thread nD τ) 0 W) -∗ Q ⟨⟩))
      ⊢ wp frame (wpE (defs₀ (F := F)) Variants.none c none) Set.univ
        (cc0_moe_gather i M0 h0 (Memref.whole main_arg0) (Memref.isWhole_whole _) (Memref.whole main_v14) (Memref.isWhole_whole _) cc0_scratch0) Q := by
  have hT := trips_eq
  rw [exit_split c i hok fv fs, entry_split c i fv, src_split c hok fs]
  simp only [cc0_moe_gather_eq_skeleton]; unfold cc0_moe_gather_skel
  iintro ⟨H0, ⟨HsR, HsP, HsB⟩, ⟨HvP, HvR⟩, Hc, HO, Hk⟩
  imod (Transfers.batch_alloc' (Lvl := ℕ) countersEmb (c : Thread nD τ) () NN (D c i hok fv fs) (sm := .dma cc0_scratch0.sem) (E := Set.univ)) $$ Hc with HB
  sl_for (issueAt c i M0 f0 hok fv fs) $$ [HB HvP HsP H0]
  · intro k acc; exact issue_step c i M0 f0 hok fv fs h0 k acc
  · iapply (show iprop(batch c i hok fv fs 0 0 ∗ bigSep Finset.univ (dstRow c i fv) ∗ bigSep Finset.univ (srcRow c hok fs) ∗ heldW c M0 f0)
        ⊢ issueAt c i M0 f0 hok fv fs 0 () from by unfold issueAt; rw [Ring.rangeSet_univ])
    isplitl [HB]; · iexact HB
    isplitl [HvP]; · iexact HvP
    isplitl [HsP]; · iexact HsP
    iexact H0
  iintro %acc HL
  ihave HL' := (show issueAt c i M0 f0 hok fv fs k0_t1_loop.trips acc ⊢ iprop(batch c i hok fv fs k0_t1_loop.trips 0 ∗ heldW c M0 f0) from by
    unfold issueAt; simp only [Ring.bigSep_rangeSet_empty (le_refl k0_t1_loop.trips)]
    iintro ⟨A, -, -, B⟩; isplitl [A] <;> iassumption) $$ HL
  icases HL' with ⟨HB, H0⟩
  sl_exec
  sl_for (drainAt c i hok fv fs) $$ [HB HO]
  · intro k acc; exact drain_step c i hok fv fs M0 h0 k acc
  · iapply (show iprop((∃ W, owes (c : Thread nD τ) 0 W) ∗ batch c i hok fv fs k0_t1_loop.trips 0) ⊢ drainAt c i hok fv fs 0 () from by
      unfold drainAt; rw [if_pos (by omega), Nat.zero_mul])
    isplitl [HO]; · iexists _; iexact HO
    iexact HB
  iintro %acc2 HL2
  ihave HL2' := (show drainAt c i hok fv fs k0_t2_loop.trips acc2
      ⊢ iprop((∃ W, owes (c : Thread nD τ) 0 W) ∗ semVal ((c : Thread nD τ), SemLoc.dma cc0_scratch0.sem) 0
          ∗ bigSep Finset.univ (dstDone c i hok fv fs) ∗ bigSep Finset.univ (srcRow c hok fs)) from by
    unfold drainAt; rw [if_neg (by rw [trips2_eq]; omega)]
    iintro ⟨A, B, C⟩
    isplitl [A]; · iexact A
    isplitl [B]; · iexact B
    iapply (Entails.of_eq (BI.bigSep_sep Finset.univ (dstDone c i hok fv fs) (srcRow c hok fs)))
    iexact C) $$ HL2
  icases HL2' with ⟨⟨%W', HO⟩, Hc, HdP, HsP⟩
  sl_exec
  sl_step
  iapply Hk
  isplitl [H0]; · iexact H0
  isplitl [HsR HsP HsB]
  · isplitl [HsR]; · iexact HsR
    isplitl [HsP]; · iexact HsP
    iexact HsB
  isplitl [HvR HdP]
  · isplitl [HdP]; · iexact HdP
    iexact HvR
  isplitl [Hc]; · iexact Hc
  iexists _; iexact HO

end Cert.Gather

end
-- ==== Proof.Gather.Table.lean ====
/-
  The routing table as the host lines before the gather compute it: zeros, into which token `e mod 49152` is written at the
  destination of expert slot `e`. Every word is zero or a token, so it names a row of the token array, whatever the
  destinations are.
-/
module

public import proofs.«01_k».proof.Proof.Gen.KernelIdeal
public import proofs.«01_k».proof.Proof.Gen.KernelIdeal.Frame
public import Idealize.ShloMosaic.Lib.Routing.OpsOrder
public import Idealize.ShloMosaic.Lib.Pipeline.Value
public import Idealize.ShloMosaic.Lib.ValueIdxCore
public import Idealize.ShloMosaic.Lib.StableHlo.Run

@[expose] public section

set_option maxRecDepth 16384

noncomputable section

namespace Cert.Gather

open Cert.KernelIdeal Cert.KernelIdeal.Gen
open Idealize.ShloMosaic Idealize.ShloMosaic.TcCoe Idealize.ShloMosaic.StableHlo Idealize.ShloMosaic.ValueIdx Idealize.SL.Sem

/-- The destinations in one row, an index below zero counted from the end, as the scatter takes them. -/
def slots (d : S2x49152.Idx → BitVec 32) : S98304x1.Idx → BitVec 32 :=
  broadcastInDim S98304x1 ![0] bcast_S98304_S98304x1_0
    (select (cmpi .slt (shapeCast S98304 d shapeCasts_S2x49152_S98304) (broadcastInDim S98304 ![] bcast_S_S98304 (constantI S_ 32 0#32)))
      (addi (shapeCast S98304 d shapeCasts_S2x49152_S98304) (broadcastInDim S98304 ![] bcast_S_S98304 (constantI S_ 32 102400#32)))
      (shapeCast S98304 d shapeCasts_S2x49152_S98304))

/-- The tokens, twice over: what is written at the destinations. -/
def twice : S98304.Idx → BitVec 32 := fun e => BitVec.ofNat 32 ((e 0).val % 49152)

/-- The routing table of the destinations `d`. -/
def table (d : S2x49152.Idx → BitVec 32) : S102400.Idx → BitVec 32 :=
  Host.scatter scatter_S102400_S98304x1_S98304_n_0_0_1 (fun _ b => b) (broadcastInDim S102400 ![] bcast_S_S102400 (constantI S_ 32 0#32)) (slots d) twice

/-- Every word of the table names a token. -/
theorem table_lt (d : S2x49152.Idx → BitVec 32) (e : S102400.Idx) : (table d e).toNat < 49152 := by
  refine Routing.scatter_forall (si := S98304x1) (u := S98304) _ _ (fun w : BitVec 32 => w.toNat < 49152) (fun _ _ _ h => h) _ _ _ (fun _ => ?_) (fun j => ?_) e
  · show (0#32 : BitVec 32).toNat < 49152; decide
  · show (BitVec.ofNat 32 ((j 0).val % 49152)).toNat < 49152
    rw [BitVec.toNat_ofNat]; omega

/-- The kernel's tokens: the row of all tokens, spread to two rows, read as one. -/
theorem tiled_eq :
    shapeCast S98304 (broadcastInDim S2x49152 ![0, 1] bcast_S1x49152_S2x49152_0_1
      (shapeCast S1x49152 (iotaInDim S49152 32 0) shapeCasts_S49152_S1x49152)) shapeCasts_S2x49152_S98304 = twice := by
  funext e
  have he : (e 0).val < 98304 := (e 0).isLt
  rw [shapeCast_apply _ _ e (ix2 (n0 := 2) (n1 := 49152) ⟨(e 0).val / 49152, by omega⟩ ⟨(e 0).val % 49152, by omega⟩) (by
    rw [Shape.rowMajor_val_two, Shape.rowMajor_val_one]
    show (e 0).val / 49152 * 49152 + (e 0).val % 49152 = (e 0).val
    omega)]
  unfold broadcastInDim
  rw [shapeCast_apply _ _ _ (ix1 (n := 49152) ⟨(e 0).val % 49152, by omega⟩) (by
    rw [Shape.rowMajor_val_two, Shape.rowMajor_val_one]
    show (e 0).val % 49152 = 0 * 49152 + (e 0).val % 49152
    omega)]
  rfl

variable {F : FTy → Type} [FloatOps F] (m : (ℓ : Loc nD τ sig) → Buf (Elt F) ℓ)

set_option maxHeartbeats 2000000 in
/-- The words the gather is handed: the table in 200 rows of 512. -/
theorem V_words (c : Dev nD) : V m c main_v13
    = shapeCast S200x1x512 (table (m ((c : Thread nD τ).loc main_arg1))) shapeCasts_S102400_S200x1x512 := by
  unfold table
  rw [← tiled_eq]
  show StableHlo.after hostOps0 (fun b => m (c, b)) _ = _
  after_results <;> rfl

/-- Word `t` of grid point `i`'s row is entry `512 i + t` of the table. -/
theorem V_words_apply (c : Dev nD) (i : Fin 200) (t : Fin 512) (h : 512 * i.val + t.val < 102400) :
    (V m c main_v13 : S200x1x512.Idx → BitVec 32) (ix3 i ⟨0, Nat.one_pos⟩ t) = table (m ((c : Thread nD τ).loc main_arg1)) (ix1 ⟨512 * i.val + t.val, h⟩) := by
  rw [V_words]
  exact shapeCast_apply _ _ _ _ (by
    rw [Shape.rowMajor_val_three, Shape.rowMajor_val_one]
    show 512 * i.val + t.val = (i.val * 1 + 0) * 512 + t.val
    omega)

end Cert.Gather

end
-- ==== Proof.Gather.Ref.lean ====
/-
  The reference's result read at an index: row `r` is the token row the routing table names at `r`, the table's words
  being in range, so that neither the wrap of an index below zero nor the clamp of the row changes them.
-/
module

public import proofs.«01_k».proof.Proof.Gather.Table
public import proofs.«01_k».proof.Proof.Gen.ReferenceIdeal
public import proofs.«01_k».proof.Proof.Gen.ReferenceIdeal.Run

@[expose] public section

set_option maxRecDepth 16384

noncomputable section

namespace Cert.Gather

open Idealize.ShloMosaic Idealize.ShloMosaic.TcCoe Idealize.ShloMosaic.StableHlo Idealize.ShloMosaic.ValueIdx Idealize.SL.Sem

/-- The gathered rows: row `r` of the result is the row of the tokens that the table names at `r`. -/
def gathered {F : FTy → Type} (x : Cert.KernelIdeal.S49152x512.Idx → Elt F .i32) (d : Cert.KernelIdeal.S2x49152.Idx → BitVec 32) :
    Cert.KernelIdeal.S102400x512.Idx → Elt F .i32 :=
  fun y => x (ix2 (n0 := 49152) (n1 := 512) ⟨(table d (ix1 (n := 102400) (y 0))).toNat, table_lt d _⟩ (y 1))

section
open Cert.ReferenceIdeal Cert.ReferenceIdeal.Gen

/-- The reference's tokens, two counts one after the other, are the tokens twice over. -/
theorem joined_eq : concatenate S98304 0 [⟨S49152, (iotaInDim S49152 32 0)⟩, ⟨S49152, (iotaInDim S49152 32 0)⟩] concatenates_S49152_S49152_S98304_d0 = twice := by
  funext e
  have he : (e 0).val < 98304 := (e 0).isLt
  by_cases h : (e 0).val < 49152
  · rw [concatenate_pair_apply_left (s₁ := S49152) (s₂ := S49152) _ _ _ _ e rfl (ix1 (n := 49152) ⟨(e 0).val, h⟩) (fun b => by
      obtain rfl : b = 0 := Subsingleton.elim _ _
      rfl)]
    show BitVec.ofNat 32 (e 0).val = BitVec.ofNat 32 ((e 0).val % 49152)
    rw [Nat.mod_eq_of_lt h]
  · obtain ⟨k, hk⟩ : ∃ k, k + 49152 = (e 0).val := ⟨(e 0).val - 49152, by omega⟩
    rw [concatenate_pair_apply_right (t := S98304) (s₁ := S49152) (s₂ := S49152) (a := (0 : Fin 1)) (j := e) (hr := rfl) (hr₂ := rfl)
      (i := ix1 (n := 49152) ⟨k, by omega⟩) (hi := fun b hb => absurd (Subsingleton.elim (b.cast rfl : Fin 1) 0) hb) (ha := hk)]
    show BitVec.ofNat 32 k = BitVec.ofNat 32 ((e 0).val % 49152)
    rw [← hk, Nat.add_mod_right, Nat.mod_eq_of_lt (by omega)]

/-- A row gather read at an index: the row the index word names, read signed and clamped. -/
theorem rows_apply {α : Type} (x : S49152x512.Idx → α) (idx : S102400x1.Idx → BitVec 32) (y : S102400x512.Idx) :
    Host.gather gather_S49152x512_S102400x1_S102400x512_1_0_n_n_0_1_1512 x idx y
      = x (ix2 (n0 := 49152) (n1 := 512) ⟨min (idx (ix2 (n0 := 102400) (n1 := 1) (y 0) ⟨0, Nat.one_pos⟩)).toInt.toNat 49151, by omega⟩ (y 1)) := by
  unfold Host.gather
  congr 1
  funext a
  refine Fin.ext ?_
  show (gather_S49152x512_S102400x1_S102400x512_1_0_n_n_0_1_1512).start y idx a + (gather_S49152x512_S102400x1_S102400x512_1_0_n_n_0_1_1512).batchCoord y a
      + (gather_S49152x512_S102400x1_S102400x512_1_0_n_n_0_1_1512).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S49152x512_S102400x1_S102400x512_1_0_n_n_0_1_1512).startIndexMap from List.mem_singleton.mpr rfl)]
    have hsi : (gather_S49152x512_S102400x1_S102400x512_1_0_n_n_0_1_1512).siIdx y ⟨List.idxOf (0 : Fin 2) (gather_S49152x512_S102400x1_S102400x512_1_0_n_n_0_1_1512).startIndexMap,
        List.idxOf_lt_length_iff.2 (List.mem_singleton.mpr rfl)⟩ = ix2 (n0 := 102400) (n1 := 1) (y 0) ⟨0, Nat.one_pos⟩ := by
      funext b; refine Fin.ext ?_
      match b with
      | ⟨0, _⟩ => rfl
      | ⟨1, _⟩ => rfl
    rw [hsi]
    rfl
  · unfold GatherDims.start
    rw [dif_neg (show (1 : Fin 2) ∉ (gather_S49152x512_S102400x1_S102400x512_1_0_n_n_0_1_1512).startIndexMap from fun h => absurd (List.mem_singleton.mp h) (by decide))]
    simp only [Nat.zero_add]
    rfl

/-- An index word in range keeps itself through the wrap and the clamp. -/
theorem wrap_keep (w : BitVec 32) (h : w.toNat < 49152) :
    min (Scalar.select (IntOp.cmpi .slt w 0#32) (IntOp.addi w 49152#32) w).toInt.toNat 49151 = w.toNat := by
  have hm : w.msb = false := by
    rw [BitVec.msb_eq_decide]; exact decide_eq_false (by omega)
  have hi : w.toInt = w.toNat := BitVec.toInt_eq_toNat_of_msb hm
  have hc : IntOp.cmpi .slt w 0#32 = 0#1 := by
    show BitVec.ofBool (w.slt 0#32) = 0#1
    have : w.slt 0#32 = false := by
      rw [BitVec.slt, hi]; exact decide_eq_false (by simp)
    rw [this]; rfl
  rw [hc, ValueIdx.select_zero, hi]
  show min w.toNat 49151 = w.toNat
  omega

/-- The rows a table of in-range words names, as the reference takes them. -/
theorem take_rows {α : Type} (x : S49152x512.Idx → α) (tb : S102400.Idx → BitVec 32) (h : ∀ e, (tb e).toNat < 49152) :
    Host.gather gather_S49152x512_S102400x1_S102400x512_1_0_n_n_0_1_1512 x (broadcastInDim S102400x1 ![0] bcast_S102400_S102400x1_0
      (select (cmpi .slt tb (broadcastInDim S102400 ![] bcast_S_S102400 (constantI S_ 32 0#32)))
        (addi tb (broadcastInDim S102400 ![] bcast_S_S102400 (constantI S_ 32 49152#32))) tb))
      = fun y => x (ix2 (n0 := 49152) (n1 := 512) ⟨(tb (ix1 (n := 102400) (y 0))).toNat, h _⟩ (y 1)) := by
  funext y
  rw [rows_apply]
  refine congrArg (fun r => x (ix2 (n0 := 49152) (n1 := 512) r (y 1))) (Fin.ext ?_)
  have hb : (broadcastInDim S102400x1 ![0] bcast_S102400_S102400x1_0
      (select (cmpi .slt tb (broadcastInDim S102400 ![] bcast_S_S102400 (constantI S_ 32 0#32)))
        (addi tb (broadcastInDim S102400 ![] bcast_S_S102400 (constantI S_ 32 49152#32))) tb)) (ix2 (n0 := 102400) (n1 := 1) (y 0) ⟨0, Nat.one_pos⟩)
      = Scalar.select (IntOp.cmpi .slt (tb (ix1 (n := 102400) (y 0))) 0#32) (IntOp.addi (tb (ix1 (n := 102400) (y 0))) 49152#32) (tb (ix1 (n := 102400) (y 0))) := by
    have q : ∀ (g : S102400.Idx → BitVec 32), broadcastInDim S102400x1 ![0] bcast_S102400_S102400x1_0 g (ix2 (n0 := 102400) (n1 := 1) (y 0) ⟨0, Nat.one_pos⟩)
        = g (ix1 (n := 102400) (y 0)) := by
      intro g
      unfold broadcastInDim
      congr 1
      funext a; obtain rfl : a = 0 := Subsingleton.elim _ _
      exact dif_neg (show ¬ (102400 = 1) by omega)
    rw [q]; rfl
  show min (BitVec.toInt _).toNat 49151 = _
  rw [hb]
  exact wrap_keep _ (h _)

variable {F : FTy → Type} [FloatOps F]

/-- The reference's result is the gathered rows. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = gathered (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [joined_eq]
      exact take_rows (m ((c.tc : Thread nD τ).loc main_arg0)) (table (m ((c.tc : Thread nD τ).loc main_arg1))) (table_lt _)), (h c).2⟩)
    (Cert.ReferenceIdeal.Value.run m ρ)
end

end Cert.Gather

end
-- ==== Proof.Gather.Words.lean ====
/-
  The words a grid point reads, as entries of the routing table, and the gathered result filled up to a point.
-/
module

public import proofs.«01_k».proof.Proof.Gather.Run
public import proofs.«01_k».proof.Proof.Gather.Ref

@[expose] public section

set_option maxRecDepth 16384

noncomputable section

namespace Cert.Gather

open Cert.KernelIdeal Cert.KernelIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The destinations, and the tokens, on core `c` as launched. -/
abbrev dest (c : Dev nD) : S2x49152.Idx → BitVec 32 := m ((c : Thread nD τ).loc main_arg1)
abbrev toks (c : Dev nD) : TokC F := m ((c : Thread nD τ).loc main_arg0)

theorem ix2_eq {a b : ℕ} (i : Fin a) (j : Fin b) : ix2 i j = ValueIdx.ix2 i j := by
  funext d
  match d with
  | ⟨0, _⟩ => rfl
  | ⟨1, _⟩ => rfl

theorem coord_val (t : Fin cfg0.N) : ((grid0.coords t) 0).val = t.val := by
  revert t; decide +kernel

theorem pt_lt (t : Fin cfg0.N) : t.val < 200 := N_0 ▸ t.isLt

theorem off1_eq (k : Fin k0_t1_loop.trips) : k0_off1 k = ![0, 0, k.val] := by
  revert k; decide +kernel

/-- The staged block of point `t` at word `k` is the table's entry `512 t + k`. -/
theorem iblk_apply (c : Dev nD) (t : Fin cfg0.N) (k : Fin 512) (h : 512 * t.val + k.val < 102400) :
    (iblk m c 0 t : S1x1x512.Idx → BitVec 32) (ValueIdx.ix3 ⟨0, Nat.one_pos⟩ ⟨0, Nat.one_pos⟩ k) = table (dest m c) (ValueIdx.ix1 ⟨512 * t.val + k.val, h⟩) := by
  rw [← V_words_apply m c ⟨t.val, pt_lt t⟩ k h]
  show V m c main_v13 (((cfg0.win 0).blk t).view.emb _) = _
  congr 1
  funext a
  apply Fin.ext
  have hc := coord_val t
  match a with
  | ⟨0, _⟩ =>
    blk_simp
    show (BitVec.ofNat 32 ((grid0.coords t) 0).val).toNat = t.val
    rw [hc, BitVec.toNat_ofNat]
    have := pt_lt t
    omega
  | ⟨1, _⟩ =>
    blk_simp
    rfl
  | ⟨2, _⟩ =>
    blk_simp
    show 0 * 512 + k.val = k.val
    omega

/-- Word `k` as the body reads it off a staging memref that holds point `t`'s block. -/
theorem word_eq (c : Dev nD) (t : Fin cfg0.N) (M0 : Memref sig .tc .smem S1x1x512 .i32) (f0 : Cont (F := F) c M0)
    (hf : M0.view.read (Elt F) f0 = iblk m c 0 t) (k : Fin k0_t1_loop.trips) (h : 512 * t.val + k.val < 102400) :
    wd M0 f0 k = table (dest m c) (ValueIdx.ix1 ⟨512 * t.val + k.val, h⟩) := by
  have hk : k.val < 512 := trips_eq ▸ k.isLt
  unfold wd
  rw [View.readAt_apply, hf, ← iblk_apply m c t ⟨k.val, hk⟩ h]
  congr 1
  funext a
  apply Fin.ext
  have ho := off1_eq k
  match a with
  | ⟨0, _⟩ => show k0_off1 k 0 + 0 * 1 = 0; rw [ho]; rfl
  | ⟨1, _⟩ => show k0_off1 k 1 + 0 * 1 = 0; rw [ho]; rfl
  | ⟨2, _⟩ => show k0_off1 k 2 + 0 * 1 = k.val; rw [ho]; show k.val + 0 = k.val; omega

/-- The result with the rows of the first `n` points gathered and the others at `fv`. -/
def acc (x : TokC F) (d : S2x49152.Idx → BitVec 32) (fv : ResC F) (n : ℕ) : ResC F :=
  fun y => if (y 0).val < 512 * n then gathered (F := F) x d y else fv y

theorem acc_zero (x : TokC F) (d : S2x49152.Idx → BitVec 32) (fv : ResC F) : acc x d fv 0 = fv := by
  funext y; unfold acc; rw [if_neg (by omega)]

theorem acc_full (x : TokC F) (d : S2x49152.Idx → BitVec 32) (fv : ResC F) : acc x d fv 200 = gathered (F := F) x d := by
  funext y; unfold acc; rw [if_pos]
  have : (y 0).val < 102400 := (y 0).isLt
  omega

/-- One point takes the result filled before it to the result filled with it. -/
theorem written_acc (x : TokC F) (d : S2x49152.Idx → BitVec 32) (fv : ResC F) (i : grid0.Coords)
    (w : Fin k0_t1_loop.trips → BitVec 32) (hok : ∀ t, (w t).toNat < 49152) (hi : (i 0).val < 200)
    (hw : ∀ (k : Fin k0_t1_loop.trips) (h : 512 * (i 0).val + k.val < 102400), w k = table d (ValueIdx.ix1 ⟨512 * (i 0).val + k.val, h⟩)) :
    written i w hok (acc x d fv (i 0).val) x = acc x d fv ((i 0).val + 1) := by
  funext y
  have hT := trips_eq
  have hy : (y 0).val < 102400 := (y 0).isLt
  by_cases h : 512 * (i 0).val ≤ (y 0).val ∧ (y 0).val < 512 * (i 0).val + 512
  · have hk : (y 0).val - 512 * (i 0).val < k0_t1_loop.trips := by omega
    rw [written_on i w hok (acc x d fv (i 0).val) x ⟨(y 0).val - 512 * (i 0).val, hk⟩ y (by show _ = 512 * (i 0).val + ((y 0).val - 512 * (i 0).val); omega)]
    unfold acc
    rw [if_pos (by omega)]
    unfold gathered
    have e : w ⟨(y 0).val - 512 * (i 0).val, hk⟩ = table d (ValueIdx.ix1 (n := 102400) (y 0)) := by
      rw [hw _ (by show 512 * (i 0).val + ((y 0).val - 512 * (i 0).val) < 102400; omega)]
      congr 1
      funext a
      apply Fin.ext
      match a with
      | ⟨0, _⟩ => show 512 * (i 0).val + ((y 0).val - 512 * (i 0).val) = (y 0).val; omega
    refine (congrArg x (ix2_eq (a := 49152) (b := 512) _ _)).trans ?_
    simp only [e]
  · unfold written
    rw [dif_neg h]
    unfold acc
    by_cases h' : (y 0).val < 512 * (i 0).val
    · rw [if_pos h', if_pos (by omega)]
    · rw [if_neg h', if_neg (by omega)]

end Cert.Gather

end
-- ==== Proof.Gather.Launch.lean ====
/-
  The token gather's launch. The token array and the result stay in place: both pass through the body's invariant beside
  the transfers' semaphore at zero, the result entering point `t` with the rows of the points before it gathered and
  leaving with its own 512 rows gathered too.
-/
module

public import proofs.«01_k».proof.Proof.Gather.Words
public import proofs.«01_k».proof.Proof.Gen.KernelIdeal.Launch

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The contents between points -/

/-- The buffers' contents with `n` points done: the region's entry contents, the result filled so far. -/
def filled (c : Dev nD) (n : ℕ) : (b : Ref sig .tc) → Buf (Elt F) ((c : Thread nD τ).loc b) :=
  Function.update (V m c) main_v14 (acc (toks m c) (dest m c) (V m c main_v14) n)

theorem filled_res (c : Dev nD) (n : ℕ) : filled m c n main_v14 = acc (toks m c) (dest m c) (V m c main_v14) n := Function.update_self ..
theorem filled_tok (c : Dev nD) (n : ℕ) : filled m c n main_arg0 = toks m c :=
  (Function.update_of_ne (by decide) ..).trans (V_main_arg0 m c)
theorem filled_zero (c : Dev nD) : filled m c 0 = V m c := by
  unfold filled; rw [acc_zero]; exact Function.update_eq_self ..

/-! ## The proof data -/

abbrev osem : Unit → SemLoc sig := fun _ => .dma cc0_scratch0.sem
/-- The buffers that pass through the body's invariant: the tokens, read by the transfers, and the result. -/
abbrev R2 : Finset (Ref sig .tc) := {main_arg0, main_v14}

theorem routed_R2 (c : Dev nD) (W : (b : Ref sig .tc) → Buf (Elt F) ((c : Thread nD τ).loc b)) :
    (Pipeline.routed (Val := Elt F) R2 c W : sProp 𝕄) = iprop(heldW c (Memref.whole main_arg0) (W main_arg0) ∗ heldW c (Memref.whole main_v14) (W main_v14)) := by
  unfold Pipeline.routed; rw [bigSep_insert (by decide), BI.bigSep_singleton]; rfl

def dats (_ : Fin 1) (c : Dev nD) : Dat τ (Elt F) Unit ℕ (UC sig nD τ) ℕ cfg0 c where
  A w := V m c (Pipeline.arrRef spec0 w)
  after w t := match w with
    | ⟨0, _⟩ => iblk m c 0 t
  Φ t := Ends spec0 osem R2 c (filled m c t.val)
  q _ := fullShare
  owed _ := 0

abbrev 𝒱₀ : Variants := Variants.none

theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- The invariant, part by part. -/
theorem ends_eq (c : Dev nD) (n : ℕ) :
    (Ends spec0 osem R2 c (filled m c n) : sProp 𝕄)
      = iprop((heldW c (Memref.whole main_arg0) (toks m c) ∗ heldW c (Memref.whole main_v14) (acc (toks m c) (dest m c) (V m c main_v14) n))
          ∗ semVal ((c : Thread nD τ), osem ()) 0 ∗ emp ∗ ∃ r, prngReg c r) := by
  unfold Ends; rw [routed_R2, ownSems_eq, scopedRest0_eq, filled_res, filled_tok]; rfl

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl

/-- The body obligation: at every point the body run, its words the table's. -/
theorem body_obligation [∀ e, Nonempty (Elt F e)] (c : Dev nD) :
    BodyObligation (dats m 0 c) (defs₀ (F := F)) 𝒱₀ () Set.univ := fun t => by
  rw [bigSep_W0, bigSep_W0]
  rw [show (dats m 0 c).Φ t.castSucc = Ends spec0 osem R2 c (filled m c t.val) from rfl,
    show (dats m 0 c).Φ t.succ = Ends spec0 osem R2 c (filled m c (t.val + 1)) from rfl, ends_eq, ends_eq]
  unfold Dat.owesAt Pipeline.owesWithin
  rw [show (dats m 0 c).owed t.castSucc = 0 from rfl, show (dats m 0 c).owed t.succ = 0 from rfl]
  have hset : (win0_0.stage (cfg0.slots t 0)).view.set = Finset.univ := Memref.IsWhole.set_eq_univ (hstage0_0 ((cfg0.slots t 0).cast nbuf0_0))
  unfold owns
  rw [show ((cfg0.win 0).stage (cfg0.slots t 0)).view.set = Finset.univ from hset]
  iintro ⟨⟨⟨Ha, Hv⟩, Hs, -, Hp⟩, ⟨%W, %hW, HO⟩, ⟨%d0, %f0, %hf0, H0⟩⟩
  rw [before_0] at hf0
  have hwd := fun k h => word_eq m c t (win0_0.stage (cfg0.slots t 0)) f0 hf0 k h
  have hN := pt_lt t
  have hT := trips_eq
  have hok : ∀ k, (wd (win0_0.stage (cfg0.slots t 0)) f0 k).toNat < 49152 := fun k => by
    have := k.isLt
    rw [hwd k (by omega)]; exact table_lt _ _
  have hacc := written_acc (toks m c) (dest m c) (V m c main_v14) (grid0.coords t) _ hok (by rw [coord_val]; exact hN) (fun k h => by
    have h' : 512 * t.val + k.val < 102400 := by rw [← coord_val]; exact h
    rw [hwd k h']; congr 2; apply Fin.ext; show 512 * t.val + k.val = _; rw [← coord_val])
  rw [coord_val] at hacc
  iapply (kernelRun c (grid0.coords t) (win0_0.stage (cfg0.slots t 0)) (hstage0_0 ((cfg0.slots t 0).cast nbuf0_0)) f0 hok
    (acc (toks m c) (dest m c) (V m c main_v14) t.val) (toks m c) W)
  rw [hacc]
  isplitl [H0]; · iexact H0
  isplitl [Ha]; · iexact Ha
  isplitl [Hv]; · iexact Hv
  isplitl [Hs]; · iexact Hs
  isplitl [HO]; · iexact HO
  iintro ⟨H0, Ha, Hv, Hs, ⟨%W', HO⟩⟩
  isplitl [Ha Hv Hs Hp]
  · isplitl [Ha Hv]
    · isplitl [Ha]; · iexact Ha
      iexact Hv
    isplitl [Hs]; · iexact Hs
    isplitr; · iempintro
    iexact Hp
  isplitl [HO]
  · iexists W'; isplitr; · ipureintro; exact fun _ _ => Or.inl trivial
    iexact HO
  iexists f0; isplitr
  · ipureintro; dsimp only [dats]; exact hf0
  iexact H0

/-! ## The launch -/

theorem ownSemFacts : Pipeline.OwnSemFacts spec0 osem := by decide

/-- From any memory with zero counters every weakly fair execution terminates, with the gathered rows in the result, the
    arguments as launched and every counter at zero. -/
theorem run_main [∀ e, Nonempty (Elt F e)] :
    θ_run defs (onTc (τ := τ) (main (F := F))) ⟨m, fun _ => 0, ρ⟩ (fun r => (∀ c : Dev nD,
      r.2.mem ((c : Thread nD τ).loc main_v14) = gathered (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r (h : RoutedPost cfgs (dats m) 0 R2 (V m) (fun c => filled m c 200) r ∧ r.2.sem = fun _ => 0) => ⟨fun c =>
      ⟨((h.1 c).2.1 main_v14 (by decide)).trans ((filled_res m c 200).trans (acc_full _ _ _)),
        ((h.1 c).2.1 main_arg0 (by decide)).trans (filled_tok m c 200),
        ((h.1 c).2.2 main_arg1 (by decide)).trans (V_main_arg1 m c)⟩, h.2⟩)
    (Pipeline.θ_run_frame_routed cfgs (dats m) 0 launch0 ownSemFacts defs₀ 𝒱₀ m ρ main
      (hbody := fun c => (body_obligation m c).loose) (hshare := fun c => (dats m 0 c).share_full fun _ => rfl)
      (howed := fun _ _ => rfl) (V := V m)
      (hmain := Pipeline.hmain_prefix cfgs 0 defs₀ 𝒱₀ m main hostOps0 hostOps0_sub hostOps0_fresh main_chain)
      (hA := fun _ _ => rfl) (R := R2) (hR := by decide) (Y := fun c => filled m c 200)
      (hin := fun c => by
        show Ends spec0 osem R2 c (V m c) ⊢ Ends spec0 osem R2 c (filled m c 0)
        rw [filled_zero])
      (hout := fun c => by
        show Ends spec0 osem R2 c (filled m c cfg0.N) ⊢ _
        rw [show cfg0.N = 200 from N_0]) (Q' := _))

end Cert.Gather

end
-- ==== Proof.Gather.Same.lean ====
/-
  The gather's program and the one read at the reals are one text: a run of the second is a run of the first.
-/
module

public import proofs.«01_k».proof.Proof.Gen.Kernel
public import proofs.«01_k».proof.Proof.Gen.KernelIdeal

@[expose] public section

set_option maxHeartbeats 1000000

namespace Cert.Gather

open Idealize.ShloMosaic Idealize.SL.Sem

variable {F : FTy → Type} [FloatOps F]

theorem body_eq : Cert.Kernel.cc0_moe_gather (F := F) = Cert.KernelIdeal.cc0_moe_gather (F := F) := rfl

theorem bodies_eq : (Cert.Kernel.defs₀ (F := F) : Defs Cert.Kernel.nD Cert.Kernel.τ Cert.Kernel.sig (Elt F) Cert.Kernel.Λ₀) = Cert.KernelIdeal.defs₀ (F := F) := by
  refine congrArg Defs.onTc ?_
  funext ℓ args
  match ℓ, args with
  | ⟨0, _⟩, (t, s) => rfl

theorem defs_eq : (Cert.Kernel.defs (F := F) : Defs Cert.Kernel.nD Cert.Kernel.τ Cert.Kernel.sig (Elt F) _) = Cert.KernelIdeal.defs (F := F) :=
  congrArg (fun d => Pipeline.defs (Cert.KernelIdeal.pcfgs (F := F)) d) bodies_eq

theorem main_eq : Cert.Kernel.main (F := F) = Cert.KernelIdeal.main (F := F) := rfl

theorem run_same (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  Eq.mpr (congrArg₂ (fun d (p : Dev Cert.KernelIdeal.nD → Prog (TpuEff Cert.KernelIdeal.nD Cert.KernelIdeal.τ Cert.KernelIdeal.sig (Elt F)
    (Pipeline.Sig Cert.KernelIdeal.Λ₀ (Fin 1) fun p => (Cert.KernelIdeal.pcfgs (F := F) p).Adm) .tc) PUnit) => θ_run d (onTc (τ := Cert.KernelIdeal.τ) p) s Q) defs_eq main_eq) h

end Cert.Gather
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Experts.Frame
public import proofs.«01_k».proof.Proof.Experts.Table
public import proofs.«01_k».proof.Proof.Experts.Same
public import proofs.«01_k».proof.Proof.Experts.Equal
public import proofs.«01_k».proof.Proof.Gen.ExpertsRefIdeal
public import proofs.«01_k».proof.Proof.Gen.ExpertsRefIdeal.Run
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Qkv
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.OddOut
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.OddOutRefIdeal.Run
public import proofs.«01_k».proof.Proof.Gen.EvenOut
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.EvenIn
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Attn.Value
public import proofs.«01_k».proof.Proof.Attn.Ref
public import proofs.«01_k».proof.Proof.EvenIn.Same
public import proofs.«01_k».proof.Proof.EvenIn.Value
public import proofs.«01_k».proof.Proof.EvenIn.Ref
public import proofs.«01_k».proof.Proof.Proj.QkvSame
public import proofs.«01_k».proof.Proof.Proj.QkvValue
public import proofs.«01_k».proof.Proof.Proj.QkvRef
public import proofs.«01_k».proof.Proof.Proj.OddOutSame
public import proofs.«01_k».proof.Proof.Proj.OddOutValue
public import proofs.«01_k».proof.Proof.Proj.OddOutRef
public import proofs.«01_k».proof.Proof.Proj.EvenOutSame
public import proofs.«01_k».proof.Proof.Proj.EvenOutValue
public import proofs.«01_k».proof.Proof.Proj.EvenOutRef
public import proofs.«01_k».proof.Proof.Ffn.Same
public import proofs.«01_k».proof.Proof.Ffn.Equal
public import proofs.«01_k».proof.Proof.Gather.Launch
public import proofs.«01_k».proof.Proof.Gather.Same
public import Idealize.ShloMosaic.Lib.Quiescent

@[expose] public section

noncomputable section

namespace Cert.Proof

open Idealize.ShloMosaic Idealize.SL.Sem Cert.Kernel

set_option maxHeartbeats 8000000

/-! ## The token gather -/

/-- The gather's frame as printed: the arguments as launched, every counter at zero. -/
theorem frame_kernel : Cert.quiescent_Kernel := fun m ρ _ =>
  Cert.Gather.run_same (F := Bits) _ _ ((θ_run Cert.KernelIdeal.defs _ _).mono (fun _ h => ⟨fun c => (h.1 c).2, h.2⟩) (Cert.Gather.run_main (F := Bits) m ρ))
/-- The same at the ideal values. -/
theorem frame_kernelIdeal : Cert.quiescent_KernelIdeal := fun m ρ _ =>
  (θ_run Cert.KernelIdeal.defs _ _).mono (fun _ h => ⟨fun c => (h.1 c).2, h.2⟩) (Cert.Gather.run_main (F := Ideal) m ρ)
/-- The reference's frame at the ideal values: it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.Gather.ref_run (F := Ideal) m ρ)
/-- The reference's frame as printed. -/
theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

/-- Over the reals the gather and its reference leave the same rows. -/
theorem algebraic_gather : Cert.algebraic_KernelIdeal_ReferenceIdeal := fun m ρ m' ρ' _ hm =>
  ⟨fun c => Cert.Gather.gathered (F := Ideal) (Cert.Gather.toks m c) (Cert.Gather.dest m c),
    (θ_run Cert.KernelIdeal.defs _ _).mono (fun _ h c => h.1 c) (Cert.Gather.run_main (F := Ideal) m ρ),
    (θ_run Cert.ReferenceIdeal.defs _ _).mono (fun _ h c => ⟨by rw [(h c).1, (hm c).1, (hm c).2], (h c).2⟩) (Cert.Gather.ref_run (F := Ideal) m' ρ')⟩

/-- At the bits the gather and its reference leave the same rows. -/
theorem bitexact_gather : Cert.bitexact_Kernel_Reference := fun m ρ m' ρ' _ hm =>
  ⟨fun c => Cert.Gather.gathered (F := Bits) (Cert.Gather.toks m c) (Cert.Gather.dest m c),
    Cert.Gather.run_same (F := Bits) _ _ ((θ_run Cert.KernelIdeal.defs _ _).mono (fun _ h c => h.1 c) (Cert.Gather.run_main (F := Bits) m ρ)),
    (θ_run Cert.ReferenceIdeal.defs _ _).mono (fun _ h c => ⟨by rw [(h c).1, (hm c).1, (hm c).2], (h c).2⟩) (Cert.Gather.ref_run (F := Bits) m' ρ')⟩

/-! ## The experts -/

/-- The experts' frame as printed. -/
theorem frame_experts : Cert.quiescent_Experts := fun m ρ _ =>
  Cert.ExpertsSame.run_same (F := Bits) _ _ (Cert.Experts.frame_of_ok (F := Bits) m ρ (Cert.Experts.ok m))
/-- The same at the ideal values. -/
theorem frame_expertsIdeal : Cert.quiescent_ExpertsIdeal := fun m ρ _ =>
  Cert.Experts.frame_of_ok (F := Ideal) m ρ (Cert.Experts.ok m)
/-- The reference's frame at the ideal values. -/
theorem frame_expertsRefIdeal : Cert.quiescent_ExpertsRefIdeal := fun m ρ _ =>
  (θ_run Cert.ExpertsRefIdeal.defs _ _).mono (fun r h => ⟨fun c => (h c).2, sem_eq_zero_of_no_sems (by decide) r.2⟩) (Cert.ExpertsRefIdeal.Value.run (F := Ideal) m ρ)

/-- Over the reals the experts and their reference leave the same rows. -/
theorem algebraic_experts : Cert.algebraic_ExpertsIdeal_ExpertsRefIdeal := fun m ρ m' ρ' _ hm =>
  ⟨fun _ => Cert.Experts.resultArr m,
    (θ_run Cert.ExpertsIdeal.defs _ _).mono (fun _ h => h) (Cert.Experts.run_value m ρ),
    (θ_run Cert.ExpertsRefIdeal.defs _ _).mono (fun _ h c => ⟨(h c).1.trans (by
      obtain rfl : c = 0 := Subsingleton.elim _ _
      exact Cert.Experts.ref_value m m' 0 (hm 0).1 (hm 0).2.1 (hm 0).2.2.1 (hm 0).2.2.2.1 (hm 0).2.2.2.2), (h c).2⟩) (Cert.ExpertsRefIdeal.Value.run (F := Ideal) m' ρ')⟩

/-! ## The feed-forward block -/

/-- The feed-forward block's frame as printed. -/
theorem frame_ffn : Cert.quiescent_Ffn := fun m ρ _ =>
  Cert.FfnSame.run_same (F := Bits) _ _ (Cert.FfnIdeal.Gen.frame (F := Bits) m ρ)
/-- The same at the ideal values. -/
theorem frame_ffnIdeal : Cert.quiescent_FfnIdeal := fun m ρ _ =>
  Cert.FfnIdeal.Gen.frame (F := Ideal) m ρ
/-- The reference's frame at the ideal values. -/
theorem frame_ffnRefIdeal : Cert.quiescent_FfnRefIdeal := fun m ρ _ =>
  (θ_run Cert.FfnRefIdeal.defs _ _).mono (fun r h => ⟨fun c => (h c).2, sem_eq_zero_of_no_sems (by decide) r.2⟩) (Cert.FfnRefValue.run m ρ)

/-- Over the reals the feed-forward block and its reference leave the same rows. -/
theorem algebraic_ffn : Cert.algebraic_FfnIdeal_FfnRefIdeal := fun m ρ m' ρ' _ hm =>
  ⟨fun c => Cert.FfnValue.resultArr m c,
    (θ_run Cert.FfnIdeal.defs _ _).mono (fun _ h => h) (Cert.FfnValue.run_value m ρ),
    (θ_run Cert.FfnRefIdeal.defs _ _).mono (fun _ h c => ⟨(h c).1.trans (by
      rw [(hm c).1, (hm c).2.1, (hm c).2.2.1, (hm c).2.2.2.1, (hm c).2.2.2.2]
      exact Cert.FfnValue.ref_array _ _ _ _ _), (h c).2⟩) (Cert.FfnRefValue.run m' ρ')⟩

/-! ## The attention's input projection -/

/-- The frame of the attention's input projection as printed. -/
theorem frame_qkv : Cert.quiescent_Qkv := fun m ρ _ =>
  Cert.QkvSame.run_same (F := Bits) _ _ (Cert.QkvIdeal.Gen.frame (F := Bits) m ρ)
/-- The same at the ideal values. -/
theorem frame_qkvIdeal : Cert.quiescent_QkvIdeal := fun m ρ _ =>
  Cert.QkvIdeal.Gen.frame (F := Ideal) m ρ
/-- The reference's frame at the ideal values. -/
theorem frame_qkvRefIdeal : Cert.quiescent_QkvRefIdeal := fun m ρ _ =>
  (θ_run Cert.QkvRefIdeal.defs _ _).mono (fun r h => ⟨fun c => (h c).2, sem_eq_zero_of_no_sems (by decide) r.2⟩) (Cert.QkvRefIdeal.Value.run (F := Ideal) m ρ)

/-- Over the reals the attention's input projection and its reference leave the same rows. -/
theorem algebraic_qkv : Cert.algebraic_QkvIdeal_QkvRefIdeal := fun m ρ m' ρ' _ hm =>
  ⟨fun c => Cert.QkvValue.resultArr m c,
    (θ_run Cert.QkvIdeal.defs _ _).mono (fun _ h => h) (Cert.QkvValue.run_value m ρ),
    (θ_run Cert.QkvRefIdeal.defs _ _).mono (fun _ h c => ⟨(h c).1.trans (by
      rw [(hm c).1, (hm c).2.1, (hm c).2.2]
      exact Cert.QkvRefValue.result_array _ _ _), (h c).2⟩) (Cert.QkvRefIdeal.Value.run (F := Ideal) m' ρ')⟩

/-! ## The attention's output projection -/

/-- The frame of the attention's output projection as printed. -/
theorem frame_oddOut : Cert.quiescent_OddOut := fun m ρ _ =>
  Cert.OddOutSame.run_same (F := Bits) _ _ (Cert.OddOutIdeal.Gen.frame (F := Bits) m ρ)
/-- The same at the ideal values. -/
theorem frame_oddOutIdeal : Cert.quiescent_OddOutIdeal := fun m ρ _ =>
  Cert.OddOutIdeal.Gen.frame (F := Ideal) m ρ
/-- The reference's frame at the ideal values. -/
theorem frame_oddOutRefIdeal : Cert.quiescent_OddOutRefIdeal := fun m ρ _ =>
  (θ_run Cert.OddOutRefIdeal.defs _ _).mono (fun r h => ⟨fun c => (h c).2, sem_eq_zero_of_no_sems (by decide) r.2⟩) (Cert.OddOutRefIdeal.Value.run (F := Ideal) m ρ)

/-- Over the reals the attention's output projection and its reference leave the same rows. -/
theorem algebraic_oddOut : Cert.algebraic_OddOutIdeal_OddOutRefIdeal := fun m ρ m' ρ' _ hm =>
  ⟨fun c => Cert.OddOutValue.resultArr m c,
    (θ_run Cert.OddOutIdeal.defs _ _).mono (fun _ h => h) (Cert.OddOutValue.run_value m ρ),
    (θ_run Cert.OddOutRefIdeal.defs _ _).mono (fun _ h c => ⟨(h c).1.trans (by
      rw [(hm c).1, (hm c).2.1, (hm c).2.2]
      exact Cert.OddOutRefValue.result_array _ _ _), (h c).2⟩) (Cert.OddOutRefIdeal.Value.run (F := Ideal) m' ρ')⟩

/-! ## The even layer's output projection -/

/-- The frame of the even layer's output projection as printed. -/
theorem frame_evenOut : Cert.quiescent_EvenOut := fun m ρ _ =>
  Cert.EvenOutSame.run_same (F := Bits) _ _ (Cert.EvenOutIdeal.Gen.frame (F := Bits) m ρ)
/-- The same at the ideal values. -/
theorem frame_evenOutIdeal : Cert.quiescent_EvenOutIdeal := fun m ρ _ =>
  Cert.EvenOutIdeal.Gen.frame (F := Ideal) m ρ
/-- The reference's frame at the ideal values. -/
theorem frame_evenOutRefIdeal : Cert.quiescent_EvenOutRefIdeal := fun m ρ _ =>
  (θ_run Cert.EvenOutRefIdeal.defs _ _).mono (fun r h => ⟨fun c => (h c).2, sem_eq_zero_of_no_sems (by decide) r.2⟩) (Cert.EvenOutRefIdeal.Value.run (F := Ideal) m ρ)

/-- Over the reals the even layer's output projection and its reference leave the same rows. -/
theorem algebraic_evenOut : Cert.algebraic_EvenOutIdeal_EvenOutRefIdeal := fun m ρ m' ρ' _ hm =>
  ⟨fun c => Cert.EvenOutValue.resultArr m c,
    (θ_run Cert.EvenOutIdeal.defs _ _).mono (fun _ h => h) (Cert.EvenOutValue.run_value m ρ),
    (θ_run Cert.EvenOutRefIdeal.defs _ _).mono (fun _ h c => ⟨(h c).1.trans (by
      rw [(hm c).1, (hm c).2.1, (hm c).2.2.1, (hm c).2.2.2]
      exact Cert.EvenOutRefValue.result_array _ _ _ _), (h c).2⟩) (Cert.EvenOutRefIdeal.Value.run (F := Ideal) m' ρ')⟩

/-! ## The even layer's input -/

/-- The frame of the even layer's input as printed. -/
theorem frame_evenIn : Cert.quiescent_EvenIn := fun m ρ _ =>
  Cert.EvenInSame.run_same (F := Bits) _ _ (Cert.EvenInIdeal.Gen.frame (F := Bits) m ρ)
/-- The same at the ideal values. -/
theorem frame_evenInIdeal : Cert.quiescent_EvenInIdeal := fun m ρ _ =>
  Cert.EvenInIdeal.Gen.frame (F := Ideal) m ρ
/-- The reference's frame at the ideal values. -/
theorem frame_evenInRefIdeal : Cert.quiescent_EvenInRefIdeal := fun m ρ _ =>
  (θ_run Cert.EvenInRefIdeal.defs _ _).mono (fun r h => ⟨fun c => (h c).2.2, sem_eq_zero_of_no_sems (by decide) r.2⟩) (Cert.EvenInRefIdeal.Value.run (F := Ideal) m ρ)

/-- Over the reals the even layer's input and its reference leave the same rows, the mixed ones and the rest of the projection. -/
theorem algebraic_evenIn : Cert.algebraic_EvenInIdeal_EvenInRefIdeal := fun m ρ m' ρ' _ hm =>
  ⟨fun c => Cert.EvenInValue.mixerArr m c, fun c => Cert.EvenInValue.restArr m c,
    (θ_run Cert.EvenInIdeal.defs _ _).mono (fun _ h => h) (Cert.EvenInValue.run_value m ρ),
    (θ_run Cert.EvenInRefIdeal.defs _ _).mono (fun _ h c => ⟨(h c).1.trans (by
      rw [Cert.EvenInRefValue.mixer_eq, (hm c).1, (hm c).2.1, (hm c).2.2.1, (hm c).2.2.2.1, (hm c).2.2.2.2.1, (hm c).2.2.2.2.2.1, (hm c).2.2.2.2.2.2]
      exact Cert.EvenInRefValue.mixer_array _ _ _ _ _ _ _), (h c).2.1.trans (by
      rw [(hm c).1, (hm c).2.1, (hm c).2.2.1]
      exact Cert.EvenInRefValue.rest_array _ _ _), (h c).2.2⟩) (Cert.EvenInRefIdeal.Value.run (F := Ideal) m' ρ')⟩

/-! ## The attention -/

/-- The frame of the attention as printed. -/
theorem frame_attn : Cert.quiescent_Attn := fun m ρ _ =>
  Cert.Attn.Gen.frame (F := Bits) m ρ
/-- The same with the mask's constant named, at the ideal values. -/
theorem frame_attnIdeal : Cert.quiescent_AttnIdeal := fun m ρ _ =>
  Cert.AttnIdeal.Gen.frame (F := Ideal) m ρ
/-- The reference's frame at the ideal values. -/
theorem frame_attnRefIdeal : Cert.quiescent_AttnRefIdeal := fun m ρ _ =>
  (θ_run Cert.AttnRefIdeal.defs _ _).mono (fun r h => ⟨fun c => (h c).2, sem_eq_zero_of_no_sems (by decide) r.2⟩) (Cert.AttnRefIdeal.Value.run (F := Ideal) m ρ)

/-- The one rewrite names the mask's constant −∞. -/
theorem preserves_attn : Cert.preserves_Attn_AttnIdeal := IdealRules.named_const.statement Cert.AttnIdeal.κ "mask" .f32 0xF149F2CA#32 ⊥ rfl

/-- Over the reals the attention and its reference leave the same rows. -/
theorem algebraic_attn : Cert.algebraic_AttnIdeal_AttnRefIdeal := fun m ρ m' ρ' _ hm =>
  ⟨fun c => Cert.AttnValue.attnArr m c,
    (θ_run Cert.AttnIdeal.defs _ _).mono (fun _ h => h) (Cert.AttnValue.run_value m ρ),
    (θ_run Cert.AttnRefIdeal.defs _ _).mono (fun _ h c => ⟨(h c).1.trans (by
      rw [Cert.AttnRefValue.attn_eq, (hm c).1, (hm c).2.1, (hm c).2.2.1, (hm c).2.2.2.1, (hm c).2.2.2.2]
      exact Cert.AttnRefValue.attn_array _ _ _ _ _), (h c).2⟩) (Cert.AttnRefIdeal.Value.run (F := Ideal) m' ρ')⟩

theorem claim : Cert.Claim :=
  ⟨Cert.Kernel.Gen.facts, Cert.KernelIdeal.Gen.facts, Cert.ReferenceIdeal.Gen.facts, Cert.Reference.Gen.facts,
    Cert.Experts.Gen.facts, Cert.ExpertsIdeal.Gen.facts, Cert.ExpertsRefIdeal.Gen.facts,
    Cert.Ffn.Gen.facts, Cert.FfnIdeal.Gen.facts, Cert.FfnRefIdeal.Gen.facts,
    Cert.Qkv.Gen.facts, Cert.QkvIdeal.Gen.facts, Cert.QkvRefIdeal.Gen.facts,
    Cert.OddOut.Gen.facts, Cert.OddOutIdeal.Gen.facts, Cert.OddOutRefIdeal.Gen.facts,
    Cert.EvenOut.Gen.facts, Cert.EvenOutIdeal.Gen.facts, Cert.EvenOutRefIdeal.Gen.facts,
    Cert.EvenIn.Gen.facts, Cert.EvenInIdeal.Gen.facts, Cert.EvenInRefIdeal.Gen.facts,
    Cert.Attn.Gen.facts, Cert.AttnIdeal.Gen.facts, Cert.AttnRefIdeal.Gen.facts,
    frame_kernel, frame_kernelIdeal, frame_referenceIdeal, frame_reference, frame_experts, frame_expertsIdeal, frame_expertsRefIdeal,
    frame_ffn, frame_ffnIdeal, frame_ffnRefIdeal,
    frame_qkv, frame_qkvIdeal, frame_qkvRefIdeal,
    frame_oddOut, frame_oddOutIdeal, frame_oddOutRefIdeal,
    frame_evenOut, frame_evenOutIdeal, frame_evenOutRefIdeal,
    frame_evenIn, frame_evenInIdeal, frame_evenInRefIdeal,
    frame_attn, frame_attnIdeal, frame_attnRefIdeal,
    trivial, algebraic_gather, bitexact_gather, trivial, algebraic_experts, trivial, algebraic_ffn,
    trivial, algebraic_qkv, trivial, algebraic_oddOut, trivial, algebraic_evenOut, trivial, algebraic_evenIn, preserves_attn, algebraic_attn⟩

end Cert.Proof

end
